-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores_KernelIdeal [hPre_real_scores_KernelIdeal : Cert.Pre_real_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_real_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_real_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores_ReferenceIdeal [hPre_real_scores_ReferenceIdeal : Cert.Pre_real_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_real_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_real_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_real_scores_KernelIdeal [hKernelIdeal : Cert.KernelIdeal.Facts] [hPre_real_scores_KernelIdeal : Cert.Pre_real_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_real_scores_ReferenceIdeal [hReferenceIdeal : Cert.ReferenceIdeal.Facts] [hPre_real_scores_ReferenceIdeal : Cert.Pre_real_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_real_scores_KernelIdeal [hKernelIdeal : Cert.KernelIdeal.Facts] [hReferenceIdeal : Cert.ReferenceIdeal.Facts] [hPre_real_scores_KernelIdeal : Cert.Pre_real_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_real_scores_KernelIdeal : Cert.Pre_real_scores_KernelIdeal.Facts) (hPre_real_scores_ReferenceIdeal : Cert.Pre_real_scores_ReferenceIdeal.Facts),
    quiescent_Kernel (hKernel := hKernel)
    ∧ quiescent_KernelIdeal (hKernelIdeal := hKernelIdeal)
    ∧ quiescent_KernelIdeal_pre_real_scores_KernelIdeal (hKernelIdeal := hKernelIdeal) (hPre_real_scores_KernelIdeal := hPre_real_scores_KernelIdeal)
    ∧ quiescent_ReferenceIdeal (hReferenceIdeal := hReferenceIdeal)
    ∧ quiescent_ReferenceIdeal_pre_real_scores_ReferenceIdeal (hReferenceIdeal := hReferenceIdeal) (hPre_real_scores_ReferenceIdeal := hPre_real_scores_ReferenceIdeal)
    ∧ preserves_Kernel_KernelIdeal
    ∧ algebraic_KernelIdeal_ReferenceIdeal_pre_real_scores_KernelIdeal (hKernelIdeal := hKernelIdeal) (hReferenceIdeal := hReferenceIdeal) (hPre_real_scores_KernelIdeal := hPre_real_scores_KernelIdeal)
-- ==== Pre_real_scores_KernelIdeal.lean ====
abbrev S2x512x768 : Shape := ⟨3, ![2, 512, 768]⟩
abbrev S768x512 : Shape := ⟨2, ![768, 512]⟩
abbrev S2x512x128x64 : Shape := ⟨4, ![2, 512, 128, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x128x64 : S_.BroadcastsInDim S2x512x128x64 (![] : Fin 0 → Fin S2x512x128x64.rank)

variable [Facts]

def fn {F : FTy → Type} [FloatOps F] (main_arg0 : FVec F S2x512x768 .bf16) (main_arg1 : FVec F S768x512 .bf16) (main_arg2 : FVec F S2x512x128x64 .bf16) (main_arg3 : FVec F S2x512x128x64 .bf16) (main_arg4 : FVec F S512x768 .bf16) : IVec S2x512x768 1 × IVec S768x512 1 × IVec S2x512x128x64 1 :=
  let main_cst : FVec F S_ .bf16 := constant S_ .bf16 0x7F80#16
  let main_v0 : FVec F S2x512x768 .bf16 := broadcastInDim S2x512x768 ![] bcast_S_S2x512x768 main_cst
  let main_v1 : IVec S2x512x768 1 := cmpf .olt main_arg0 main_v0
  let main_cst_0 : FVec F S_ .bf16 := constant S_ .bf16 0xFF80#16
  let main_v2 : FVec F S2x512x768 .bf16 := broadcastInDim S2x512x768 ![] bcast_S_S2x512x768 main_cst_0
  let main_v3 : IVec S2x512x768 1 := cmpf .ogt main_arg0 main_v2
  let main_v4 : IVec S2x512x768 1 := andi main_v1 main_v3
  let main_cst_1 : FVec F S_ .bf16 := constant S_ .bf16 0x7F80#16
  let main_v5 : FVec F S768x512 .bf16 := broadcastInDim S768x512 ![] bcast_S_S768x512 main_cst_1
  let main_v6 : IVec S768x512 1 := cmpf .olt main_arg1 main_v5
  let main_cst_2 : FVec F S_ .bf16 := constant S_ .bf16 0xFF80#16
  let main_v7 : FVec F S768x512 .bf16 := broadcastInDim S768x512 ![] bcast_S_S768x512 main_cst_2
  let main_v8 : IVec S768x512 1 := cmpf .ogt main_arg1 main_v7
  let main_v9 : IVec S768x512 1 := andi main_v6 main_v8
  let main_cst_3 : FVec F S_ .bf16 := constant S_ .bf16 0x7F80#16
  let main_v10 : FVec F S2x512x128x64 .bf16 := broadcastInDim S2x512x128x64 ![] bcast_S_S2x512x128x64 main_cst_3
  let main_v11 : IVec S2x512x128x64 1 := cmpf .olt main_arg2 main_v10
  let main_cst_4 : FVec F S_ .bf16 := constant S_ .bf16 0xFF80#16
  let main_v12 : FVec F S2x512x128x64 .bf16 := broadcastInDim S2x512x128x64 ![] bcast_S_S2x512x128x64 main_cst_4
  let main_v13 : IVec S2x512x128x64 1 := cmpf .ogt main_arg2 main_v12
  let main_v14 : IVec S2x512x128x64 1 := andi main_v11 main_v13
  (main_v4, main_v9, main_v14)
-- ==== Pre_real_scores_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  bcast_S_S768x8192 : S_.BroadcastsInDim S768x8192 (![] : Fin 0 → Fin S768x8192.rank)
  bcast_S_S2x512x128x64 : S_.BroadcastsInDim S2x512x128x64 (![] : Fin 0 → Fin S2x512x128x64.rank)

variable [Facts]

def fn {F : FTy → Type} [FloatOps F] (main_arg0 : FVec F S2x512x768 .bf16) (main_arg1 : FVec F S768x8192 .bf16) (main_arg2 : FVec F S2x512x128x64 .bf16) (main_arg3 : FVec F S2x512x128x64 .bf16) (main_arg4 : FVec F S8192x768 .bf16) : IVec S2x512x768 1 × IVec S768x8192 1 × IVec S2x512x128x64 1 :=
  let main_cst : FVec F S_ .bf16 := constant S_ .bf16 0x7F80#16
  let main_v0 : FVec F S2x512x768 .bf16 := broadcastInDim S2x512x768 ![] bcast_S_S2x512x768 main_cst
  let main_v1 : IVec S2x512x768 1 := cmpf .olt main_arg0 main_v0
  let main_cst_0 : FVec F S_ .bf16 := constant S_ .bf16 0xFF80#16
  let main_v2 : FVec F S2x512x768 .bf16 := broadcastInDim S2x512x768 ![] bcast_S_S2x512x768 main_cst_0
  let main_v3 : IVec S2x512x768 1 := cmpf .ogt main_arg0 main_v2
  let main_v4 : IVec S2x512x768 1 := andi main_v1 main_v3
  let main_cst_1 : FVec F S_ .bf16 := constant S_ .bf16 0x7F80#16
  let main_v5 : FVec F S768x8192 .bf16 := broadcastInDim S768x8192 ![] bcast_S_S768x8192 main_cst_1
  let main_v6 : IVec S768x8192 1 := cmpf .olt main_arg1 main_v5
  let main_cst_2 : FVec F S_ .bf16 := constant S_ .bf16 0xFF80#16
  let main_v7 : FVec F S768x8192 .bf16 := broadcastInDim S768x8192 ![] bcast_S_S768x8192 main_cst_2
  let main_v8 : IVec S768x8192 1 := cmpf .ogt main_arg1 main_v7
  let main_v9 : IVec S768x8192 1 := andi main_v6 main_v8
  let main_cst_3 : FVec F S_ .bf16 := constant S_ .bf16 0x7F80#16
  let main_v10 : FVec F S2x512x128x64 .bf16 := broadcastInDim S2x512x128x64 ![] bcast_S_S2x512x128x64 main_cst_3
  let main_v11 : IVec S2x512x128x64 1 := cmpf .olt main_arg2 main_v10
  let main_cst_4 : FVec F S_ .bf16 := constant S_ .bf16 0xFF80#16
  let main_v12 : FVec F S2x512x128x64 .bf16 := broadcastInDim S2x512x128x64 ![] bcast_S_S2x512x128x64 main_cst_4
  let main_v13 : IVec S2x512x128x64 1 := cmpf .ogt main_arg2 main_v12
  let main_v14 : IVec S2x512x128x64 1 := andi main_v11 main_v13
  (main_v4, main_v9, main_v14)
-- ==== Kernel.lean ====
abbrev S2x512x768 : Shape := ⟨3, ![2, 512, 768]⟩
abbrev S768x512 : Shape := ⟨2, ![768, 512]⟩
abbrev S2x512x128x64 : Shape := ⟨4, ![2, 512, 128, 64]⟩
abbrev S512x768 : Shape := ⟨2, ![512, 768]⟩
abbrev S_ : Shape := ⟨0, ![]⟩
abbrev S2x512x8x64 : Shape := ⟨4, ![2, 512, 8, 64]⟩
abbrev S2x8x512x64 : Shape := ⟨4, ![2, 8, 512, 64]⟩
abbrev S1024x768 : Shape := ⟨2, ![1024, 768]⟩
abbrev S2x512x512 : Shape := ⟨3, ![2, 512, 512]⟩
abbrev S15x64x768 : Shape := ⟨3, ![15, 64, 768]⟩
abbrev S64x768 : Shape := ⟨2, ![64, 768]⟩
abbrev S15 : Shape := ⟨1, ![15]⟩
abbrev S512x512 : Shape := ⟨2, ![512, 512]⟩
abbrev S1x512x768 : Shape := ⟨3, ![1, 512, 768]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩
abbrev S1x512x64 : Shape := ⟨3, ![1, 512, 64]⟩
abbrev S1x512x512 : Shape := ⟨3, ![1, 512, 512]⟩
abbrev S1 : Shape := ⟨1, ![1]⟩
abbrev S1x64x768 : Shape := ⟨3, ![1, 64, 768]⟩

abbrev nBuf : Space → Nat
  | .hbm => 36
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x128x64, .bf16⟩
  | .hbm, ⟨3, _⟩ => ⟨S2x512x128x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .bf16⟩
  | .hbm, ⟨33, _⟩ => ⟨S2x8x512x64, .bf16⟩
  | .hbm, ⟨34, _⟩ => ⟨S2x8x512x64, .bf16⟩
  | .hbm, ⟨35, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x8x512x64, .bf16⟩
  | .local _ .vmem, ⟨3, _⟩ => ⟨S2x8x512x64, .bf16⟩
  | .local _ .vmem, ⟨4, _⟩ => ⟨S512x768, .bf16⟩
  | .local _ .vmem, ⟨5, _⟩ => ⟨S2x512x768, .f32⟩
  | .local _ .vmem, ⟨6, _⟩ => ⟨S1024x768, .bf16⟩
  | .local _ .vmem, ⟨7, _⟩ => ⟨S2x512x512, .bf16⟩
  | .local _ .vmem, ⟨8, _⟩ => ⟨S15x64x768, .bf16⟩
  | .local _ .vmem, ⟨9, _⟩ => ⟨S64x768, .bf16⟩
  | .local _ .vmem, ⟨10, _⟩ => ⟨S1024x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c8_i32_251 : BitVec 32 := 8#32
  let v370 : BitVec 1 := Scalar.cmpi .slt v65 c8_i32_251
  let v371 : BitVec 32 := Scalar.extui v370
  let c0_i32_255 : BitVec 32 := 0#32
  let v372 : BitVec 1 := Scalar.cmpi .ne v371 c0_i32_255
  v372

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c64_i32 : BitVec 32 := 64#32
  let v66 : BitVec 32 := Scalar.muli v65 c64_i32
  let c0_i32_1059 : BitVec 32 := 0#32
  ![v66.toNat, 0]
def k0_dev16 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_1055 : BitVec 32 := 1#32
  let v1139 : BitVec 32 := Scalar.muli v65 c1_i32_1055
  let v1140 : BitVec 32 := Scalar.addi c0_i32_1056 v1139
  v1140.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_63 : BitVec 32 := 2#32
  let v67 : BitVec 32 := Scalar.addi v2 c2_i32_63
  let c16_i32_64 : BitVec 32 := 16#32
  let v68 : BitVec 32 := Scalar.remsi v67 c16_i32_64
  let c8_i32_256 : BitVec 32 := 8#32
  let v373 : BitVec 1 := Scalar.cmpi .slt v68 c8_i32_256
  let v374 : BitVec 32 := Scalar.extui v373
  let c0_i32_260 : BitVec 32 := 0#32
  let v375 : BitVec 1 := Scalar.cmpi .ne v374 c0_i32_260
  v375

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_63 : BitVec 32 := 2#32
  let v67 : BitVec 32 := Scalar.addi v2 c2_i32_63
  let c16_i32_64 : BitVec 32 := 16#32
  let v68 : BitVec 32 := Scalar.remsi v67 c16_i32_64
  let c64_i32_65 : BitVec 32 := 64#32
  let v69 : BitVec 32 := Scalar.muli v68 c64_i32_65
  let c0_i32_1059 : BitVec 32 := 0#32
  ![v69.toNat, 0]
def k0_dev17 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_63 : BitVec 32 := 2#32
  let v67 : BitVec 32 := Scalar.addi v2 c2_i32_63
  let c16_i32_64 : BitVec 32 := 16#32
  let v68 : BitVec 32 := Scalar.remsi v67 c16_i32_64
  let c1_i32_1055 : BitVec 32 := 1#32
  let v1139 : BitVec 32 := Scalar.muli v68 c1_i32_1055
  let v1140 : BitVec 32 := Scalar.addi c0_i32_1056 v1139
  v1140.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v70 : BitVec 32 := Scalar.addi v2 c3_i32_66
  let c16_i32_67 : BitVec 32 := 16#32
  let v71 : BitVec 32 := Scalar.remsi v70 c16_i32_67
  let c8_i32_261 : BitVec 32 := 8#32
  let v376 : BitVec 1 := Scalar.cmpi .slt v71 c8_i32_261
  let v377 : BitVec 32 := Scalar.extui v376
  let c0_i32_265 : BitVec 32 := 0#32
  let v378 : BitVec 1 := Scalar.cmpi .ne v377 c0_i32_265
  v378

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v70 : BitVec 32 := Scalar.addi v2 c3_i32_66
  let c16_i32_67 : BitVec 32 := 16#32
  let v71 : BitVec 32 := Scalar.remsi v70 c16_i32_67
  let c64_i32_68 : BitVec 32 := 64#32
  let v72 : BitVec 32 := Scalar.muli v71 c64_i32_68
  let c0_i32_1059 : BitVec 32 := 0#32
  ![v72.toNat, 0]
def k0_dev18 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v70 : BitVec 32 := Scalar.addi v2 c3_i32_66
  let c16_i32_67 : BitVec 32 := 16#32
  let v71 : BitVec 32 := Scalar.remsi v70 c16_i32_67
  let c1_i32_1055 : BitVec 32 := 1#32
  let v1139 : BitVec 32 := Scalar.muli v71 c1_i32_1055
  let v1140 : BitVec 32 := Scalar.addi c0_i32_1056 v1139
  v1140.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v73 : BitVec 32 := Scalar.addi v2 c4_i32_69
  let c16_i32_70 : BitVec 32 := 16#32
  let v74 : BitVec 32 := Scalar.remsi v73 c16_i32_70
  let c8_i32_266 : BitVec 32 := 8#32
  let v379 : BitVec 1 := Scalar.cmpi .slt v74 c8_i32_266
  let v380 : BitVec 32 := Scalar.extui v379
  let c0_i32_270 : BitVec 32 := 0#32
  let v381 : BitVec 1 := Scalar.cmpi .ne v380 c0_i32_270
  v381

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v73 : BitVec 32 := Scalar.addi v2 c4_i32_69
  let c16_i32_70 : BitVec 32 := 16#32
  let v74 : BitVec 32 := Scalar.remsi v73 c16_i32_70
  let c64_i32_71 : BitVec 32 := 64#32
  let v75 : BitVec 32 := Scalar.muli v74 c64_i32_71
  let c0_i32_1059 : BitVec 32 := 0#32
  ![v75.toNat, 0]
def k0_dev19 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v73 : BitVec 32 := Scalar.addi v2 c4_i32_69
  let c16_i32_70 : BitVec 32 := 16#32
  let v74 : BitVec 32 := Scalar.remsi v73 c16_i32_70
  let c1_i32_1055 : BitVec 32 := 1#32
  let v1139 : BitVec 32 := Scalar.muli v74 c1_i32_1055
  let v1140 : BitVec 32 := Scalar.addi c0_i32_1056 v1139
  v1140.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_72 : BitVec 32 := 5#32
  let v76 : BitVec 32 := Scalar.addi v2 c5_i32_72
  let c16_i32_73 : BitVec 32 := 16#32
  let v77 : BitVec 32 := Scalar.remsi v76 c16_i32_73
  let c8_i32_271 : BitVec 32 := 8#32
  let v382 : BitVec 1 := Scalar.cmpi .slt v77 c8_i32_271
  let v383 : BitVec 32 := Scalar.extui v382
  let c0_i32_275 : BitVec 32 := 0#32
  let v384 : BitVec 1 := Scalar.cmpi .ne v383 c0_i32_275
  v384

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_72 : BitVec 32 := 5#32
  let v76 : BitVec 32 := Scalar.addi v2 c5_i32_72
  let c16_i32_73 : BitVec 32 := 16#32
  let v77 : BitVec 32 := Scalar.remsi v76 c16_i32_73
  let c64_i32_74 : BitVec 32 := 64#32
  let v78 : BitVec 32 := Scalar.muli v77 c64_i32_74
  let c0_i32_1059 : BitVec 32 := 0#32
  ![v78.toNat, 0]
def k0_dev20 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_72 : BitVec 32 := 5#32
  let v76 : BitVec 32 := Scalar.addi v2 c5_i32_72
  let c16_i32_73 : BitVec 32 := 16#32
  let v77 : BitVec 32 := Scalar.remsi v76 c16_i32_73
  let c1_i32_1055 : BitVec 32 := 1#32
  let v1139 : BitVec 32 := Scalar.muli v77 c1_i32_1055
  let v1140 : BitVec 32 := Scalar.addi c0_i32_1056 v1139
  v1140.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_75 : BitVec 32 := 6#32
  let v79 : BitVec 32 := Scalar.addi v2 c6_i32_75
  let c16_i32_76 : BitVec 32 := 16#32
  let v80 : BitVec 32 := Scalar.remsi v79 c16_i32_76
  let c8_i32_276 : BitVec 32 := 8#32
  let v385 : BitVec 1 := Scalar.cmpi .slt v80 c8_i32_276
  let v386 : BitVec 32 := Scalar.extui v385
  let c0_i32_280 : BitVec 32 := 0#32
  let v387 : BitVec 1 := Scalar.cmpi .ne v386 c0_i32_280
  v387

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_75 : BitVec 32 := 6#32
  let v79 : BitVec 32 := Scalar.addi v2 c6_i32_75
  let c16_i32_76 : BitVec 32 := 16#32
  let v80 : BitVec 32 := Scalar.remsi v79 c16_i32_76
  let c64_i32_77 : BitVec 32 := 64#32
  let v81 : BitVec 32 := Scalar.muli v80 c64_i32_77
  let c0_i32_1059 : BitVec 32 := 0#32
  ![v81.toNat, 0]
def k0_dev21 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_75 : BitVec 32 := 6#32
  let v79 : BitVec 32 := Scalar.addi v2 c6_i32_75
  let c16_i32_76 : BitVec 32 := 16#32
  let v80 : BitVec 32 := Scalar.remsi v79 c16_i32_76
  let c1_i32_1055 : BitVec 32 := 1#32
  let v1139 : BitVec 32 := Scalar.muli v80 c1_i32_1055
  let v1140 : BitVec 32 := Scalar.addi c0_i32_1056 v1139
  v1140.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v82 : BitVec 32 := Scalar.addi v2 c7_i32_78
  let c16_i32_79 : BitVec 32 := 16#32
  let v83 : BitVec 32 := Scalar.remsi v82 c16_i32_79
  let c8_i32_281 : BitVec 32 := 8#32
  let v388 : BitVec 1 := Scalar.cmpi .slt v83 c8_i32_281
  let v389 : BitVec 32 := Scalar.extui v388
  let c0_i32_285 : BitVec 32 := 0#32
  let v390 : BitVec 1 := Scalar.cmpi .ne v389 c0_i32_285
  v390

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v82 : BitVec 32 := Scalar.addi v2 c7_i32_78
  let c16_i32_79 : BitVec 32 := 16#32
  let v83 : BitVec 32 := Scalar.remsi v82 c16_i32_79
  let c64_i32_80 : BitVec 32 := 64#32
  let v84 : BitVec 32 := Scalar.muli v83 c64_i32_80
  let c0_i32_1059 : BitVec 32 := 0#32
  ![v84.toNat, 0]
def k0_dev22 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v82 : BitVec 32 := Scalar.addi v2 c7_i32_78
  let c16_i32_79 : BitVec 32 := 16#32
  let v83 : BitVec 32 := Scalar.remsi v82 c16_i32_79
  let c1_i32_1055 : BitVec 32 := 1#32
  let v1139 : BitVec 32 := Scalar.muli v83 c1_i32_1055
  let v1140 : BitVec 32 := Scalar.addi c0_i32_1056 v1139
  v1140.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v85 : BitVec 32 := Scalar.addi v2 c8_i32_81
  let c16_i32_82 : BitVec 32 := 16#32
  let v86 : BitVec 32 := Scalar.remsi v85 c16_i32_82
  let c8_i32_286 : BitVec 32 := 8#32
  let v391 : BitVec 1 := Scalar.cmpi .slt v86 c8_i32_286
  let v392 : BitVec 32 := Scalar.extui v391
  let c0_i32_290 : BitVec 32 := 0#32
  let v393 : BitVec 1 := Scalar.cmpi .ne v392 c0_i32_290
  v393

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v85 : BitVec 32 := Scalar.addi v2 c8_i32_81
  let c16_i32_82 : BitVec 32 := 16#32
  let v86 : BitVec 32 := Scalar.remsi v85 c16_i32_82
  let c64_i32_83 : BitVec 32 := 64#32
  let v87 : BitVec 32 := Scalar.muli v86 c64_i32_83
  let c0_i32_1059 : BitVec 32 := 0#32
  ![v87.toNat, 0]
def k0_dev23 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v85 : BitVec 32 := Scalar.addi v2 c8_i32_81
  let c16_i32_82 : BitVec 32 := 16#32
  let v86 : BitVec 32 := Scalar.remsi v85 c16_i32_82
  let c1_i32_1055 : BitVec 32 := 1#32
  let v1139 : BitVec 32 := Scalar.muli v86 c1_i32_1055
  let v1140 : BitVec 32 := Scalar.addi c0_i32_1056 v1139
  v1140.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_84 : BitVec 32 := 9#32
  let v88 : BitVec 32 := Scalar.addi v2 c9_i32_84
  let c16_i32_85 : BitVec 32 := 16#32
  let v89 : BitVec 32 := Scalar.remsi v88 c16_i32_85
  let c8_i32_291 : BitVec 32 := 8#32
  let v394 : BitVec 1 := Scalar.cmpi .slt v89 c8_i32_291
  let v395 : BitVec 32 := Scalar.extui v394
  let c0_i32_295 : BitVec 32 := 0#32
  let v396 : BitVec 1 := Scalar.cmpi .ne v395 c0_i32_295
  v396

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_84 : BitVec 32 := 9#32
  let v88 : BitVec 32 := Scalar.addi v2 c9_i32_84
  let c16_i32_85 : BitVec 32 := 16#32
  let v89 : BitVec 32 := Scalar.remsi v88 c16_i32_85
  let c64_i32_86 : BitVec 32 := 64#32
  let v90 : BitVec 32 := Scalar.muli v89 c64_i32_86
  let c0_i32_1059 : BitVec 32 := 0#32
  ![v90.toNat, 0]
def k0_dev24 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_84 : BitVec 32 := 9#32
  let v88 : BitVec 32 := Scalar.addi v2 c9_i32_84
  let c16_i32_85 : BitVec 32 := 16#32
  let v89 : BitVec 32 := Scalar.remsi v88 c16_i32_85
  let c1_i32_1055 : BitVec 32 := 1#32
  let v1139 : BitVec 32 := Scalar.muli v89 c1_i32_1055
  let v1140 : BitVec 32 := Scalar.addi c0_i32_1056 v1139
  v1140.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_87 : BitVec 32 := 10#32
  let v91 : BitVec 32 := Scalar.addi v2 c10_i32_87
  let c16_i32_88 : BitVec 32 := 16#32
  let v92 : BitVec 32 := Scalar.remsi v91 c16_i32_88
  let c8_i32_296 : BitVec 32 := 8#32
  let v397 : BitVec 1 := Scalar.cmpi .slt v92 c8_i32_296
  let v398 : BitVec 32 := Scalar.extui v397
  let c0_i32_300 : BitVec 32 := 0#32
  let v399 : BitVec 1 := Scalar.cmpi .ne v398 c0_i32_300
  v399

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_87 : BitVec 32 := 10#32
  let v91 : BitVec 32 := Scalar.addi v2 c10_i32_87
  let c16_i32_88 : BitVec 32 := 16#32
  let v92 : BitVec 32 := Scalar.remsi v91 c16_i32_88
  let c64_i32_89 : BitVec 32 := 64#32
  let v93 : BitVec 32 := Scalar.muli v92 c64_i32_89
  let c0_i32_1059 : BitVec 32 := 0#32
  ![v93.toNat, 0]
def k0_dev25 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_87 : BitVec 32 := 10#32
  let v91 : BitVec 32 := Scalar.addi v2 c10_i32_87
  let c16_i32_88 : BitVec 32 := 16#32
  let v92 : BitVec 32 := Scalar.remsi v91 c16_i32_88
  let c1_i32_1055 : BitVec 32 := 1#32
  let v1139 : BitVec 32 := Scalar.muli v92 c1_i32_1055
  let v1140 : BitVec 32 := Scalar.addi c0_i32_1056 v1139
  v1140.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_90 : BitVec 32 := 11#32
  let v94 : BitVec 32 := Scalar.addi v2 c11_i32_90
  let c16_i32_91 : BitVec 32 := 16#32
  let v95 : BitVec 32 := Scalar.remsi v94 c16_i32_91
  let c8_i32_301 : BitVec 32 := 8#32
  let v400 : BitVec 1 := Scalar.cmpi .slt v95 c8_i32_301
  let v401 : BitVec 32 := Scalar.extui v400
  let c0_i32_305 : BitVec 32 := 0#32
  let v402 : BitVec 1 := Scalar.cmpi .ne v401 c0_i32_305
  v402

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_90 : BitVec 32 := 11#32
  let v94 : BitVec 32 := Scalar.addi v2 c11_i32_90
  let c16_i32_91 : BitVec 32 := 16#32
  let v95 : BitVec 32 := Scalar.remsi v94 c16_i32_91
  let c64_i32_92 : BitVec 32 := 64#32
  let v96 : BitVec 32 := Scalar.muli v95 c64_i32_92
  let c0_i32_1059 : BitVec 32 := 0#32
  ![v96.toNat, 0]
def k0_dev26 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_90 : BitVec 32 := 11#32
  let v94 : BitVec 32 := Scalar.addi v2 c11_i32_90
  let c16_i32_91 : BitVec 32 := 16#32
  let v95 : BitVec 32 := Scalar.remsi v94 c16_i32_91
  let c1_i32_1055 : BitVec 32 := 1#32
  let v1139 : BitVec 32 := Scalar.muli v95 c1_i32_1055
  let v1140 : BitVec 32 := Scalar.addi c0_i32_1056 v1139
  v1140.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v97 : BitVec 32 := Scalar.addi v2 c12_i32_93
  let c16_i32_94 : BitVec 32 := 16#32
  let v98 : BitVec 32 := Scalar.remsi v97 c16_i32_94
  let c8_i32_306 : BitVec 32 := 8#32
  let v403 : BitVec 1 := Scalar.cmpi .slt v98 c8_i32_306
  let v404 : BitVec 32 := Scalar.extui v403
  let c0_i32_310 : BitVec 32 := 0#32
  let v405 : BitVec 1 := Scalar.cmpi .ne v404 c0_i32_310
  v405

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v97 : BitVec 32 := Scalar.addi v2 c12_i32_93
  let c16_i32_94 : BitVec 32 := 16#32
  let v98 : BitVec 32 := Scalar.remsi v97 c16_i32_94
  let c64_i32_95 : BitVec 32 := 64#32
  let v99 : BitVec 32 := Scalar.muli v98 c64_i32_95
  let c0_i32_1059 : BitVec 32 := 0#32
  ![v99.toNat, 0]
def k0_dev27 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v97 : BitVec 32 := Scalar.addi v2 c12_i32_93
  let c16_i32_94 : BitVec 32 := 16#32
  let v98 : BitVec 32 := Scalar.remsi v97 c16_i32_94
  let c1_i32_1055 : BitVec 32 := 1#32
  let v1139 : BitVec 32 := Scalar.muli v98 c1_i32_1055
  let v1140 : BitVec 32 := Scalar.addi c0_i32_1056 v1139
  v1140.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_96 : BitVec 32 := 13#32
  let v100 : BitVec 32 := Scalar.addi v2 c13_i32_96
  let c16_i32_97 : BitVec 32 := 16#32
  let v101 : BitVec 32 := Scalar.remsi v100 c16_i32_97
  let c8_i32_311 : BitVec 32 := 8#32
  let v406 : BitVec 1 := Scalar.cmpi .slt v101 c8_i32_311
  let v407 : BitVec 32 := Scalar.extui v406
  let c0_i32_315 : BitVec 32 := 0#32
  let v408 : BitVec 1 := Scalar.cmpi .ne v407 c0_i32_315
  v408

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_96 : BitVec 32 := 13#32
  let v100 : BitVec 32 := Scalar.addi v2 c13_i32_96
  let c16_i32_97 : BitVec 32 := 16#32
  let v101 : BitVec 32 := Scalar.remsi v100 c16_i32_97
  let c64_i32_98 : BitVec 32 := 64#32
  let v102 : BitVec 32 := Scalar.muli v101 c64_i32_98
  let c0_i32_1059 : BitVec 32 := 0#32
  ![v102.toNat, 0]
def k0_dev28 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_96 : BitVec 32 := 13#32
  let v100 : BitVec 32 := Scalar.addi v2 c13_i32_96
  let c16_i32_97 : BitVec 32 := 16#32
  let v101 : BitVec 32 := Scalar.remsi v100 c16_i32_97
  let c1_i32_1055 : BitVec 32 := 1#32
  let v1139 : BitVec 32 := Scalar.muli v101 c1_i32_1055
  let v1140 : BitVec 32 := Scalar.addi c0_i32_1056 v1139
  v1140.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_99 : BitVec 32 := 14#32
  let v103 : BitVec 32 := Scalar.addi v2 c14_i32_99
  let c16_i32_100 : BitVec 32 := 16#32
  let v104 : BitVec 32 := Scalar.remsi v103 c16_i32_100
  let c8_i32_316 : BitVec 32 := 8#32
  let v409 : BitVec 1 := Scalar.cmpi .slt v104 c8_i32_316
  let v410 : BitVec 32 := Scalar.extui v409
  let c0_i32_320 : BitVec 32 := 0#32
  let v411 : BitVec 1 := Scalar.cmpi .ne v410 c0_i32_320
  v411

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_99 : BitVec 32 := 14#32
  let v103 : BitVec 32 := Scalar.addi v2 c14_i32_99
  let c16_i32_100 : BitVec 32 := 16#32
  let v104 : BitVec 32 := Scalar.remsi v103 c16_i32_100
  let c64_i32_101 : BitVec 32 := 64#32
  let v105 : BitVec 32 := Scalar.muli v104 c64_i32_101
  let c0_i32_1059 : BitVec 32 := 0#32
  ![v105.toNat, 0]
def k0_dev29 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_99 : BitVec 32 := 14#32
  let v103 : BitVec 32 := Scalar.addi v2 c14_i32_99
  let c16_i32_100 : BitVec 32 := 16#32
  let v104 : BitVec 32 := Scalar.remsi v103 c16_i32_100
  let c1_i32_1055 : BitVec 32 := 1#32
  let v1139 : BitVec 32 := Scalar.muli v104 c1_i32_1055
  let v1140 : BitVec 32 := Scalar.addi c0_i32_1056 v1139
  v1140.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v106 : BitVec 32 := Scalar.addi v2 c15_i32_102
  let c16_i32_103 : BitVec 32 := 16#32
  let v107 : BitVec 32 := Scalar.remsi v106 c16_i32_103
  let c8_i32_321 : BitVec 32 := 8#32
  let v412 : BitVec 1 := Scalar.cmpi .slt v107 c8_i32_321
  let v413 : BitVec 32 := Scalar.extui v412
  let c0_i32_325 : BitVec 32 := 0#32
  let v414 : BitVec 1 := Scalar.cmpi .ne v413 c0_i32_325
  v414

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v106 : BitVec 32 := Scalar.addi v2 c15_i32_102
  let c16_i32_103 : BitVec 32 := 16#32
  let v107 : BitVec 32 := Scalar.remsi v106 c16_i32_103
  let c64_i32_104 : BitVec 32 := 64#32
  let v108 : BitVec 32 := Scalar.muli v107 c64_i32_104
  let c0_i32_1059 : BitVec 32 := 0#32
  ![v108.toNat, 0]
def k0_dev30 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v106 : BitVec 32 := Scalar.addi v2 c15_i32_102
  let c16_i32_103 : BitVec 32 := 16#32
  let v107 : BitVec 32 := Scalar.remsi v106 c16_i32_103
  let c1_i32_1055 : BitVec 32 := 1#32
  let v1139 : BitVec 32 := Scalar.muli v107 c1_i32_1055
  let v1140 : BitVec 32 := Scalar.addi c0_i32_1056 v1139
  v1140.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c8_i32_459 : BitVec 32 := 8#32
  let v590 : BitVec 1 := Scalar.cmpi .sge v65 c8_i32_459
  let v591 : BitVec 32 := Scalar.extui v590
  let c0_i32_463 : BitVec 32 := 0#32
  let v592 : BitVec 1 := Scalar.cmpi .ne v591 c0_i32_463
  v592

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c64_i32 : BitVec 32 := 64#32
  let v66 : BitVec 32 := Scalar.muli v65 c64_i32
  let c0_i32_1059 : BitVec 32 := 0#32
  ![v66.toNat, 0]
def k0_dev31 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_1055 : BitVec 32 := 1#32
  let v1139 : BitVec 32 := Scalar.muli v65 c1_i32_1055
  let v1140 : BitVec 32 := Scalar.addi c0_i32_1056 v1139
  v1140.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_63 : BitVec 32 := 2#32
  let v67 : BitVec 32 := Scalar.addi v2 c2_i32_63
  let c16_i32_64 : BitVec 32 := 16#32
  let v68 : BitVec 32 := Scalar.remsi v67 c16_i32_64
  let c8_i32_464 : BitVec 32 := 8#32
  let v593 : BitVec 1 := Scalar.cmpi .sge v68 c8_i32_464
  let v594 : BitVec 32 := Scalar.extui v593
  let c0_i32_468 : BitVec 32 := 0#32
  let v595 : BitVec 1 := Scalar.cmpi .ne v594 c0_i32_468
  v595

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_63 : BitVec 32 := 2#32
  let v67 : BitVec 32 := Scalar.addi v2 c2_i32_63
  let c16_i32_64 : BitVec 32 := 16#32
  let v68 : BitVec 32 := Scalar.remsi v67 c16_i32_64
  let c64_i32_65 : BitVec 32 := 64#32
  let v69 : BitVec 32 := Scalar.muli v68 c64_i32_65
  let c0_i32_1059 : BitVec 32 := 0#32
  ![v69.toNat, 0]
def k0_dev32 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_63 : BitVec 32 := 2#32
  let v67 : BitVec 32 := Scalar.addi v2 c2_i32_63
  let c16_i32_64 : BitVec 32 := 16#32
  let v68 : BitVec 32 := Scalar.remsi v67 c16_i32_64
  let c1_i32_1055 : BitVec 32 := 1#32
  let v1139 : BitVec 32 := Scalar.muli v68 c1_i32_1055
  let v1140 : BitVec 32 := Scalar.addi c0_i32_1056 v1139
  v1140.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v70 : BitVec 32 := Scalar.addi v2 c3_i32_66
  let c16_i32_67 : BitVec 32 := 16#32
  let v71 : BitVec 32 := Scalar.remsi v70 c16_i32_67
  let c8_i32_469 : BitVec 32 := 8#32
  let v596 : BitVec 1 := Scalar.cmpi .sge v71 c8_i32_469
  let v597 : BitVec 32 := Scalar.extui v596
  let c0_i32_473 : BitVec 32 := 0#32
  let v598 : BitVec 1 := Scalar.cmpi .ne v597 c0_i32_473
  v598

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v70 : BitVec 32 := Scalar.addi v2 c3_i32_66
  let c16_i32_67 : BitVec 32 := 16#32
  let v71 : BitVec 32 := Scalar.remsi v70 c16_i32_67
  let c64_i32_68 : BitVec 32 := 64#32
  let v72 : BitVec 32 := Scalar.muli v71 c64_i32_68
  let c0_i32_1059 : BitVec 32 := 0#32
  ![v72.toNat, 0]
def k0_dev33 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v70 : BitVec 32 := Scalar.addi v2 c3_i32_66
  let c16_i32_67 : BitVec 32 := 16#32
  let v71 : BitVec 32 := Scalar.remsi v70 c16_i32_67
  let c1_i32_1055 : BitVec 32 := 1#32
  let v1139 : BitVec 32 := Scalar.muli v71 c1_i32_1055
  let v1140 : BitVec 32 := Scalar.addi c0_i32_1056 v1139
  v1140.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v73 : BitVec 32 := Scalar.addi v2 c4_i32_69
  let c16_i32_70 : BitVec 32 := 16#32
  let v74 : BitVec 32 := Scalar.remsi v73 c16_i32_70
  let c8_i32_474 : BitVec 32 := 8#32
  let v599 : BitVec 1 := Scalar.cmpi .sge v74 c8_i32_474
  let v600 : BitVec 32 := Scalar.extui v599
  let c0_i32_478 : BitVec 32 := 0#32
  let v601 : BitVec 1 := Scalar.cmpi .ne v600 c0_i32_478
  v601

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v73 : BitVec 32 := Scalar.addi v2 c4_i32_69
  let c16_i32_70 : BitVec 32 := 16#32
  let v74 : BitVec 32 := Scalar.remsi v73 c16_i32_70
  let c64_i32_71 : BitVec 32 := 64#32
  let v75 : BitVec 32 := Scalar.muli v74 c64_i32_71
  let c0_i32_1059 : BitVec 32 := 0#32
  ![v75.toNat, 0]
def k0_dev34 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v73 : BitVec 32 := Scalar.addi v2 c4_i32_69
  let c16_i32_70 : BitVec 32 := 16#32
  let v74 : BitVec 32 := Scalar.remsi v73 c16_i32_70
  let c1_i32_1055 : BitVec 32 := 1#32
  let v1139 : BitVec 32 := Scalar.muli v74 c1_i32_1055
  let v1140 : BitVec 32 := Scalar.addi c0_i32_1056 v1139
  v1140.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_72 : BitVec 32 := 5#32
  let v76 : BitVec 32 := Scalar.addi v2 c5_i32_72
  let c16_i32_73 : BitVec 32 := 16#32
  let v77 : BitVec 32 := Scalar.remsi v76 c16_i32_73
  let c8_i32_479 : BitVec 32 := 8#32
  let v602 : BitVec 1 := Scalar.cmpi .sge v77 c8_i32_479
  let v603 : BitVec 32 := Scalar.extui v602
  let c0_i32_483 : BitVec 32 := 0#32
  let v604 : BitVec 1 := Scalar.cmpi .ne v603 c0_i32_483
  v604

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_72 : BitVec 32 := 5#32
  let v76 : BitVec 32 := Scalar.addi v2 c5_i32_72
  let c16_i32_73 : BitVec 32 := 16#32
  let v77 : BitVec 32 := Scalar.remsi v76 c16_i32_73
  let c64_i32_74 : BitVec 32 := 64#32
  let v78 : BitVec 32 := Scalar.muli v77 c64_i32_74
  let c0_i32_1059 : BitVec 32 := 0#32
  ![v78.toNat, 0]
def k0_dev35 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_72 : BitVec 32 := 5#32
  let v76 : BitVec 32 := Scalar.addi v2 c5_i32_72
  let c16_i32_73 : BitVec 32 := 16#32
  let v77 : BitVec 32 := Scalar.remsi v76 c16_i32_73
  let c1_i32_1055 : BitVec 32 := 1#32
  let v1139 : BitVec 32 := Scalar.muli v77 c1_i32_1055
  let v1140 : BitVec 32 := Scalar.addi c0_i32_1056 v1139
  v1140.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_75 : BitVec 32 := 6#32
  let v79 : BitVec 32 := Scalar.addi v2 c6_i32_75
  let c16_i32_76 : BitVec 32 := 16#32
  let v80 : BitVec 32 := Scalar.remsi v79 c16_i32_76
  let c8_i32_484 : BitVec 32 := 8#32
  let v605 : BitVec 1 := Scalar.cmpi .sge v80 c8_i32_484
  let v606 : BitVec 32 := Scalar.extui v605
  let c0_i32_488 : BitVec 32 := 0#32
  let v607 : BitVec 1 := Scalar.cmpi .ne v606 c0_i32_488
  v607

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_75 : BitVec 32 := 6#32
  let v79 : BitVec 32 := Scalar.addi v2 c6_i32_75
  let c16_i32_76 : BitVec 32 := 16#32
  let v80 : BitVec 32 := Scalar.remsi v79 c16_i32_76
  let c64_i32_77 : BitVec 32 := 64#32
  let v81 : BitVec 32 := Scalar.muli v80 c64_i32_77
  let c0_i32_1059 : BitVec 32 := 0#32
  ![v81.toNat, 0]
def k0_dev36 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_75 : BitVec 32 := 6#32
  let v79 : BitVec 32 := Scalar.addi v2 c6_i32_75
  let c16_i32_76 : BitVec 32 := 16#32
  let v80 : BitVec 32 := Scalar.remsi v79 c16_i32_76
  let c1_i32_1055 : BitVec 32 := 1#32
  let v1139 : BitVec 32 := Scalar.muli v80 c1_i32_1055
  let v1140 : BitVec 32 := Scalar.addi c0_i32_1056 v1139
  v1140.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v82 : BitVec 32 := Scalar.addi v2 c7_i32_78
  let c16_i32_79 : BitVec 32 := 16#32
  let v83 : BitVec 32 := Scalar.remsi v82 c16_i32_79
  let c8_i32_489 : BitVec 32 := 8#32
  let v608 : BitVec 1 := Scalar.cmpi .sge v83 c8_i32_489
  let v609 : BitVec 32 := Scalar.extui v608
  let c0_i32_493 : BitVec 32 := 0#32
  let v610 : BitVec 1 := Scalar.cmpi .ne v609 c0_i32_493
  v610

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v82 : BitVec 32 := Scalar.addi v2 c7_i32_78
  let c16_i32_79 : BitVec 32 := 16#32
  let v83 : BitVec 32 := Scalar.remsi v82 c16_i32_79
  let c64_i32_80 : BitVec 32 := 64#32
  let v84 : BitVec 32 := Scalar.muli v83 c64_i32_80
  let c0_i32_1059 : BitVec 32 := 0#32
  ![v84.toNat, 0]
def k0_dev37 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v82 : BitVec 32 := Scalar.addi v2 c7_i32_78
  let c16_i32_79 : BitVec 32 := 16#32
  let v83 : BitVec 32 := Scalar.remsi v82 c16_i32_79
  let c1_i32_1055 : BitVec 32 := 1#32
  let v1139 : BitVec 32 := Scalar.muli v83 c1_i32_1055
  let v1140 : BitVec 32 := Scalar.addi c0_i32_1056 v1139
  v1140.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v85 : BitVec 32 := Scalar.addi v2 c8_i32_81
  let c16_i32_82 : BitVec 32 := 16#32
  let v86 : BitVec 32 := Scalar.remsi v85 c16_i32_82
  let c8_i32_494 : BitVec 32 := 8#32
  let v611 : BitVec 1 := Scalar.cmpi .sge v86 c8_i32_494
  let v612 : BitVec 32 := Scalar.extui v611
  let c0_i32_498 : BitVec 32 := 0#32
  let v613 : BitVec 1 := Scalar.cmpi .ne v612 c0_i32_498
  v613

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v85 : BitVec 32 := Scalar.addi v2 c8_i32_81
  let c16_i32_82 : BitVec 32 := 16#32
  let v86 : BitVec 32 := Scalar.remsi v85 c16_i32_82
  let c64_i32_83 : BitVec 32 := 64#32
  let v87 : BitVec 32 := Scalar.muli v86 c64_i32_83
  let c0_i32_1059 : BitVec 32 := 0#32
  ![v87.toNat, 0]
def k0_dev38 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v85 : BitVec 32 := Scalar.addi v2 c8_i32_81
  let c16_i32_82 : BitVec 32 := 16#32
  let v86 : BitVec 32 := Scalar.remsi v85 c16_i32_82
  let c1_i32_1055 : BitVec 32 := 1#32
  let v1139 : BitVec 32 := Scalar.muli v86 c1_i32_1055
  let v1140 : BitVec 32 := Scalar.addi c0_i32_1056 v1139
  v1140.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_84 : BitVec 32 := 9#32
  let v88 : BitVec 32 := Scalar.addi v2 c9_i32_84
  let c16_i32_85 : BitVec 32 := 16#32
  let v89 : BitVec 32 := Scalar.remsi v88 c16_i32_85
  let c8_i32_499 : BitVec 32 := 8#32
  let v614 : BitVec 1 := Scalar.cmpi .sge v89 c8_i32_499
  let v615 : BitVec 32 := Scalar.extui v614
  let c0_i32_503 : BitVec 32 := 0#32
  let v616 : BitVec 1 := Scalar.cmpi .ne v615 c0_i32_503
  v616

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_84 : BitVec 32 := 9#32
  let v88 : BitVec 32 := Scalar.addi v2 c9_i32_84
  let c16_i32_85 : BitVec 32 := 16#32
  let v89 : BitVec 32 := Scalar.remsi v88 c16_i32_85
  let c64_i32_86 : BitVec 32 := 64#32
  let v90 : BitVec 32 := Scalar.muli v89 c64_i32_86
  let c0_i32_1059 : BitVec 32 := 0#32
  ![v90.toNat, 0]
def k0_dev39 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_84 : BitVec 32 := 9#32
  let v88 : BitVec 32 := Scalar.addi v2 c9_i32_84
  let c16_i32_85 : BitVec 32 := 16#32
  let v89 : BitVec 32 := Scalar.remsi v88 c16_i32_85
  let c1_i32_1055 : BitVec 32 := 1#32
  let v1139 : BitVec 32 := Scalar.muli v89 c1_i32_1055
  let v1140 : BitVec 32 := Scalar.addi c0_i32_1056 v1139
  v1140.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_87 : BitVec 32 := 10#32
  let v91 : BitVec 32 := Scalar.addi v2 c10_i32_87
  let c16_i32_88 : BitVec 32 := 16#32
  let v92 : BitVec 32 := Scalar.remsi v91 c16_i32_88
  let c8_i32_504 : BitVec 32 := 8#32
  let v617 : BitVec 1 := Scalar.cmpi .sge v92 c8_i32_504
  let v618 : BitVec 32 := Scalar.extui v617
  let c0_i32_508 : BitVec 32 := 0#32
  let v619 : BitVec 1 := Scalar.cmpi .ne v618 c0_i32_508
  v619

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_87 : BitVec 32 := 10#32
  let v91 : BitVec 32 := Scalar.addi v2 c10_i32_87
  let c16_i32_88 : BitVec 32 := 16#32
  let v92 : BitVec 32 := Scalar.remsi v91 c16_i32_88
  let c64_i32_89 : BitVec 32 := 64#32
  let v93 : BitVec 32 := Scalar.muli v92 c64_i32_89
  let c0_i32_1059 : BitVec 32 := 0#32
  ![v93.toNat, 0]
def k0_dev40 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_87 : BitVec 32 := 10#32
  let v91 : BitVec 32 := Scalar.addi v2 c10_i32_87
  let c16_i32_88 : BitVec 32 := 16#32
  let v92 : BitVec 32 := Scalar.remsi v91 c16_i32_88
  let c1_i32_1055 : BitVec 32 := 1#32
  let v1139 : BitVec 32 := Scalar.muli v92 c1_i32_1055
  let v1140 : BitVec 32 := Scalar.addi c0_i32_1056 v1139
  v1140.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_90 : BitVec 32 := 11#32
  let v94 : BitVec 32 := Scalar.addi v2 c11_i32_90
  let c16_i32_91 : BitVec 32 := 16#32
  let v95 : BitVec 32 := Scalar.remsi v94 c16_i32_91
  let c8_i32_509 : BitVec 32 := 8#32
  let v620 : BitVec 1 := Scalar.cmpi .sge v95 c8_i32_509
  let v621 : BitVec 32 := Scalar.extui v620
  let c0_i32_513 : BitVec 32 := 0#32
  let v622 : BitVec 1 := Scalar.cmpi .ne v621 c0_i32_513
  v622

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_90 : BitVec 32 := 11#32
  let v94 : BitVec 32 := Scalar.addi v2 c11_i32_90
  let c16_i32_91 : BitVec 32 := 16#32
  let v95 : BitVec 32 := Scalar.remsi v94 c16_i32_91
  let c64_i32_92 : BitVec 32 := 64#32
  let v96 : BitVec 32 := Scalar.muli v95 c64_i32_92
  let c0_i32_1059 : BitVec 32 := 0#32
  ![v96.toNat, 0]
def k0_dev41 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_90 : BitVec 32 := 11#32
  let v94 : BitVec 32 := Scalar.addi v2 c11_i32_90
  let c16_i32_91 : BitVec 32 := 16#32
  let v95 : BitVec 32 := Scalar.remsi v94 c16_i32_91
  let c1_i32_1055 : BitVec 32 := 1#32
  let v1139 : BitVec 32 := Scalar.muli v95 c1_i32_1055
  let v1140 : BitVec 32 := Scalar.addi c0_i32_1056 v1139
  v1140.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v97 : BitVec 32 := Scalar.addi v2 c12_i32_93
  let c16_i32_94 : BitVec 32 := 16#32
  let v98 : BitVec 32 := Scalar.remsi v97 c16_i32_94
  let c8_i32_514 : BitVec 32 := 8#32
  let v623 : BitVec 1 := Scalar.cmpi .sge v98 c8_i32_514
  let v624 : BitVec 32 := Scalar.extui v623
  let c0_i32_518 : BitVec 32 := 0#32
  let v625 : BitVec 1 := Scalar.cmpi .ne v624 c0_i32_518
  v625

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v97 : BitVec 32 := Scalar.addi v2 c12_i32_93
  let c16_i32_94 : BitVec 32 := 16#32
  let v98 : BitVec 32 := Scalar.remsi v97 c16_i32_94
  let c64_i32_95 : BitVec 32 := 64#32
  let v99 : BitVec 32 := Scalar.muli v98 c64_i32_95
  let c0_i32_1059 : BitVec 32 := 0#32
  ![v99.toNat, 0]
def k0_dev42 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v97 : BitVec 32 := Scalar.addi v2 c12_i32_93
  let c16_i32_94 : BitVec 32 := 16#32
  let v98 : BitVec 32 := Scalar.remsi v97 c16_i32_94
  let c1_i32_1055 : BitVec 32 := 1#32
  let v1139 : BitVec 32 := Scalar.muli v98 c1_i32_1055
  let v1140 : BitVec 32 := Scalar.addi c0_i32_1056 v1139
  v1140.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_96 : BitVec 32 := 13#32
  let v100 : BitVec 32 := Scalar.addi v2 c13_i32_96
  let c16_i32_97 : BitVec 32 := 16#32
  let v101 : BitVec 32 := Scalar.remsi v100 c16_i32_97
  let c8_i32_519 : BitVec 32 := 8#32
  let v626 : BitVec 1 := Scalar.cmpi .sge v101 c8_i32_519
  let v627 : BitVec 32 := Scalar.extui v626
  let c0_i32_523 : BitVec 32 := 0#32
  let v628 : BitVec 1 := Scalar.cmpi .ne v627 c0_i32_523
  v628

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_96 : BitVec 32 := 13#32
  let v100 : BitVec 32 := Scalar.addi v2 c13_i32_96
  let c16_i32_97 : BitVec 32 := 16#32
  let v101 : BitVec 32 := Scalar.remsi v100 c16_i32_97
  let c64_i32_98 : BitVec 32 := 64#32
  let v102 : BitVec 32 := Scalar.muli v101 c64_i32_98
  let c0_i32_1059 : BitVec 32 := 0#32
  ![v102.toNat, 0]
def k0_dev43 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_96 : BitVec 32 := 13#32
  let v100 : BitVec 32 := Scalar.addi v2 c13_i32_96
  let c16_i32_97 : BitVec 32 := 16#32
  let v101 : BitVec 32 := Scalar.remsi v100 c16_i32_97
  let c1_i32_1055 : BitVec 32 := 1#32
  let v1139 : BitVec 32 := Scalar.muli v101 c1_i32_1055
  let v1140 : BitVec 32 := Scalar.addi c0_i32_1056 v1139
  v1140.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_99 : BitVec 32 := 14#32
  let v103 : BitVec 32 := Scalar.addi v2 c14_i32_99
  let c16_i32_100 : BitVec 32 := 16#32
  let v104 : BitVec 32 := Scalar.remsi v103 c16_i32_100
  let c8_i32_524 : BitVec 32 := 8#32
  let v629 : BitVec 1 := Scalar.cmpi .sge v104 c8_i32_524
  let v630 : BitVec 32 := Scalar.extui v629
  let c0_i32_528 : BitVec 32 := 0#32
  let v631 : BitVec 1 := Scalar.cmpi .ne v630 c0_i32_528
  v631

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_99 : BitVec 32 := 14#32
  let v103 : BitVec 32 := Scalar.addi v2 c14_i32_99
  let c16_i32_100 : BitVec 32 := 16#32
  let v104 : BitVec 32 := Scalar.remsi v103 c16_i32_100
  let c64_i32_101 : BitVec 32 := 64#32
  let v105 : BitVec 32 := Scalar.muli v104 c64_i32_101
  let c0_i32_1059 : BitVec 32 := 0#32
  ![v105.toNat, 0]
def k0_dev44 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_99 : BitVec 32 := 14#32
  let v103 : BitVec 32 := Scalar.addi v2 c14_i32_99
  let c16_i32_100 : BitVec 32 := 16#32
  let v104 : BitVec 32 := Scalar.remsi v103 c16_i32_100
  let c1_i32_1055 : BitVec 32 := 1#32
  let v1139 : BitVec 32 := Scalar.muli v104 c1_i32_1055
  let v1140 : BitVec 32 := Scalar.addi c0_i32_1056 v1139
  v1140.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v106 : BitVec 32 := Scalar.addi v2 c15_i32_102
  let c16_i32_103 : BitVec 32 := 16#32
  let v107 : BitVec 32 := Scalar.remsi v106 c16_i32_103
  let c8_i32_529 : BitVec 32 := 8#32
  let v632 : BitVec 1 := Scalar.cmpi .sge v107 c8_i32_529
  let v633 : BitVec 32 := Scalar.extui v632
  let c0_i32_533 : BitVec 32 := 0#32
  let v634 : BitVec 1 := Scalar.cmpi .ne v633 c0_i32_533
  v634

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v106 : BitVec 32 := Scalar.addi v2 c15_i32_102
  let c16_i32_103 : BitVec 32 := 16#32
  let v107 : BitVec 32 := Scalar.remsi v106 c16_i32_103
  let c64_i32_104 : BitVec 32 := 64#32
  let v108 : BitVec 32 := Scalar.muli v107 c64_i32_104
  let c0_i32_1059 : BitVec 32 := 0#32
  ![v108.toNat, 0]
def k0_dev45 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v106 : BitVec 32 := Scalar.addi v2 c15_i32_102
  let c16_i32_103 : BitVec 32 := 16#32
  let v107 : BitVec 32 := Scalar.remsi v106 c16_i32_103
  let c1_i32_1055 : BitVec 32 := 1#32
  let v1139 : BitVec 32 := Scalar.muli v107 c1_i32_1055
  let v1140 : BitVec 32 := Scalar.addi c0_i32_1056 v1139
  v1140.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_534 : BitVec 32 := 64#32
  let v635 : BitVec 32 := Scalar.muli v2 c64_i32_534
  let v636 : Index := Scalar.indexCast v635
  let c0_535 : Index := 0#32
  ![v636.toNat, 0]
def k0_off32 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let c64_i32 : BitVec 32 := 64#32
  let v66 : BitVec 32 := Scalar.muli v65 c64_i32
  let c0_i32_734 : BitVec 32 := 0#32
  ![v66.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_835 : BitVec 32 := 64#32
  let v904 : BitVec 32 := Scalar.muli v2 c64_i32_835
  let c0_i32_840 : BitVec 32 := 0#32
  ![v904.toNat, 0]
def k0_dev46 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_838 : BitVec 32 := 1#32
  let v905 : BitVec 32 := Scalar.muli v65 c1_i32_838
  let v906 : BitVec 32 := Scalar.addi c0_i32_839 v905
  v906.toNat
def k0_dev47 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_63 : BitVec 32 := 2#32
  let v67 : BitVec 32 := Scalar.addi v2 c2_i32_63
  let c16_i32_64 : BitVec 32 := 16#32
  let v68 : BitVec 32 := Scalar.remsi v67 c16_i32_64
  let c1_i32_844 : BitVec 32 := 1#32
  let v913 : BitVec 32 := Scalar.muli v68 c1_i32_844
  let v914 : BitVec 32 := Scalar.addi c0_i32_845 v913
  v914.toNat
def k0_dev48 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v70 : BitVec 32 := Scalar.addi v2 c3_i32_66
  let c16_i32_67 : BitVec 32 := 16#32
  let v71 : BitVec 32 := Scalar.remsi v70 c16_i32_67
  let c1_i32_850 : BitVec 32 := 1#32
  let v921 : BitVec 32 := Scalar.muli v71 c1_i32_850
  let v922 : BitVec 32 := Scalar.addi c0_i32_851 v921
  v922.toNat
def k0_dev49 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v73 : BitVec 32 := Scalar.addi v2 c4_i32_69
  let c16_i32_70 : BitVec 32 := 16#32
  let v74 : BitVec 32 := Scalar.remsi v73 c16_i32_70
  let c1_i32_856 : BitVec 32 := 1#32
  let v929 : BitVec 32 := Scalar.muli v74 c1_i32_856
  let v930 : BitVec 32 := Scalar.addi c0_i32_857 v929
  v930.toNat
def k0_dev50 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_72 : BitVec 32 := 5#32
  let v76 : BitVec 32 := Scalar.addi v2 c5_i32_72
  let c16_i32_73 : BitVec 32 := 16#32
  let v77 : BitVec 32 := Scalar.remsi v76 c16_i32_73
  let c1_i32_862 : BitVec 32 := 1#32
  let v937 : BitVec 32 := Scalar.muli v77 c1_i32_862
  let v938 : BitVec 32 := Scalar.addi c0_i32_863 v937
  v938.toNat
def k0_dev51 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_75 : BitVec 32 := 6#32
  let v79 : BitVec 32 := Scalar.addi v2 c6_i32_75
  let c16_i32_76 : BitVec 32 := 16#32
  let v80 : BitVec 32 := Scalar.remsi v79 c16_i32_76
  let c1_i32_868 : BitVec 32 := 1#32
  let v945 : BitVec 32 := Scalar.muli v80 c1_i32_868
  let v946 : BitVec 32 := Scalar.addi c0_i32_869 v945
  v946.toNat
def k0_dev52 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v82 : BitVec 32 := Scalar.addi v2 c7_i32_78
  let c16_i32_79 : BitVec 32 := 16#32
  let v83 : BitVec 32 := Scalar.remsi v82 c16_i32_79
  let c1_i32_874 : BitVec 32 := 1#32
  let v953 : BitVec 32 := Scalar.muli v83 c1_i32_874
  let v954 : BitVec 32 := Scalar.addi c0_i32_875 v953
  v954.toNat
def k0_dev53 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v85 : BitVec 32 := Scalar.addi v2 c8_i32_81
  let c16_i32_82 : BitVec 32 := 16#32
  let v86 : BitVec 32 := Scalar.remsi v85 c16_i32_82
  let c1_i32_880 : BitVec 32 := 1#32
  let v961 : BitVec 32 := Scalar.muli v86 c1_i32_880
  let v962 : BitVec 32 := Scalar.addi c0_i32_881 v961
  v962.toNat
def k0_dev54 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_84 : BitVec 32 := 9#32
  let v88 : BitVec 32 := Scalar.addi v2 c9_i32_84
  let c16_i32_85 : BitVec 32 := 16#32
  let v89 : BitVec 32 := Scalar.remsi v88 c16_i32_85
  let c1_i32_886 : BitVec 32 := 1#32
  let v969 : BitVec 32 := Scalar.muli v89 c1_i32_886
  let v970 : BitVec 32 := Scalar.addi c0_i32_887 v969
  v970.toNat
def k0_dev55 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_87 : BitVec 32 := 10#32
  let v91 : BitVec 32 := Scalar.addi v2 c10_i32_87
  let c16_i32_88 : BitVec 32 := 16#32
  let v92 : BitVec 32 := Scalar.remsi v91 c16_i32_88
  let c1_i32_892 : BitVec 32 := 1#32
  let v977 : BitVec 32 := Scalar.muli v92 c1_i32_892
  let v978 : BitVec 32 := Scalar.addi c0_i32_893 v977
  v978.toNat
def k0_dev56 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_90 : BitVec 32 := 11#32
  let v94 : BitVec 32 := Scalar.addi v2 c11_i32_90
  let c16_i32_91 : BitVec 32 := 16#32
  let v95 : BitVec 32 := Scalar.remsi v94 c16_i32_91
  let c1_i32_898 : BitVec 32 := 1#32
  let v985 : BitVec 32 := Scalar.muli v95 c1_i32_898
  let v986 : BitVec 32 := Scalar.addi c0_i32_899 v985
  v986.toNat
def k0_dev57 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v97 : BitVec 32 := Scalar.addi v2 c12_i32_93
  let c16_i32_94 : BitVec 32 := 16#32
  let v98 : BitVec 32 := Scalar.remsi v97 c16_i32_94
  let c1_i32_904 : BitVec 32 := 1#32
  let v993 : BitVec 32 := Scalar.muli v98 c1_i32_904
  let v994 : BitVec 32 := Scalar.addi c0_i32_905 v993
  v994.toNat
def k0_dev58 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_96 : BitVec 32 := 13#32
  let v100 : BitVec 32 := Scalar.addi v2 c13_i32_96
  let c16_i32_97 : BitVec 32 := 16#32
  let v101 : BitVec 32 := Scalar.remsi v100 c16_i32_97
  let c1_i32_910 : BitVec 32 := 1#32
  let v1001 : BitVec 32 := Scalar.muli v101 c1_i32_910
  let v1002 : BitVec 32 := Scalar.addi c0_i32_911 v1001
  v1002.toNat
def k0_dev59 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_99 : BitVec 32 := 14#32
  let v103 : BitVec 32 := Scalar.addi v2 c14_i32_99
  let c16_i32_100 : BitVec 32 := 16#32
  let v104 : BitVec 32 := Scalar.remsi v103 c16_i32_100
  let c1_i32_916 : BitVec 32 := 1#32
  let v1009 : BitVec 32 := Scalar.muli v104 c1_i32_916
  let v1010 : BitVec 32 := Scalar.addi c0_i32_917 v1009
  v1010.toNat
def k0_dev60 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_102 : BitVec 32 := 15#32
  let v106 : BitVec 32 := Scalar.addi v2 c15_i32_102
  let c16_i32_103 : BitVec 32 := 16#32
  let v107 : BitVec 32 := Scalar.remsi v106 c16_i32_103
  let c1_i32_922 : BitVec 32 := 1#32
  let v1017 : BitVec 32 := Scalar.muli v107 c1_i32_922
  let v1018 : BitVec 32 := Scalar.addi c0_i32_923 v1017
  v1018.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 142
  | .vmem => 0
  | .smem => 0
  | _ => 0

abbrev hbmTy0_0 (i : Nat) : BufTy := match i % 128 with
  | 0 => ⟨S2x512x768, .bf16⟩
  | 1 => ⟨S768x8192, .bf16⟩
  | 2 => ⟨S2x512x128x64, .bf16⟩
  | 3 => ⟨S2x512x128x64, .bf16⟩
  | 4 => ⟨S8192x768, .bf16⟩
  | 5 => ⟨S2x512x768, .f32⟩
  | 6 => ⟨S768x8192, .f32⟩
  | 7 => ⟨S2x512x128x64, .f32⟩
  | 8 => ⟨S2x512x128x64, .f32⟩
  | 9 => ⟨S8192x768, .f32⟩
  | 10 => ⟨S2x512x8192, .f32⟩
  | 11 => ⟨S2x512x128x64, .f32⟩
  | 12 => ⟨S512, .i32⟩
  | 13 => ⟨S_, .i32⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S512, .i32⟩
  | 22 => ⟨S512, .i32⟩
  | 23 => ⟨S_, .i32⟩
  | 24 => ⟨S512, .i32⟩
  | 25 => ⟨S512, .i1⟩
  | 26 => ⟨S512, .i1⟩
  | 27 => ⟨S_, .i32⟩
  | 28 => ⟨S512, .i32⟩
  | 29 => ⟨S512, .i32⟩
  | 30 => ⟨S512, .i32⟩
  | 31 => ⟨S512x1, .i32⟩
  | 32 => ⟨S512, .i32⟩
  | 33 => ⟨S_, .i32⟩
  | 34 => ⟨S_, .i32⟩
  | 35 => ⟨S512, .i32⟩
  | 36 => ⟨S512, .i32⟩
  | 37 => ⟨S512, .i32⟩
  | 38 => ⟨S_, .i32⟩
  | 39 => ⟨S512, .i32⟩
  | 40 => ⟨S512, .i1⟩
  | 41 => ⟨S512, .i32⟩
  | 42 => ⟨S512, .i32⟩
  | 43 => ⟨S_, .i32⟩
  | 44 => ⟨S512, .i32⟩
  | 45 => ⟨S512, .i1⟩
  | 46 => ⟨S512, .i1⟩
  | 47 => ⟨S_, .i32⟩
  | 48 => ⟨S512, .i32⟩
  | 49 => ⟨S512, .i32⟩
  | 50 => ⟨S512, .i32⟩
  | 51 => ⟨S1x512, .i32⟩
  | 52 => ⟨S512x512, .i32⟩
  | 53 => ⟨S512x512, .i32⟩
  | 54 => ⟨S512x512, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x512, .i32⟩
  | 62 => ⟨S1x512, .i32⟩
  | 63 => ⟨S_, .i32⟩
  | 64 => ⟨S1x512, .i32⟩
  | 65 => ⟨S1x512, .i1⟩
  | 66 => ⟨S_, .i32⟩
  | 67 => ⟨S1x512, .i32⟩
  | 68 => ⟨S1x512, .i1⟩
  | 69 => ⟨S_, .i32⟩
  | 70 => ⟨S_, .i1⟩
  | 71 => ⟨S1x512, .i1⟩
  | 72 => ⟨S1x512, .i1⟩
  | 73 => ⟨S1x512, .i1⟩
  | 74 => ⟨S1x512, .i32⟩
  | 75 => ⟨S1x512, .i32⟩
  | 76 => ⟨S1x512, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S512x1, .i32⟩
  | 84 => ⟨S512x1, .i32⟩
  | 85 => ⟨S_, .i32⟩
  | 86 => ⟨S512x1, .i32⟩
  | 87 => ⟨S512x1, .i1⟩
  | 88 => ⟨S_, .i32⟩
  | 89 => ⟨S512x1, .i32⟩
  | 90 => ⟨S512x1, .i1⟩
  | 91 => ⟨S_, .i32⟩
  | 92 => ⟨S_, .i1⟩
  | 93 => ⟨S512x1, .i1⟩
  | 94 => ⟨S512x1, .i1⟩
  | 95 => ⟨S512x1, .i1⟩
  | 96 => ⟨S512x1, .i32⟩
  | 97 => ⟨S512x1, .i32⟩
  | 98 => ⟨S512x1, .i32⟩
  | 99 => ⟨S512x512, .i32⟩
  | 100 => ⟨S512x512, .i32⟩
  | 101 => ⟨S512x512, .i1⟩
  | 102 => ⟨S512x512, .i1⟩
  | 103 => ⟨S2x128x512x512, .f32⟩
  | 104 => ⟨S_, .f32⟩
  | 105 => ⟨S2x128x512x512, .f32⟩
  | 106 => ⟨S2x128x512x512, .f32⟩
  | 107 => ⟨S1x1x512x512, .i1⟩
  | 108 => ⟨S_, .f32⟩
  | 109 => ⟨S_, .f32⟩
  | 110 => ⟨S2x128x512x512, .i1⟩
  | 111 => ⟨S2x128x512x512, .f32⟩
  | 112 => ⟨S2x128x512x512, .f32⟩
  | 113 => ⟨S_, .f32⟩
  | 114 => ⟨S2x128x512, .f32⟩
  | 115 => ⟨S2x128x512x1, .f32⟩
  | 116 => ⟨S2x128x512x512, .f32⟩
  | 117 => ⟨S2x128x512x512, .f32⟩
  | 118 => ⟨S2x128x512x512, .f32⟩
  | 119 => ⟨S_, .i1⟩
  | 120 => ⟨S512, .i1⟩
  | 121 => ⟨S1x1x512x1, .i1⟩
  | 122 => ⟨S_, .f32⟩
  | 123 => ⟨S2x128x512, .f32⟩
  | 124 => ⟨S2x128x512x1, .f32⟩
  | 125 => ⟨S_, .f32⟩
  | 126 => ⟨S_, .f32⟩
  | 127 => ⟨S2x128x512x1, .i1⟩
  | _ => ⟨S2x512x768, .bf16⟩

abbrev hbmTy0_1 (i : Nat) : BufTy := match i % 128 with
  | 0 => ⟨S2x128x512x1, .f32⟩
  | 1 => ⟨S2x128x512x1, .f32⟩
  | 2 => ⟨S2x128x512x512, .f32⟩
  | 3 => ⟨S2x128x512x512, .f32⟩
  | 4 => ⟨S1x1x512x1, .i1⟩
  | 5 => ⟨S_, .f32⟩
  | 6 => ⟨S_, .f32⟩
  | 7 => ⟨S2x128x512x512, .i1⟩
  | 8 => ⟨S2x128x512x512, .f32⟩
  | 9 => ⟨S2x128x512x512, .f32⟩
  | 10 => ⟨S2x128x64x512, .f32⟩
  | 11 => ⟨S2x512x128x64, .f32⟩
  | 12 => ⟨S2x512x8192, .f32⟩
  | 13 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Talk.lean ====
/-
  The exchange the kernel runs between its sixteen devices: who pays which semaphore, with what, and the pieces of the
  buffers that travel. Device `c` numbers its fifteen peers by slots: slot `k` is the device `k + 1` places further
  round the ring.
-/
module

public import proofs.«01_k».proof.Proof.Gen.KernelIdeal.Launch
public import proofs.«01_k».proof.Proof.Gen.KernelIdeal.Points
public import Idealize.ShloMosaic.Lib.Rounds
public import Idealize.ShloMosaic.Lib.Rounds.Family
public import Idealize.ShloMosaic.Lib.Ring
public import Idealize.ShloMosaic.Lib.Transfers
public import Idealize.ShloMosaic.Lib.Pipeline.Regions
public import Idealize.ShloMosaic.Lib.Pipeline.RegionTalk
public import Idealize.ShloMosaic.Lib.Pipeline.ValueKit.Geometry
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The kernel's own user algebra: the pipeline's rounds beside the exchange's, whose duties are named by slots. -/
abbrev UU : Type := UR sig nD τ × URounds (GSem nD τ sig) (Fin 15)

local notation "𝕄" => MT nD τ sig Unit (Elt F) ℕ UU ℕ

abbrev EP : Emb (UR sig nD τ) (MT nD τ sig Unit (Elt F) ℕ UU ℕ) := embL
abbrev ER : Emb (URounds (GSem nD τ sig) (Fin 15)) (MT nD τ sig Unit (Elt F) ℕ UU ℕ) := embR

/-! ## Peers -/

/-- The device in slot `k` of device `c`. -/
def peer (c : Dev nD) (k : Fin 15) : Dev nD := ⟨(c.val + k.val + 1) % 16, Nat.mod_lt _ (by decide)⟩

/-- Seen from its slot-`k` peer, a device sits in slot `14 - k`. -/
theorem peer_peer (c : Dev nD) (k : Fin 15) : peer (peer c k) k.rev = c := by revert c k; decide +kernel
theorem peer_peer' (c : Dev nD) (k : Fin 15) : peer (peer c k.rev) k = c := by revert c k; decide +kernel
theorem peer_ne (c : Dev nD) (k : Fin 15) : peer c k ≠ c := by revert c k; decide +kernel
theorem peer_inj (c : Dev nD) : Function.Injective (peer c) := by revert c; decide +kernel

/-! ## The memrefs -/

abbrev sndM : Memref sig .tc .vmem S1024x768 .bf16 := Memref.whole cc0_scratch0
abbrev ctxM : Memref sig .tc .vmem S2x512x512 .bf16 := Memref.whole cc0_scratch1
abbrev a2aM : Memref sig .tc .vmem S15x64x768 .bf16 := Memref.whole cc0_scratch2
abbrev redM : Memref sig .tc .vmem S64x768 .bf16 := Memref.whole cc0_scratch3
abbrev flatM : Memref sig .tc .vmem S1024x768 .bf16 := Memref.whole cc0_scratch4

theorem inbR (p : Dev nD) : ∀ a, (![64 * p.val, 0] : Fin 2 → ℕ) a + S64x768.size a ≤ S1024x768.size a := by
  revert p; decide +kernel
theorem inbS (k : Fin 15) : ∀ a, (![k.val, 0, 0] : Fin 3 → ℕ) a + S1x64x768.size a ≤ S15x64x768.size a := by
  revert k; decide +kernel
theorem inbK (k : Fin 15) : ∀ a, (![k.val] : Fin 1 → ℕ) a + S1.size a ≤ S15.size a := by
  revert k; decide +kernel

/-- Sixty-four rows of the send buffer: those device `p` reduces. -/
abbrev sndC (p : Dev nD) : Memref sig .tc .vmem S64x768 .bf16 :=
  sndM.slice (Rect.unit (s := S1024x768) ![64 * p.val, 0] S64x768.size (inbR p)) (fun _ => rfl)
/-- Sixty-four rows of the gathered buffer: those device `p` reduced. -/
abbrev flatC (p : Dev nD) : Memref sig .tc .vmem S64x768 .bf16 :=
  flatM.slice (Rect.unit (s := S1024x768) ![64 * p.val, 0] S64x768.size (inbR p)) (fun _ => rfl)
/-- Slot `k` of the landing buffer. -/
abbrev slotM (k : Fin 15) : Memref sig .tc .vmem S64x768 .bf16 :=
  (a2aM.slice (Rect.unit (s := S15x64x768) ![k.val, 0, 0] S1x64x768.size (inbS k)) (fun _ => rfl)).squeeze S64x768
    squeezes_S1x64x768_S64x768

/-! ## The cells -/

/-- The semaphore of array `j` (0, 1: the first exchange's departure and arrival; 2, 3: the second's) for slot `k`. -/
abbrev dsem (j : Fin 4) (k : Fin 15) : DmaSem sig := ⟨6 + 15 * j.val + k.val, by have := j.isLt; have := k.isLt; show _ < 66; omega⟩

abbrev barCell (c : Dev nD) : GSem nD τ sig := ((c : Thread nD τ), .reg barrier0)
abbrev cell (c : Dev nD) (j : Fin 4) (k : Fin 15) : GSem nD τ sig := ((c : Thread nD τ), .dma (dsem j k))

theorem sem_s1s (k : Fin 15) : ((cc0_scratch5.slice (Rect.unit (s := S15) ![k.val] S1.size (inbK k))).squeeze S_ squeezes_S1_S_).sem = dsem 0 k := by
  revert k; decide +kernel
theorem sem_s1r (k : Fin 15) : ((cc0_scratch6.slice (Rect.unit (s := S15) ![k.val] S1.size (inbK k))).squeeze S_ squeezes_S1_S_).sem = dsem 1 k := by
  revert k; decide +kernel
theorem sem_s2s (k : Fin 15) : ((cc0_scratch7.slice (Rect.unit (s := S15) ![k.val] S1.size (inbK k))).squeeze S_ squeezes_S1_S_).sem = dsem 2 k := by
  revert k; decide +kernel
theorem sem_s2r (k : Fin 15) : ((cc0_scratch8.slice (Rect.unit (s := S15) ![k.val] S1.size (inbK k))).squeeze S_ squeezes_S1_S_).sem = dsem 3 k := by
  revert k; decide +kernel

/-- What one transfer of sixty-four rows credits. -/
abbrev N : ℕ := (redM : Memref sig .tc .vmem S64x768 .bf16).view.dmaCredit
theorem N_pos : 0 < N := View.dmaCredit_pos _ (by decide)
theorem amount_slot (k : Fin 15) (s : DmaSem sig) : (slotM k).view.amount (.dma s) = N := rfl
theorem amount_flat (p : Dev nD) (s : DmaSem sig) : (flatC p).view.amount (.dma s) = N := rfl
theorem amount_red (s : DmaSem sig) : (redM : Memref sig .tc .vmem S64x768 .bf16).view.amount (.dma s) = N := rfl

/-! ## The pieces' points-tos -/

abbrev sndPts (c p : Dev nD) (f : (cc0_scratch0 : Ref sig .tc).ty.Contents (Elt F)) : sProp 𝕄 :=
  (sndC p).view.loc (c : Thread nD τ) ↦[(sndC p).view.set]{fullShare} f
abbrev flatPts (c p : Dev nD) (f : (cc0_scratch4 : Ref sig .tc).ty.Contents (Elt F)) : sProp 𝕄 :=
  (flatC p).view.loc (c : Thread nD τ) ↦[(flatC p).view.set]{fullShare} f
abbrev slotPts (c : Dev nD) (k : Fin 15) (f : (cc0_scratch2 : Ref sig .tc).ty.Contents (Elt F)) : sProp 𝕄 :=
  (slotM k).view.loc (c : Thread nD τ) ↦[(slotM k).view.set]{fullShare} f
abbrev redPts (c : Dev nD) (q : PosShare TreeShare) (f : (cc0_scratch3 : Ref sig .tc).ty.Contents (Elt F)) : sProp 𝕄 :=
  (redM : Memref sig .tc .vmem S64x768 .bf16).view.loc (c : Thread nD τ) ↦[(redM : Memref sig .tc .vmem S64x768 .bf16).view.set]{q} f

/-! ## What lands

`sv c` is what device `c`'s send buffer holds when it sends, `rv c` what it reduced. -/

variable (sv : Dev nD → (cc0_scratch0 : Ref sig .tc).ty.Contents (Elt F)) (rv : Dev nD → (cc0_scratch3 : Ref sig .tc).ty.Contents (Elt F))

/-- Device `c`'s landing buffer once everything has landed: slot `k` holds rows `64 c …` of the sender's buffer. -/
def a2aV (c : Dev nD) : (cc0_scratch2 : Ref sig .tc).ty.Contents (Elt F) := fun i =>
  sv (peer c (⟨(i 0).val, (i 0).isLt⟩ : Fin 15).rev)
    (fun | ⟨0, _⟩ => ⟨64 * c.val + (i 1).val, by have h1 : (i 1).val < 64 := (i 1).isLt; have h2 : c.val < 16 := c.isLt; show _ < 1024; omega⟩ | ⟨1, _⟩ => ⟨(i 2).val, (i 2).isLt⟩)

/-- The gathered buffer: rows `64 p …` are what device `p` reduced. -/
def flatV : (cc0_scratch4 : Ref sig .tc).ty.Contents (Elt F) := fun i =>
  rv ⟨(i 0).val / 64, by have h : (i 0).val < 1024 := (i 0).isLt; show _ < 16; omega⟩
    (fun | ⟨0, _⟩ => ⟨(i 0).val % 64, by show _ < 64; omega⟩ | ⟨1, _⟩ => ⟨(i 1).val, (i 1).isLt⟩)

/-! ## The schedule -/

/-- Handed to `p`'s barrier cell by the device in its slot `k`: the slot and the rows there that `p` will write, and that
    the arrival cells there are open. -/
def barPay (p : Dev nD) (k : Fin 15) : sProp 𝕄 :=
  iprop((∃ f, slotPts (peer p k) k f) ∗ (∃ f, flatPts (peer p k) p f)
    ∗ reached ER (cell (peer p k) 1 k) 0 ∗ reached ER (cell (peer p k) 3 k) 0)

/-- Handed to device `c`'s transfer cell `(j, k)`. -/
def dmaPay (c : Dev nD) (j : ℕ) (k : Fin 15) : sProp 𝕄 :=
  if j = 0 then sndPts c (peer c k) (sv c)
  else if j = 1 then slotPts c k (a2aV sv c)
  else if j = 2 then redPts c (Transfers.shareTok fullShare 15 k) (rv c)
  else if j = 3 then flatPts c (peer c k.rev) (flatV rv)
  else iprop(emp)

def payOf (c : Dev nD) (d : Fin 15) : SemLoc sig → sProp 𝕄
  | .reg _ => barPay c d
  | .dma s => dmaPay sv rv c ((s.val - 6) / 15) ⟨(s.val - 6) % 15, Nat.mod_lt _ (by decide)⟩

def dutyOf : SemLoc sig → Finset (Fin 15)
  | .reg _ => Finset.univ
  | .dma s => if 6 ≤ s.val then {0} else ∅

/-- One round on every cell: fifteen duties on a barrier cell, one on each transfer cell. -/
def Rd : Rounds.Schedule (GSem nD τ sig) (Fin 15) 𝕄 where
  duties g r := if r = 0 ∧ g.1.2 = .tc then dutyOf g.2 else ∅
  unitless _ := False
  amount g _ _ := if g.2 = .reg barrier0 then 1 else N
  payload g _ d := payOf sv rv g.1.1 d g.2
  amount_pos g _ _ _ := by
    by_cases h : g.2 = .reg barrier0
    · rw [if_pos h]; exact Nat.one_pos
    · rw [if_neg h]; exact N_pos

instance Rd_payload_storable (g : GSem nD τ sig) (r : ℕ) (d : Fin 15) :
    BI.Storable (upEmb : UEmb _ 𝕄) ((Rd (F := F) sv rv).payload g r d) := by
  show BI.Storable upEmb (payOf sv rv g.1.1 d g.2)
  cases g.2 with
  | reg s => show BI.Storable upEmb (barPay (F := F) g.1.1 d); unfold barPay; infer_instance
  | dma s =>
    show BI.Storable upEmb (dmaPay sv rv g.1.1 ((s.val - 6) / 15) ⟨(s.val - 6) % 15, Nat.mod_lt _ (by decide)⟩)
    unfold dmaPay; (repeat' split) <;> infer_instance

section Tables

variable (c : Dev nD) (j : Fin 4) (k d : Fin 15)

theorem dsem_div : ((dsem j k).val - 6) / 15 = j.val := by
  have hk := k.isLt
  show (6 + 15 * j.val + k.val - 6) / 15 = j.val; omega
theorem dsem_ne_bar : (SemLoc.dma (dsem j k) : SemLoc sig) ≠ .reg barrier0 := fun h => by cases h

theorem duties_bar : (Rd (F := F) sv rv).duties (barCell c) 0 = Finset.univ := by dsimp only [Rd]; exact if_pos ⟨rfl, rfl⟩
theorem duties_cell : (Rd (F := F) sv rv).duties (cell c j k) 0 = {0} := by
  dsimp only [Rd]
  rw [if_pos ⟨rfl, rfl⟩]
  exact if_pos (by show 6 ≤ 6 + 15 * j.val + k.val; omega)
theorem duties_later (g : GSem nD τ sig) : ∀ r, 0 + 1 ≤ r → (Rd (F := F) sv rv).duties g r = ∅ :=
  fun r hr => by dsimp only [Rd]; exact if_neg fun h => by omega

theorem amount_bar : (Rd (F := F) sv rv).amount (barCell c) 0 d = 1 := by dsimp only [Rd]; exact if_pos rfl
theorem amount_cell : (Rd (F := F) sv rv).amount (cell c j k) 0 d = N := by dsimp only [Rd]; exact if_neg (dsem_ne_bar j k)

theorem expect_bar : (Rd (F := F) sv rv).expect (barCell c) 0 = 15 := by
  unfold Schedule.expect Schedule.amountOf
  rw [duties_bar, Finset.sum_congr rfl fun d _ => amount_bar sv rv c d]; rfl
theorem expect_cell : (Rd (F := F) sv rv).expect (cell c j k) 0 = N := by
  unfold Schedule.expect Schedule.amountOf; rw [duties_cell, Finset.sum_singleton, amount_cell]

theorem payload_bar : (Rd (F := F) sv rv).payload (barCell c) 0 d = barPay c d := rfl
theorem payload_cell : (Rd (F := F) sv rv).payload (cell c j k) 0 d = dmaPay sv rv c j.val k := by
  have h2 : (⟨((dsem j k).val - 6) % 15, Nat.mod_lt _ (by decide)⟩ : Fin 15) = k := Fin.ext (by
    have hk := k.isLt
    show (6 + 15 * j.val + k.val - 6) % 15 = k.val; omega)
  show dmaPay sv rv c (((dsem j k).val - 6) / 15) ⟨((dsem j k).val - 6) % 15, Nat.mod_lt _ (by decide)⟩ = _
  rw [h2, dsem_div]
theorem payload_s1s : (Rd (F := F) sv rv).payload (cell c 0 k) 0 d = sndPts c (peer c k) (sv c) := payload_cell sv rv c 0 k d
theorem payload_s1r : (Rd (F := F) sv rv).payload (cell c 1 k) 0 d = slotPts c k (a2aV sv c) := payload_cell sv rv c 1 k d
theorem payload_s2s : (Rd (F := F) sv rv).payload (cell c 2 k) 0 d = redPts c (Transfers.shareTok fullShare 15 k) (rv c) := payload_cell sv rv c 2 k d
theorem payload_s2r : (Rd (F := F) sv rv).payload (cell c 3 k) 0 d = flatPts c (peer c k.rev) (flatV rv) := payload_cell sv rv c 3 k d

theorem rest_bar : bigSep ((Rd (F := F) sv rv).duties (barCell c) 0 \ ∅) (fun d => (Rd (F := F) sv rv).payload (barCell c) 0 d)
    = bigSep Finset.univ fun d => barPay c d := by
  rw [Finset.sdiff_empty, duties_bar]; rfl
theorem rest_cell : bigSep ((Rd (F := F) sv rv).duties (cell c j k) 0 \ ∅) (fun d => (Rd (F := F) sv rv).payload (cell c j k) 0 d)
    = dmaPay sv rv c j.val k := by
  rw [Finset.sdiff_empty, duties_cell, bigSep_singleton, payload_cell]

end Tables

/-! ## What each device owes, and the levels -/

/-- What device `c` still owes when the barrier units of the slots in `A`, the first exchange's arrivals of `B` and the
    second's of `C` are outstanding. -/
def debt (c : Dev nD) (A B C : Finset (Fin 15)) : CellTallies nD τ sig Unit :=
  ((∑ k ∈ C, tallyAt (cell (peer c k) 3 k) () N) + ∑ k ∈ B, tallyAt (cell (peer c k) 1 k) () N)
    + ∑ k ∈ A, tallyAt (barCell (peer c k)) () 1

abbrev O₀ (c : Dev nD) : CellTallies nD τ sig Unit := debt c Finset.univ Finset.univ Finset.univ

def L (g : GSem nD τ sig) : Finset Unit := if g.1.2 = .tc then {()} else ∅

def lvOf : SemLoc sig → ℕ
  | .reg _ => 1
  | .dma s => if (s.val - 6) / 15 = 1 then 2 else if (s.val - 6) / 15 = 3 then 3 else 0
/-- Barrier cells at 1, the first exchange's arrivals at 2, the second's at 3, the rest at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : Fin 4) (k : Fin 15) : lv (cell c j k) () = if j.val = 1 then 2 else if j.val = 3 then 3 else 0 := by
  show (if ((dsem j k).val - 6) / 15 = 1 then 2 else if ((dsem j k).val - 6) / 15 = 3 then 3 else 0) = _
  rw [dsem_div]

/-- A debt's cells: each is on a TensorCore, and above any level its outstanding families are above. -/
theorem debt_mem {c : Dev nD} {A B C : Finset (Fin 15)} {g : GSem nD τ sig} {u : Unit} (h : 0 < debt c A B C g u) :
    (∃ k ∈ C, g = cell (peer c k) 3 k) ∨ (∃ k ∈ B, g = cell (peer c k) 1 k) ∨ ∃ k ∈ A, g = barCell (peer c k) := by
  by_contra hn
  push Not at hn
  obtain ⟨h3, h1, h0⟩ := hn
  have e : debt c A B C g u = 0 := by
    unfold debt
    simp only [Pi.add_apply, Finset.sum_apply, Finsupp.coe_add, Finsupp.coe_finset_sum]
    have e3 : ∀ k ∈ C, (tallyAt (cell (peer c k) 3 k) () N : CellTallies nD τ sig Unit) g u = 0 := fun k hk => by
      rw [tallyAt_apply, if_neg fun e => h3 k hk e.1]
    have e1 : ∀ k ∈ B, (tallyAt (cell (peer c k) 1 k) () N : CellTallies nD τ sig Unit) g u = 0 := fun k hk => by
      rw [tallyAt_apply, if_neg fun e => h1 k hk e.1]
    have e0 : ∀ k ∈ A, (tallyAt (barCell (peer c k)) () 1 : CellTallies nD τ sig Unit) g u = 0 := fun k hk => by
      rw [tallyAt_apply, if_neg fun e => h0 k hk e.1]
    rw [Finset.sum_eq_zero e3, Finset.sum_eq_zero e1, Finset.sum_eq_zero e0]; rfl
  omega

theorem debt_bar (c : Dev nD) (A B C : Finset (Fin 15)) (k : Fin 15) (h : k ∉ A) :
    debt c (insert k A) B C = debt c A B C + tallyAt (barCell (peer c k)) () 1 := by
  unfold debt; rw [Finset.sum_insert h, add_comm (tallyAt (barCell (peer c k)) () 1), ← add_assoc]
theorem debt_s1 (c : Dev nD) (B C : Finset (Fin 15)) (k : Fin 15) (h : k ∉ B) :
    debt c ∅ (insert k B) C = debt c ∅ B C + tallyAt (cell (peer c k) 1 k) () N := by
  unfold debt; rw [Finset.sum_insert h, Finset.sum_empty, add_zero, add_zero, add_comm (tallyAt (cell (peer c k) 1 k) () N), ← add_assoc]
theorem debt_s2 (c : Dev nD) (C : Finset (Fin 15)) (k : Fin 15) (h : k ∉ C) :
    debt c ∅ ∅ (insert k C) = debt c ∅ ∅ C + tallyAt (cell (peer c k) 3 k) () N := by
  unfold debt; rw [Finset.sum_insert h, Finset.sum_empty, Finset.sum_empty, add_zero, add_zero, add_zero, add_zero, add_comm]
theorem debt_none (c : Dev nD) : debt c ∅ ∅ ∅ = 0 := by
  unfold debt; rw [Finset.sum_empty, Finset.sum_empty, Finset.sum_empty, add_zero, add_zero]

/-- A core may wait on its barrier cell owing only arrivals. -/
theorem mayWait_bar (c : Dev nD) : (levAts L lv : sProp 𝕄) ⊢ MayWait (c : Thread nD τ) (.reg barrier0) () (debt c ∅ Finset.univ Finset.univ) :=
  MayOwe.of_cut (L := L) (lev := lv) 1 (fun p hp => by rw [Finset.mem_singleton.mp hp, L_tc]; exact Finset.mem_singleton_self _)
    (fun g u hg => by
      rcases debt_mem hg with ⟨k, -, rfl⟩ | ⟨k, -, rfl⟩ | ⟨k, hk, -⟩
      · rw [L_tc]; exact Finset.mem_singleton_self _
      · rw [L_tc]; exact Finset.mem_singleton_self _
      · exact absurd hk (Finset.notMem_empty _))
    (fun p hp => by rw [Finset.mem_singleton.mp hp]; exact le_refl 1)
    (fun g u hg => by
      rcases debt_mem hg with ⟨k, -, rfl⟩ | ⟨k, -, rfl⟩ | ⟨k, hk, -⟩
      · rw [lv_cell]; decide
      · rw [lv_cell]; decide
      · exact absurd hk (Finset.notMem_empty _))

/-- A core may wait on a cell of the first exchange owing only the second's arrivals. -/
theorem mayWait_cell (c : Dev nD) (j : Fin 4) (k : Fin 15) (hj : j.val ≤ 1) :
    (levAts L lv : sProp 𝕄) ⊢ MayWait (c : Thread nD τ) (.dma (dsem j k)) () (debt c ∅ ∅ Finset.univ) :=
  MayOwe.of_cut (L := L) (lev := lv) 2 (fun p hp => by rw [Finset.mem_singleton.mp hp, L_tc]; exact Finset.mem_singleton_self _)
    (fun g u hg => by
      rcases debt_mem hg with ⟨k, -, rfl⟩ | ⟨k, hk, -⟩ | ⟨k, hk, -⟩
      · rw [L_tc]; exact Finset.mem_singleton_self _
      · exact absurd hk (Finset.notMem_empty _)
      · exact absurd hk (Finset.notMem_empty _))
    (fun p hp => by
      rw [Finset.mem_singleton.mp hp]
      show lv (cell c j k) () ≤ 2
      rw [lv_cell]; split <;> [exact le_refl 2; skip]; rw [if_neg (by omega)]; exact Nat.zero_le _)
    (fun g u hg => by
      rcases debt_mem hg with ⟨k, -, rfl⟩ | ⟨k, hk, -⟩ | ⟨k, hk, -⟩
      · rw [lv_cell]; decide
      · exact absurd hk (Finset.notMem_empty _)
      · exact absurd hk (Finset.notMem_empty _))

/-! ## The pieces cover their buffers -/

section Pieces

theorem mem_rowsR (p : Dev nD) (i : S1024x768.Idx) :
    i ∈ (Rect.unit (s := S1024x768) ![64 * p.val, 0] S64x768.size (inbR p)).set ↔ 64 * p.val ≤ (i 0).val ∧ (i 0).val < 64 * p.val + 64 := by
  rw [Rect.mem_set_unit]
  refine ⟨fun h => h 0, fun h a => ?_⟩
  match a with
  | ⟨0, _⟩ => exact h
  | ⟨1, _⟩ => exact ⟨Nat.zero_le _, by have h1 : (i 1).val < 768 := (i 1).isLt; show (i 1).val < 0 + 768; omega⟩
theorem mem_sndC (p : Dev nD) (i : S1024x768.Idx) : i ∈ (sndC p).view.set ↔ 64 * p.val ≤ (i 0).val ∧ (i 0).val < 64 * p.val + 64 :=
  ValueKit.mem_set_slice_whole_iff cc0_scratch0 _ i (mem_rowsR p i)
theorem mem_flatC (p : Dev nD) (i : S1024x768.Idx) : i ∈ (flatC p).view.set ↔ 64 * p.val ≤ (i 0).val ∧ (i 0).val < 64 * p.val + 64 :=
  ValueKit.mem_set_slice_whole_iff cc0_scratch4 _ i (mem_rowsR p i)
theorem mem_slotM (k : Fin 15) (i : S15x64x768.Idx) : i ∈ (slotM k).view.set ↔ (i 0).val = k.val := by
  have e : (slotM k).view.set = ((View.whole cc0_scratch2).slice (Rect.unit (s := S15x64x768) ![k.val, 0, 0] S1x64x768.size (inbS k))).set :=
    View.set_reshape _ _
  refine (iff_of_eq (congrArg (fun S : Finset S15x64x768.Idx => i ∈ S) e)).trans ?_
  refine ValueKit.mem_set_slice_whole_iff cc0_scratch2 _ i ?_
  rw [Rect.mem_set_unit]
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => exact ⟨Nat.zero_le _, by have h1 : (i 1).val < 64 := (i 1).isLt; show (i 1).val < 0 + 64; omega⟩
    | ⟨2, _⟩ => exact ⟨Nat.zero_le _, by have h1 : (i 2).val < 768 := (i 2).isLt; show (i 2).val < 0 + 768; omega⟩

theorem sndC_disjoint (p p' : Dev nD) (h : p ≠ p') : Disjoint (sndC p).view.set (sndC p').view.set := by
  refine Finset.disjoint_left.mpr fun i hi hj => h (Fin.ext ?_)
  have h1 := (mem_sndC p i).mp hi; have h2 := (mem_sndC p' i).mp hj; omega
theorem flatC_disjoint (p p' : Dev nD) (h : p ≠ p') : Disjoint (flatC p).view.set (flatC p').view.set := by
  refine Finset.disjoint_left.mpr fun i hi hj => h (Fin.ext ?_)
  have h1 := (mem_flatC p i).mp hi; have h2 := (mem_flatC p' i).mp hj; omega
theorem slotM_disjoint (k k' : Fin 15) (h : k ≠ k') : Disjoint (slotM k).view.set (slotM k').view.set := by
  refine Finset.disjoint_left.mpr fun i hi hj => h (Fin.ext ?_)
  have h1 := (mem_slotM k i).mp hi; have h2 := (mem_slotM k' i).mp hj; omega

theorem flatC_cover : Finset.biUnion (β := S1024x768.Idx) Finset.univ (fun p : Dev nD => (flatC p).view.set) = Finset.univ := by
  refine Finset.eq_univ_iff_forall.mpr fun i => Finset.mem_biUnion.mpr ?_
  have h : ((i : S1024x768.Idx) 0).val < 1024 := ((i : S1024x768.Idx) 0).isLt
  refine ⟨(⟨((i : S1024x768.Idx) 0).val / 64, by show _ < 16; omega⟩ : Dev nD), Finset.mem_univ _, (mem_flatC _ i).mpr ?_⟩
  dsimp only; omega
theorem sndC_cover : Finset.biUnion (β := S1024x768.Idx) Finset.univ (fun p : Dev nD => (sndC p).view.set) = Finset.univ := by
  refine Finset.eq_univ_iff_forall.mpr fun i => Finset.mem_biUnion.mpr ?_
  have h : ((i : S1024x768.Idx) 0).val < 1024 := ((i : S1024x768.Idx) 0).isLt
  refine ⟨(⟨((i : S1024x768.Idx) 0).val / 64, by show _ < 16; omega⟩ : Dev nD), Finset.mem_univ _, (mem_sndC _ i).mpr ?_⟩
  dsimp only; omega
theorem slotM_cover : Finset.biUnion (β := S15x64x768.Idx) Finset.univ (fun k : Fin 15 => (slotM k).view.set) = Finset.univ := by
  refine Finset.eq_univ_iff_forall.mpr fun i => Finset.mem_biUnion.mpr ?_
  exact ⟨⟨((i : S15x64x768.Idx) 0).val, ((i : S15x64x768.Idx) 0).isLt⟩, Finset.mem_univ _, (mem_slotM _ i).mpr rfl⟩

end Pieces

end Cert.KernelIdeal.Talk

end
-- ==== Proof.Vals.lean ====
/-
  What one device computes, as functions of the five arrays its kernel is given: the two context planes, the rows it
  sends, the sum of the rows it receives.
-/
module

public import proofs.«01_k».proof.Proof.Talk
public import proofs.«01_k».proof.Proof.Gen.KernelIdeal.Skeleton

@[expose] public section

noncomputable section

namespace Cert.KernelIdeal.Talk

open Idealize.ShloMosaic Idealize.ShloMosaic.TcCoe
open Cert.KernelIdeal.Gen

variable {F : FTy → Type} [FloatOps F] [Named F]

abbrev xM : Memref sig .tc .vmem S2x512x768 .bf16 := Memref.whole cc0_stg0_0
abbrev wqM : Memref sig .tc .vmem S768x512 .bf16 := Memref.whole cc0_stg1_0
abbrev kM : Memref sig .tc .vmem S2x8x512x64 .bf16 := Memref.whole cc0_stg2_0
abbrev vM : Memref sig .tc .vmem S2x8x512x64 .bf16 := Memref.whole cc0_stg3_0
abbrev woM : Memref sig .tc .vmem S512x768 .bf16 := Memref.whole cc0_stg4_0
abbrev outM : Memref sig .tc .vmem S2x512x768 .f32 := Memref.whole cc0_stg5_0

/-- The five arrays of one device. -/
structure Inp (F : FTy → Type) where
  x : S2x512x768.Idx → Elt F .bf16
  wq : S768x512.Idx → Elt F .bf16
  k : S2x8x512x64.Idx → Elt F .bf16
  v : S2x8x512x64.Idx → Elt F .bf16
  wo : S512x768.Idx → Elt F .bf16

theorem inbX (b : Fin 2) : ∀ a, (![b.val, 0, 0] : Fin 3 → ℕ) a + S1x512x768.size a ≤ S2x512x768.size a := by
  revert b; decide +kernel
theorem inbKV (b : Fin 2) (h : Fin 8) : ∀ a, (![b.val, h.val, 0, 0] : Fin 4 → ℕ) a + S1x1x512x64.size a ≤ S2x8x512x64.size a := by
  revert b h; decide +kernel
theorem inbT (b : Fin 2) (h : Fin 8) : ∀ a, (![b.val, 0, 64 * h.val] : Fin 3 → ℕ) a + S1x512x64.size a ≤ S2x512x512.size a := by
  revert b h; decide +kernel
theorem inbP (b : Fin 2) : ∀ a, (![b.val, 0, 0] : Fin 3 → ℕ) a + S1x512x512.size a ≤ S2x512x512.size a := by
  revert b; decide +kernel
theorem inbH (b : Fin 2) : ∀ a, (![512 * b.val, 0] : Fin 2 → ℕ) a + S512x768.size a ≤ S1024x768.size a := by
  revert b; decide +kernel
theorem slicesQ (h : Fin 8) : S512x512.Slices ![0, 64 * h.val] S512x64 := by
  revert h; decide +kernel

/-- A plane of `x`, as loaded. -/
def xPl (X : Inp F) (b : Fin 2) : Vec F S1x512x768 .bf16 :=
  fun i => X.x ((Rect.unit (s := S2x512x768) ![b.val, 0, 0] S1x512x768.size (inbX b)).emb i)
def wqPl (X : Inp F) : Vec F S768x512 .bf16 :=
  fun i => X.wq ((Rect.unit (s := S768x512) ![0, 0] S768x512.size inb_S768x512_S768x512_0_0).emb i)
def kPl (X : Inp F) (b : Fin 2) (h : Fin 8) : Vec F S1x1x512x64 .bf16 :=
  fun i => X.k ((Rect.unit (s := S2x8x512x64) ![b.val, h.val, 0, 0] S1x1x512x64.size (inbKV b h)).emb i)
def vPl (X : Inp F) (b : Fin 2) (h : Fin 8) : Vec F S1x1x512x64 .bf16 :=
  fun i => X.v ((Rect.unit (s := S2x8x512x64) ![b.val, h.val, 0, 0] S1x1x512x64.size (inbKV b h)).emb i)
def woPl (X : Inp F) : Vec F S512x768 .bf16 :=
  fun i => X.wo ((Rect.unit (s := S512x768) ![0, 0] S512x768.size inb_S512x768_S512x768_0_0).emb i)

/-- Which pairs of positions may attend. -/
def maskV : IVec S512x512 1 :=
  k0_pay6 k0_pay3 (iota .tc S512x512 32 [1] iota_S512x512_d1_w32) 64#32 k0_pay4 k0_pay5
    (Scalar.extui (Scalar.cmpi .sgt 64#32 0#32)) (Scalar.cmpi .slt 64#32 0#32)
/-- What the scores are offset by. -/
def biasV : FVec F S512x512 .f32 := k0_pay7 maskV (Scalar.ofBits .f32 0x00000000#32)
/-- The queries of plane `b`. -/
def qV (X : Inp F) (b : Fin 2) : FVec F S512x512 .bf16 := k0_pay8 (xPl X b) (wqPl X)

/-- The unnormalized weights of one head. -/
def expV (q : FVec F S512x512 .bf16) (h : Fin 8) (kk : Vec F S1x1x512x64 .bf16) : FVec F S512x512 .f32 :=
  exp (addf (mulf (matmul dot_S512x64_S512x64_S512x512_1_1_0_0_n_n none
      (extractStridedSlice S512x64 ![0, 64 * h.val] q (slicesQ h)) (shapeCast S512x64 kk shapeCasts_S1x1x512x64_S512x64)
      (constant S512x512 .f32 0x00000000#32)) (broadcast S512x512 (Scalar.ofBits .f32 0x3E000000#32))) biasV)
/-- The weights of one head. -/
def wtV (e : FVec F S512x512 .f32) : FVec F S512x512 .bf16 :=
  truncf .bf16 (divf e (broadcastTo S512x512 (shapeCast S512x1
    (multiReduction .add [1] S512 e 0x00000000#32 reduces_S512x512_S512 (.inl rfl) rfl) shapeCasts_S512_S512x1) broadcasts_S512x1_S512x512))
    bitsLt_bf16_f32
/-- One head's context. -/
def headV (X : Inp F) (b : Fin 2) (h : Fin 8) : FVec F S1x512x64 .bf16 :=
  shapeCast S1x512x64 (truncf .bf16 (matmul dot_S512x512_S512x64_S512x64_1_0_0_1_n_n none (wtV (expV (qV X b) h (kPl X b h)))
    (shapeCast S512x64 (vPl X b h) shapeCasts_S1x1x512x64_S512x64) (constant S512x64 .f32 0x00000000#32)) bitsLt_bf16_f32)
    shapeCasts_S512x64_S1x512x64

/-- The context buffer: head `h` of plane `b` in columns `64 h …`. -/
def ctxV (X : Inp F) : (cc0_scratch1 : Ref sig .tc).ty.Contents (Elt F) := fun i =>
  headV X ⟨(i 0).val, (i 0).isLt⟩ ⟨(i 2).val / 64, by have h : (i 2).val < 512 := (i 2).isLt; omega⟩
    (fun | ⟨0, _⟩ => ⟨0, Nat.one_pos⟩ | ⟨1, _⟩ => ⟨(i 1).val, (i 1).isLt⟩ | ⟨2, _⟩ => ⟨(i 2).val % 64, by show _ < 64; omega⟩)
def ctxPl (X : Inp F) (b : Fin 2) : Vec F S1x512x512 .bf16 :=
  fun i => ctxV X ((Rect.unit (s := S2x512x512) ![b.val, 0, 0] S1x512x512.size (inbP b)).emb i)

/-- Plane `b` of the device's part of the result. -/
def partV (X : Inp F) (b : Fin 2) : FVec F S512x768 .bf16 := k0_pay24 (ctxPl X b) (woPl X)
/-- The send buffer: both planes' rows, one after the other. -/
def sndV (X : Inp F) : (cc0_scratch0 : Ref sig .tc).ty.Contents (Elt F) := fun i =>
  partV X ⟨(i 0).val / 512, by have h : (i 0).val < 1024 := (i 0).isLt; omega⟩
    (fun | ⟨0, _⟩ => ⟨(i 0).val % 512, by show _ < 512; omega⟩ | ⟨1, _⟩ => ⟨(i 1).val, (i 1).isLt⟩)

/-- All devices' arrays give what each sends. -/
def svOf (X : Dev nD → Inp F) (c : Dev nD) : (cc0_scratch0 : Ref sig .tc).ty.Contents (Elt F) := sndV (X c)

def ownPl (X : Dev nD → Inp F) (c : Dev nD) : Vec F S64x768 .bf16 :=
  fun i => svOf X c ((Rect.unit (s := S1024x768) ![64 * c.val, 0] S64x768.size (inbR c)).emb i)
def slotPl (X : Dev nD → Inp F) (c : Dev nD) (k : Fin 15) : Vec F S1x64x768 .bf16 :=
  fun i => a2aV (svOf X) c ((Rect.unit (s := S15x64x768) ![k.val, 0, 0] S1x64x768.size (inbS k)).emb i)

/-- The rows the device reduces, the first `n` arrivals added. -/
def accV (X : Dev nD → Inp F) (c : Dev nD) : ℕ → FVec F S64x768 .f32
  | 0 => extf .f32 (ownPl X c) bitsLt_bf16_f32
  | n + 1 => addf (accV X c n)
      (extf .f32 (shapeCast S64x768 (slotPl X c ⟨n % 15, Nat.mod_lt _ (by decide)⟩) shapeCasts_S1x64x768_S64x768) bitsLt_bf16_f32)
/-- The reduced rows. -/
def rvOf (X : Dev nD → Inp F) (c : Dev nD) : (cc0_scratch3 : Ref sig .tc).ty.Contents (Elt F) := fun i =>
  shapeCast S64x768 (truncf .bf16 (accV X c 15) bitsLt_bf16_f32) shapeCasts_S64x768_S64x768 i

def flatPl (X : Dev nD → Inp F) (b : Fin 2) : Vec F S512x768 .bf16 :=
  fun i => flatV (rvOf X) ((Rect.unit (s := S1024x768) ![512 * b.val, 0] S512x768.size (inbH b)).emb i)
/-- The result, the same on every device. -/
def outV (X : Dev nD → Inp F) : (cc0_stg5_0 : Ref sig .tc).ty.Contents (Elt F) := fun i =>
  k0_pay1 (flatPl X ⟨(i 0).val, (i 0).isLt⟩)
    (fun | ⟨0, _⟩ => ⟨0, Nat.one_pos⟩ | ⟨1, _⟩ => ⟨(i 1).val, (i 1).isLt⟩ | ⟨2, _⟩ => ⟨(i 2).val, (i 2).isLt⟩)

/-! ## Each stored value is one of these -/

section Pay
variable (X : Inp F)

theorem pay_b0h0 : k0_pay9 maskV (Scalar.ofBits .f32 0x00000000#32) (xPl X 0) (wqPl X) (kPl X 0 0) (vPl X 0 0) = headV X 0 0 := rfl
theorem pay_b0h1 : k0_pay12 biasV (k0_pay10 (xPl X 0) (wqPl X)) (k0_pay11 (kPl X 0 1)) (constant S512x512 .f32 0x00000000#32) (vPl X 0 1) = headV X 0 1 := rfl
theorem pay_b0h2 : k0_pay14 (k0_pay13 biasV (qV X 0) (kPl X 0 2) (vPl X 0 2)) = headV X 0 2 := rfl
theorem pay_b0h3 : k0_pay15 biasV (qV X 0) (kPl X 0 3) (vPl X 0 3) = headV X 0 3 := rfl
theorem pay_b0h4 : k0_pay17 (k0_pay16 biasV (qV X 0) (kPl X 0 4)) (vPl X 0 4) = headV X 0 4 := rfl
theorem pay_b0h5 : k0_pay18 biasV (qV X 0) (kPl X 0 5) (vPl X 0 5) = headV X 0 5 := rfl
theorem pay_b0h6 : k0_pay21 biasV (k0_pay19 (qV X 0)) (k0_pay20 (kPl X 0 6)) (constant S512x512 .f32 0x00000000#32) (vPl X 0 6) = headV X 0 6 := rfl
theorem pay_b0h7 : k0_pay23 (k0_pay22 biasV (qV X 0) (kPl X 0 7) (vPl X 0 7)) = headV X 0 7 := rfl
theorem pay_b1h0 : k0_pay28 biasV (k0_pay26 (xPl X 1) (wqPl X) (kPl X 1 0)) k0_pay27 (vPl X 1 0) = headV X 1 0 := rfl
theorem pay_b1h1 : k0_pay29 biasV (qV X 1) (kPl X 1 1) (vPl X 1 1) = headV X 1 1 := rfl
theorem pay_b1h2 : k0_pay30 biasV (qV X 1) (kPl X 1 2) (vPl X 1 2) = headV X 1 2 := rfl
theorem pay_b1h3 : k0_pay32 (k0_pay31 biasV (qV X 1) (kPl X 1 3)) (vPl X 1 3) = headV X 1 3 := rfl
theorem pay_b1h4 : k0_pay33 biasV (qV X 1) (kPl X 1 4) (vPl X 1 4) = headV X 1 4 := rfl
theorem pay_b1h5 : k0_pay36 biasV (k0_pay34 (qV X 1) (kPl X 1 5)) k0_pay35 (vPl X 1 5) = headV X 1 5 := rfl
theorem pay_b1h6 : k0_pay37 biasV (qV X 1) (kPl X 1 6) (vPl X 1 6) = headV X 1 6 := rfl
theorem pay_b1h7 : k0_pay38 biasV (qV X 1) (kPl X 1 7) (vPl X 1 7) = headV X 1 7 := rfl
theorem pay_q1 : k0_pay25 (xPl X 1) (wqPl X) = qV X 1 := rfl
theorem pay_part1 : k0_pay39 (ctxPl X 1) (woPl X) = partV X 1 := rfl

end Pay

section PayAcc
variable (X : Dev nD → Inp F) (c : Dev nD)

theorem pay_acc1 : k0_pay40 (ownPl X c) (slotPl X c 0) = accV X c 1 := rfl
theorem pay_acc4 : k0_pay41 (accV X c 1) (slotPl X c 1) (slotPl X c 2) (slotPl X c 3) = accV X c 4 := rfl
theorem pay_acc6 : k0_pay42 (accV X c 4) (slotPl X c 4) (slotPl X c 5) = accV X c 6 := rfl
theorem pay_acc8 : k0_pay43 (accV X c 6) (slotPl X c 6) (slotPl X c 7) = accV X c 8 := rfl
theorem pay_acc10 : k0_pay44 (accV X c 8) (slotPl X c 8) (slotPl X c 9) = accV X c 10 := rfl
theorem pay_acc13 : k0_pay46 (accV X c 10) (k0_pay45 (slotPl X c 10)) (slotPl X c 11) (slotPl X c 12) = accV X c 13 := rfl
theorem pay_red : k0_pay47 (accV X c 13) (slotPl X c 13) (slotPl X c 14) = rvOf X c := rfl

end PayAcc

end Cert.KernelIdeal.Talk

end
-- ==== Proof.Comp.lean ====
/-
  The steps of the body that stay on one device: loads of the five arrays, the context buffer filled stripe by stripe,
  the send buffer filled half by half.
-/
module

public import proofs.«01_k».proof.Proof.Vals

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The assertions about this program. -/
abbrev SP (F : FTy → Type) := sProp (MT nD τ sig Unit (Elt F) ℕ UU ℕ)
/-- The programs of a device's body. -/
abbrev Prg (F : FTy → Type) [FloatOps F] (α : Type) := Prog (TpuEff nD τ sig (Elt F) Λ₀ .tc) α

/-- What must hold before `p` runs on device `c`. -/
abbrev WPc (c : Dev nD) {α : Type} (p : Prg F α) (Q : α → SP F) : SP F :=
  wp frame (wpE (defs₀ (F := F)) Variants.none (c : Thread nD τ) none) Set.univ p Q

/-! ## Sequencing -/

section Seq
variable {c : Dev nD} {α β : Type} {S R T : SP F}

theorem seq_step {p : Prg F α} {K : α → Prg F β} {Q : β → SP F} (h : S ⊢ WPc c p fun a => WPc c (K a) Q) : S ⊢ WPc c (p >>= K) Q := by
  unfold WPc; rw [wp_bind]; exact h
theorem ret_step {a : α} {Q : α → SP F} (h : S ⊢ Q a) : S ⊢ WPc c (pure a) Q := by
  unfold WPc; rw [wp_pure]; exact h.trans fupd_intro

theorem swap12 {A B G : SP F} (h : iprop(B ∗ A ∗ R) ⊢ G) : iprop(A ∗ B ∗ R) ⊢ G := by
  refine .trans ?_ h
  iintro ⟨HA, HB, HR⟩; isplitl [HB]; · iexact HB
  isplitl [HA] <;> iassumption
theorem swap123 {A B C G : SP F} (h : iprop(C ∗ A ∗ B ∗ R) ⊢ G) : iprop(A ∗ B ∗ C ∗ R) ⊢ G := by
  refine .trans ?_ h
  iintro ⟨HA, HB, HC, HR⟩; isplitl [HC]; · iexact HC
  isplitl [HA]; · iexact HA
  isplitl [HB] <;> iassumption
theorem keep1 {A X : SP F} (h : A ⊢ iprop(X ∗ (X -∗ A))) : iprop(A ∗ R) ⊢ iprop(X ∗ (X -∗ A ∗ R)) := by
  iintro ⟨HA, HR⟩
  ihave H := h $$ HA
  icases H with ⟨HX, Hw⟩
  isplitl [HX]; · iexact HX
  iintro HX
  isplitr [HR]
  · iapply Hw; iexact HX
  · iexact HR

/-- A load from a buffer the state holds. -/
theorem load_step {cs : CoreSpace} {s : Shape} {e : EltTy} (m : Memref sig .tc cs s e) (r : Rect s) {hl : m.view.LoadsAt r}
    {K : (r.shape.Idx → Elt F e) → Prg F β} {Q : β → SP F} {I : Finset (Idx (m.view.loc (c : Thread nD τ)))} {q : PosShare TreeShare}
    {f : Buf (Elt F) (m.view.loc (c : Thread nD τ))} (hS : (m.access r).set ⊆ I)
    (hP : S ⊢ iprop((m.view.loc (c : Thread nD τ) ↦[I]{q} f) ∗ ((m.view.loc (c : Thread nD τ) ↦[I]{q} f) -∗ S)))
    (h : S ⊢ WPc c (K ((m.access r).read (Elt F) f)) Q) : S ⊢ WPc c ((Prog.lift (TpuEff.load m r hl) : Prg F _) >>= K) Q := by
  refine hP.trans ?_
  iintro ⟨HX, Hw⟩
  iapply (wp_load_rect Variants.none (c : Thread nD τ) none Set.univ hS) $$ HX
  iintro HX
  iapply h
  iapply Hw; iexact HX

/-- A store to a buffer the state holds. -/
theorem store_step {cs : CoreSpace} {s : Shape} {e : EltTy} (m : Memref sig .tc cs s e) (r : Rect s) {w : r.shape.Idx → Elt F e}
    {hx : (m.access r).Stores Finset.univ} {hm} {K : PUnit → Prg F β} {Q : β → SP F} {I : Finset (Idx (m.view.loc (c : Thread nD τ)))}
    {f : Buf (Elt F) (m.view.loc (c : Thread nD τ))} (hS : (m.access r).set ⊆ I)
    (hP : S ⊢ iprop((m.view.loc (c : Thread nD τ) ↦[I]{fullShare} f)
      ∗ ((m.view.loc (c : Thread nD τ) ↦[I]{fullShare} ((m.access r).write (Elt F) f w Finset.univ)) -∗ T)))
    (h : T ⊢ WPc c (K ⟨⟩) Q) : S ⊢ WPc c ((Prog.lift (TpuEff.store m r w Finset.univ hx hm) : Prg F _) >>= K) Q := by
  refine hP.trans ?_
  iintro ⟨HX, Hw⟩
  iapply (wp_store Variants.none (c : Thread nD τ) none Set.univ (hx := hx) (by rw [View.setOn_univ]; exact hS)) $$ HX
  iintro HX
  iapply h
  iapply Hw; iexact HX

end Seq

/-! ## The five arrays -/

abbrev whPts (c : Dev nD) {s : Shape} {e : EltTy} (m : Memref sig .tc .vmem s e) (f : Buf (Elt F) (m.view.loc (c : Thread nD τ))) : SP F :=
  m.view.loc (c : Thread nD τ) ↦[m.view.set]{fullShare} f

def ins (c : Dev nD) (X : Inp F) : SP F :=
  iprop(whPts c xM X.x ∗ whPts c wqM X.wq ∗ whPts c kM X.k ∗ whPts c vM X.v ∗ whPts c woM X.wo)

section Ins
variable {c : Dev nD} {X : Inp F} {β : Type} {R : SP F} {Q : β → SP F}

theorem ins_x : (ins c X : SP F) ⊢ iprop(whPts c xM X.x ∗ (whPts c xM X.x -∗ ins c X)) := by
  unfold ins; iintro ⟨H0, H1, H2, H3, H4⟩; isplitl [H0]; · iexact H0
  iintro H0; isplitl [H0]; · iexact H0
  isplitl [H1]; · iexact H1
  isplitl [H2]; · iexact H2
  isplitl [H3] <;> iassumption
theorem ins_wq : (ins c X : SP F) ⊢ iprop(whPts c wqM X.wq ∗ (whPts c wqM X.wq -∗ ins c X)) := by
  unfold ins; iintro ⟨H0, H1, H2, H3, H4⟩; isplitl [H1]; · iexact H1
  iintro H1; isplitl [H0]; · iexact H0
  isplitl [H1]; · iexact H1
  isplitl [H2]; · iexact H2
  isplitl [H3] <;> iassumption
theorem ins_k : (ins c X : SP F) ⊢ iprop(whPts c kM X.k ∗ (whPts c kM X.k -∗ ins c X)) := by
  unfold ins; iintro ⟨H0, H1, H2, H3, H4⟩; isplitl [H2]; · iexact H2
  iintro H2; isplitl [H0]; · iexact H0
  isplitl [H1]; · iexact H1
  isplitl [H2]; · iexact H2
  isplitl [H3] <;> iassumption
theorem ins_v : (ins c X : SP F) ⊢ iprop(whPts c vM X.v ∗ (whPts c vM X.v -∗ ins c X)) := by
  unfold ins; iintro ⟨H0, H1, H2, H3, H4⟩; isplitl [H3]; · iexact H3
  iintro H3; isplitl [H0]; · iexact H0
  isplitl [H1]; · iexact H1
  isplitl [H2]; · iexact H2
  isplitl [H3] <;> iassumption
theorem ins_wo : (ins c X : SP F) ⊢ iprop(whPts c woM X.wo ∗ (whPts c woM X.wo -∗ ins c X)) := by
  unfold ins; iintro ⟨H0, H1, H2, H3, H4⟩; isplitl [H4]; · iexact H4
  iintro H4; isplitl [H0]; · iexact H0
  isplitl [H1]; · iexact H1
  isplitl [H2]; · iexact H2
  isplitl [H3] <;> iassumption

theorem ld_x (b : Fin 2) {off inb hl} {K : Vec F S1x512x768 .bf16 → Prg F β} (e : off = ![b.val, 0, 0])
    (h : iprop(ins c X ∗ R) ⊢ WPc c (K (xPl X b)) Q) :
    iprop(ins c X ∗ R) ⊢ WPc c (Prog.lift (TpuEff.load xM (Rect.unit (s := S2x512x768) off S1x512x768.size inb).toLoadRect hl) >>= K) Q := by
  subst e; exact load_step xM _ (View.set_slice_subset _ _) (keep1 ins_x) h
theorem ld_wq {inb hl} {K : Vec F S768x512 .bf16 → Prg F β} (h : iprop(ins c X ∗ R) ⊢ WPc c (K (wqPl X)) Q) :
    iprop(ins c X ∗ R) ⊢ WPc c (Prog.lift (TpuEff.load wqM (Rect.unit (s := S768x512) ![0, 0] S768x512.size inb).toLoadRect hl) >>= K) Q :=
  load_step wqM _ (View.set_slice_subset _ _) (keep1 ins_wq) h
theorem ld_k (b : Fin 2) (hd : Fin 8) {off inb hl} {K : Vec F S1x1x512x64 .bf16 → Prg F β} (e : off = ![b.val, hd.val, 0, 0])
    (h : iprop(ins c X ∗ R) ⊢ WPc c (K (kPl X b hd)) Q) :
    iprop(ins c X ∗ R) ⊢ WPc c (Prog.lift (TpuEff.load kM (Rect.unit (s := S2x8x512x64) off S1x1x512x64.size inb).toLoadRect hl) >>= K) Q := by
  subst e; exact load_step kM _ (View.set_slice_subset _ _) (keep1 ins_k) h
theorem ld_v (b : Fin 2) (hd : Fin 8) {off inb hl} {K : Vec F S1x1x512x64 .bf16 → Prg F β} (e : off = ![b.val, hd.val, 0, 0])
    (h : iprop(ins c X ∗ R) ⊢ WPc c (K (vPl X b hd)) Q) :
    iprop(ins c X ∗ R) ⊢ WPc c (Prog.lift (TpuEff.load vM (Rect.unit (s := S2x8x512x64) off S1x1x512x64.size inb).toLoadRect hl) >>= K) Q := by
  subst e; exact load_step vM _ (View.set_slice_subset _ _) (keep1 ins_v) h
theorem ld_wo {inb hl} {K : Vec F S512x768 .bf16 → Prg F β} (h : iprop(ins c X ∗ R) ⊢ WPc c (K (woPl X)) Q) :
    iprop(ins c X ∗ R) ⊢ WPc c (Prog.lift (TpuEff.load woM (Rect.unit (s := S512x768) ![0, 0] S512x768.size inb).toLoadRect hl) >>= K) Q :=
  load_step woM _ (View.set_slice_subset _ _) (keep1 ins_wo) h

end Ins

/-! ## A buffer known by a property of what it holds -/

def bufSt (c : Dev nD) {s : Shape} {e : EltTy} (m : Memref sig .tc .vmem s e) (P : (s.Idx → Elt F e) → Prop) : SP F :=
  iprop(∃ f, ⌜P (m.view.read (Elt F) f)⌝ ∗ whPts c m f)

section BufSt
variable {c : Dev nD} {s : Shape} {e : EltTy} (m : Memref sig .tc .vmem s e) (r : Rect s) {β : Type} {A R : SP F} {Q : β → SP F}
  {P P' : (s.Idx → Elt F e) → Prop}

theorem read_access (f : Buf (Elt F) (m.view.loc (c : Thread nD τ))) (j : r.shape.Idx) :
    (m.access r).read (Elt F) f j = m.view.read (Elt F) f (r.emb j) := rfl
theorem read_write_in (f : Buf (Elt F) (m.view.loc (c : Thread nD τ))) (w : r.shape.Idx → Elt F e) (j : r.shape.Idx) :
    m.view.read (Elt F) ((m.access r).write (Elt F) f w Finset.univ) (r.emb j) = w j := by
  have h := congrFun (View.read_write_univ (v := m.access r) (Val := Elt F) f w) j
  exact h
theorem read_write_out (f : Buf (Elt F) (m.view.loc (c : Thread nD τ))) (w : r.shape.Idx → Elt F e) (i : s.Idx) (hi : ∀ j, i ≠ r.emb j) :
    m.view.read (Elt F) ((m.access r).write (Elt F) f w Finset.univ) i = m.view.read (Elt F) f i := by
  rw [View.read_apply, View.read_apply]
  congr 1
  refine View.write_of_not_mem (v := m.access r) f w Finset.univ ?_
  rw [View.setOn_univ]
  intro h
  obtain ⟨j, -, hj⟩ := Finset.mem_map.mp h
  exact hi j (m.view.emb.injective hj).symm

theorem bufSt_intro (f : Buf (Elt F) (m.view.loc (c : Thread nD τ))) (hf : P (m.view.read (Elt F) f)) : iprop(A ∗ whPts c m f ∗ R) ⊢ iprop(A ∗ bufSt c m P ∗ R) := by
  unfold bufSt
  iintro ⟨HA, HX, HR⟩
  isplitl [HA]; · iexact HA
  isplitl [HX]
  · iexists f; isplitr; · ipureintro; exact hf
    iexact HX
  iexact HR
theorem bufSt_elim {G : SP F} (h : ∀ f : Buf (Elt F) (m.view.loc (c : Thread nD τ)), P (m.view.read (Elt F) f) → iprop(A ∗ whPts c m f ∗ R) ⊢ G) :
    iprop(A ∗ bufSt c m P ∗ R) ⊢ G := by
  unfold bufSt
  iintro ⟨HA, ⟨%f, %hf, HX⟩, HR⟩
  iapply (h f hf)
  isplitl [HA]; · iexact HA
  isplitl [HX] <;> iassumption
theorem keep2 {X X' : SP F} : iprop(A ∗ X ∗ R) ⊢ iprop(X ∗ (X' -∗ A ∗ X' ∗ R)) := by
  iintro ⟨HA, HX, HR⟩
  isplitl [HX]; · iexact HX
  iintro HX
  isplitl [HA]; · iexact HA
  isplitl [HX] <;> iassumption

theorem load_ex {hl} {K : (r.shape.Idx → Elt F e) → Prg F β}
    (h : ∀ g, P g → iprop(A ∗ bufSt c m P ∗ R) ⊢ WPc c (K fun j => g (r.emb j)) Q) :
    iprop(A ∗ bufSt c m P ∗ R) ⊢ WPc c ((Prog.lift (TpuEff.load m r hl) : Prg F _) >>= K) Q :=
  bufSt_elim m fun f hf => load_step m r (View.set_slice_subset _ _) keep2 ((bufSt_intro m f hf).trans (h _ hf))

theorem store_ex {w : r.shape.Idx → Elt F e} {hx hm} {K : PUnit → Prg F β}
    (hP : ∀ g g', P g → (∀ j, g' (r.emb j) = w j) → (∀ i, (∀ j, i ≠ r.emb j) → g' i = g i) → P' g')
    (h : iprop(A ∗ bufSt c m P' ∗ R) ⊢ WPc c (K ⟨⟩) Q) :
    iprop(A ∗ bufSt c m P ∗ R) ⊢ WPc c ((Prog.lift (TpuEff.store m r w Finset.univ hx hm) : Prg F _) >>= K) Q := by
  refine bufSt_elim m fun f hf => store_step m r (View.set_slice_subset _ _) keep2 ((bufSt_intro m _ ?_).trans h)
  exact hP _ _ hf (read_write_in (c := c) m r f w) (read_write_out (c := c) m r f w)

end BufSt

/-! ## The context buffer -/

/-- The first `n` stripes hold their heads. -/
def ctxOk (X : Inp F) (n : ℕ) (f : S2x512x512.Idx → Elt F .bf16) : Prop :=
  ∀ i, 8 * (i 0).val + (i 2).val / 64 < n → f i = ctxV X i

abbrev ctxSt (c : Dev nD) (X : Inp F) (n : ℕ) : SP F := bufSt c ctxM (ctxOk X n)

section Ctx
variable {c : Dev nD} {X : Inp F} {β : Type} {R : SP F} {Q : β → SP F}

theorem ld_ctx_any {n : ℕ} (r : Rect S2x512x512) {hl} {K : (r.shape.Idx → Elt F .bf16) → Prg F β}
    (h : ∀ w, iprop(ins c X ∗ ctxSt c X n ∗ R) ⊢ WPc c (K w) Q) :
    iprop(ins c X ∗ ctxSt c X n ∗ R) ⊢ WPc c (Prog.lift (TpuEff.load ctxM r hl) >>= K) Q :=
  load_ex ctxM r fun _ _ => h _

set_option backward.isDefEq.respectTransparency false in
theorem ctxOk_step (b : Fin 2) (hd : Fin 8) {n : ℕ} (hn : n = 8 * b.val + hd.val) (inb) (g g' : S2x512x512.Idx → Elt F .bf16) (hf : ctxOk X n g)
    (h1 : ∀ j, g' ((Rect.unit (s := S2x512x512) ![b.val, 0, 64 * hd.val] S1x512x64.size inb).emb j) = headV X b hd j)
    (h2 : ∀ i, (∀ j, i ≠ (Rect.unit (s := S2x512x512) ![b.val, 0, 64 * hd.val] S1x512x64.size inb).emb j) → g' i = g i) : ctxOk X (n + 1) g' := by
  intro i hi
  have b2 : (i 2).val < 512 := (i 2).isLt
  by_cases hm : 8 * (i 0).val + (i 2).val / 64 < n
  · rw [h2 i, hf i hm]
    intro j hj
    have e0 : (i 0).val = b.val + (j 0).val := by rw [hj]; exact ValueKit.rect_emb_unit_val _ _ inb j 0
    have e2 : (i 2).val = 64 * hd.val + (j 2).val := by rw [hj]; exact ValueKit.rect_emb_unit_val _ _ inb j 2
    rw [e0, e2] at hm
    have : (j 2).val < 64 := (j 2).isLt
    omega
  · have hb := hd.isLt
    have h0 : (i 0).val = b.val := by omega
    have h3 : (i 2).val / 64 = hd.val := by omega
    have hj2 : (i 2).val % 64 < 64 := Nat.mod_lt _ (by decide)
    let J : S1x512x64.Idx := fun | ⟨0, _⟩ => ⟨0, Nat.one_pos⟩ | ⟨1, _⟩ => ⟨(i 1).val, (i 1).isLt⟩ | ⟨2, _⟩ => ⟨(i 2).val % 64, hj2⟩
    have e : i = (Rect.unit (s := S2x512x512) ![b.val, 0, 64 * hd.val] S1x512x64.size inb).emb J := by
      have k0 : (i 0).val = b.val + 0 := by omega
      have k1 : (i 1).val = 0 + (i 1).val := by omega
      have k2 : (i 2).val = 64 * hd.val + (i 2).val % 64 := by omega
      funext a
      match a with
      | ⟨0, _⟩ => exact Fin.ext (Eq.trans k0 (ValueKit.rect_emb_unit_val _ _ inb J 0).symm)
      | ⟨1, _⟩ => exact Fin.ext (Eq.trans k1 (ValueKit.rect_emb_unit_val _ _ inb J 1).symm)
      | ⟨2, _⟩ => exact Fin.ext (Eq.trans k2 (ValueKit.rect_emb_unit_val _ _ inb J 2).symm)
    have eb : (⟨(i 0).val, (i 0).isLt⟩ : Fin 2) = b := Fin.ext h0
    have eh : (⟨(i 2).val / 64, by omega⟩ : Fin 8) = hd := Fin.ext h3
    have key : ∀ (b' : Fin 2) (hd' : Fin 8), b' = b → hd' = hd → headV X b' hd' J = headV X b hd J := by rintro _ _ rfl rfl; rfl
    have ev : ctxV X i = headV X b hd J := key _ _ eb eh
    rw [ev, ← h1 J, ← e]

theorem st_ctx (b : Fin 2) (hd : Fin 8) {n : ℕ} {off inb hx hm} {w : FVec F S1x512x64 .bf16} {K : PUnit → Prg F β} (e : off = ![b.val, 0, 64 * hd.val])
    (hn : n = 8 * b.val + hd.val) (hw : w = headV X b hd)
    (h : iprop(ins c X ∗ ctxSt c X (n + 1) ∗ R) ⊢ WPc c (K ⟨⟩) Q) :
    iprop(ins c X ∗ ctxSt c X n ∗ R) ⊢ WPc c (Prog.lift (TpuEff.store ctxM (Rect.unit (s := S2x512x512) off S1x512x64.size inb) w Finset.univ hx hm) >>= K) Q := by
  subst e hw
  exact store_ex ctxM _ (fun g g' => ctxOk_step b hd hn inb g g') h

set_option backward.isDefEq.respectTransparency false in
theorem ld_ctx_pl (b : Fin 2) {n : ℕ} {off inb hl} {K : Vec F S1x512x512 .bf16 → Prg F β} (e : off = ![b.val, 0, 0]) (hn : 8 * b.val + 8 ≤ n)
    (h : iprop(ins c X ∗ ctxSt c X n ∗ R) ⊢ WPc c (K (ctxPl X b)) Q) :
    iprop(ins c X ∗ ctxSt c X n ∗ R) ⊢ WPc c (Prog.lift (TpuEff.load ctxM (Rect.unit (s := S2x512x512) off S1x512x512.size inb).toLoadRect hl) >>= K) Q := by
  subst e
  refine load_ex ctxM (Rect.unit (s := S2x512x512) ![b.val, 0, 0] S1x512x512.size inb) fun g hg => ?_
  have ev : (fun j => g ((Rect.unit (s := S2x512x512) ![b.val, 0, 0] S1x512x512.size inb).emb j)) = ctxPl X b := by
    funext i
    refine hg _ ?_
    have h0 : (((Rect.unit (s := S2x512x512) ![b.val, 0, 0] S1x512x512.size inb).emb i) 0).val = b.val + (i 0).val := ValueKit.rect_emb_unit_val _ _ inb i 0
    have h2 : (((Rect.unit (s := S2x512x512) ![b.val, 0, 0] S1x512x512.size inb).emb i) 2).val = 0 + (i 2).val := ValueKit.rect_emb_unit_val _ _ inb i 2
    have h0' : (i 0).val < 1 := (i 0).isLt
    have h2' : (i 2).val < 512 := (i 2).isLt
    rw [h0, h2]; omega
  rw [ev]; exact h

end Ctx

end Cert.KernelIdeal.Talk

end
-- ==== Proof.Comm.lean ====
/-
  The steps of the body that talk to other devices: the barrier, the transfers, the waits.
-/
module

public import proofs.«01_k».proof.Proof.Comp
public import Idealize.ShloMosaic.Lib.ViewIndex

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## What a transfer leaves -/

section Landing
variable (sv : Dev nD → (cc0_scratch0 : Ref sig .tc).ty.Contents (Elt F)) (rv : Dev nD → (cc0_scratch3 : Ref sig .tc).ty.Contents (Elt F))

/-- Points-tos whose view reads alike are alike. -/
theorem pts_of_read {c : Dev nD} {s : Shape} {e : EltTy} (m : Memref sig .tc .vmem s e) (f g : Buf (Elt F) (m.view.loc (c : Thread nD τ)))
    (h : m.view.read (Elt F) f = m.view.read (Elt F) g) :
    (m.view.loc (c : Thread nD τ) ↦[m.view.set]{fullShare} f : SP F) = (m.view.loc (c : Thread nD τ) ↦[m.view.set]{fullShare} g) := by
  refine pointsTo_congr fun i hi => ?_
  obtain ⟨j, -, rfl⟩ := Finset.mem_map.mp hi
  exact View.eq_of_read_eq (v := m.view) (congrFun h j)

theorem a2aV_at (p : Dev nD) (k : Fin 15) (i : S15x64x768.Idx) (h0 : (i 0).val = k.val) (J : S1024x768.Idx)
    (h1 : (J 0).val = 64 * p.val + (i 1).val) (h2 : (J 1).val = (i 2).val) : a2aV sv p i = sv (peer p k.rev) J := by
  have ek : (⟨(i 0).val, (i 0).isLt⟩ : Fin 15) = k := Fin.ext h0
  have eJ : J = (fun | ⟨0, _⟩ => ⟨64 * p.val + (i 1).val, by have h1 : (i 1).val < 64 := (i 1).isLt; have h2 : p.val < 16 := p.isLt; show _ < 1024; omega⟩ | ⟨1, _⟩ => ⟨(i 2).val, (i 2).isLt⟩ : S1024x768.Idx) := by
    funext a
    match a with
    | ⟨0, _⟩ => exact Fin.ext h1
    | ⟨1, _⟩ => exact Fin.ext h2
  rw [eJ, ← ek]; rfl

theorem land_slot (c : Dev nD) (k : Fin 15) (fd : (cc0_scratch2 : Ref sig .tc).ty.Contents (Elt F)) :
    ((slotM k).view.loc (peer c k : Thread nD τ) ↦[(slotM k).view.set]{fullShare}
        ((slotM k).view.write (Elt F) fd ((sndC (peer c k)).view.read (Elt F) (sv c)) Finset.univ) : SP F)
      = slotPts (peer c k) k (a2aV sv (peer c k)) := by
  refine pts_of_read (slotM k) _ _ ?_
  rw [View.read_write_univ]
  funext j
  have hr : (slotM k).view.read (Elt F) (a2aV sv (peer c k)) j
      = a2aV sv (peer c k) ((Rect.unit (s := S15x64x768) ![k.val, 0, 0] S1x64x768.size (inbS k)).emb (Fin.cons ⟨0, Nat.one_pos⟩ j)) := by
    refine (congrFun (Memref.read_squeeze_slice a2aM (Rect.unit (s := S15x64x768) ![k.val, 0, 0] S1x64x768.size (inbS k)) (fun _ => rfl)
      squeezes_S1x64x768_S64x768 squeezes_S1x64x768_S64x768.numel_eq (a2aV sv (peer c k))) j).trans ?_
    exact shapeCast_dropUnit_apply ![64, 768] _ _ j
  rw [hr]
  refine Eq.trans ?_ (a2aV_at sv (peer c k) k _ ?_ ((Rect.unit (s := S1024x768) ![64 * (peer c k).val, 0] S64x768.size (inbR (peer c k))).emb j) ?_ ?_).symm
  · rw [peer_peer]; rfl
  · exact ValueKit.rect_emb_unit_val _ _ (inbS k) _ 0
  · rw [ValueKit.rect_emb_unit_val, ValueKit.rect_emb_unit_val]
    show 64 * (peer c k).val + (j 0).val = 64 * (peer c k).val + (0 + (j 0).val); omega
  · rw [ValueKit.rect_emb_unit_val, ValueKit.rect_emb_unit_val]
    show 0 + (j 1).val = 0 + (j 1).val; rfl

theorem flatV_at (p : Dev nD) (i : S1024x768.Idx) (J : S64x768.Idx) (h0 : (i 0).val = 64 * p.val + (J 0).val) (h1 : (i 1).val = (J 1).val) :
    flatV rv i = rv p J := by
  have hJ : (J 0).val < 64 := (J 0).isLt
  have ep : (⟨(i 0).val / 64, by have h : (i 0).val < 1024 := (i 0).isLt; show _ < 16; omega⟩ : Dev nD) = p := Fin.ext (by show (i 0).val / 64 = p.val; omega)
  have eJ : J = (fun | ⟨0, _⟩ => ⟨(i 0).val % 64, by show _ < 64; omega⟩ | ⟨1, _⟩ => ⟨(i 1).val, (i 1).isLt⟩ : S64x768.Idx) := by
    funext a
    match a with
    | ⟨0, _⟩ => exact Fin.ext (by show (J 0).val = (i 0).val % 64; omega)
    | ⟨1, _⟩ => exact Fin.ext h1.symm
  exact congr (congrArg rv ep) eJ.symm

theorem land_flat (c q : Dev nD) (fd : (cc0_scratch4 : Ref sig .tc).ty.Contents (Elt F)) :
    ((flatC c).view.loc (q : Thread nD τ) ↦[(flatC c).view.set]{fullShare}
        ((flatC c).view.write (Elt F) fd ((redM : Memref sig .tc .vmem S64x768 .bf16).view.read (Elt F) (rv c)) Finset.univ) : SP F)
      = flatPts q c (flatV rv) := by
  refine pts_of_read (flatC c) _ _ ?_
  rw [View.read_write_univ]
  funext j
  refine Eq.trans ?_ (flatV_at rv c ((Rect.unit (s := S1024x768) ![64 * c.val, 0] S64x768.size (inbR c)).emb j) j ?_ ?_).symm
  · rfl
  · exact ValueKit.rect_emb_unit_val (s := S1024x768) ![64 * c.val, 0] S64x768.size (inbR c) j 0
  · exact (ValueKit.rect_emb_unit_val (s := S1024x768) ![64 * c.val, 0] S64x768.size (inbR c) j 1).trans (Nat.zero_add _)

end Landing

/-! ## What every device knows -/

variable (sv : Dev nD → (cc0_scratch0 : Ref sig .tc).ty.Contents (Elt F)) (rv : Dev nD → (cc0_scratch3 : Ref sig .tc).ty.Contents (Elt F))
variable (κ : GSem nD τ sig → ℕ)

/-- Every cell's invariant, that every barrier cell is open, and the levels. -/
def Gd : SP F :=
  iprop((bigSep Finset.univ fun c : Dev nD => iprop(cellInv ER (Rd sv rv) (κ (barCell c)) (barCell c) ∗ reached ER (barCell c) 0))
    ∗ (bigSep Finset.univ fun t : Dev nD × Fin 4 × Fin 15 => cellInv ER (Rd sv rv) (κ (cell t.1 t.2.1 t.2.2)) (cell t.1 t.2.1 t.2.2))
    ∗ levAts L lv)

instance Gd_persistent : BI.Persistent (Gd sv rv κ) := by unfold Gd; infer_instance

theorem bs_elim {I : Type} [Fintype I] [DecidableEq I] (Φ : I → SP F) (i : I) : bigSep Finset.univ Φ ⊢ Φ i := bigSep_elim (Finset.mem_univ i)

theorem Gd_bar (c : Dev nD) : Gd sv rv κ ⊢ iprop(cellInv ER (Rd sv rv) (κ (barCell c)) (barCell c) ∗ reached ER (barCell c) 0) := by
  unfold Gd
  iintro ⟨H, -, -⟩
  iapply (bs_elim (fun c : Dev nD => iprop(cellInv ER (Rd sv rv) (κ (barCell c)) (barCell c) ∗ reached ER (barCell c) 0)) c)
  iexact H
theorem Gd_cell (c : Dev nD) (j : Fin 4) (k : Fin 15) : Gd sv rv κ ⊢ cellInv ER (Rd sv rv) (κ (cell c j k)) (cell c j k) := by
  unfold Gd
  iintro ⟨-, H, -⟩
  iapply (bs_elim (fun t : Dev nD × Fin 4 × Fin 15 => cellInv ER (Rd sv rv) (κ (cell t.1 t.2.1 t.2.2)) (cell t.1 t.2.1 t.2.2)) (c, j, k))
  iexact H
theorem Gd_lev : Gd sv rv κ ⊢ (levAts L lv : SP F) := by
  unfold Gd; iintro ⟨-, -, H⟩; iexact H

/-- What the device owes, beside what every device knows. -/
def OW (c : Dev nD) (O : CellTallies nD τ sig Unit) : SP F := iprop(Gd sv rv κ ∗ ∃ W, owes (c : Thread nD τ) O W)

/-! ## The barrier -/

def sigK (c : Dev nD) (k : Fin 15) (b : Bool) : SP F :=
  if b then iprop(emp) else iprop(dutyTok ER (barCell (peer c k)) 0 k.rev ∗ barPay (peer c k) k.rev)

/-- After `n` of the barrier's signals. -/
def SigSt (c : Dev nD) (n : ℕ) : SP F :=
  iprop(OW sv rv κ c (debt c (Finset.univ.filter fun k => n ≤ k.val) Finset.univ Finset.univ)
    ∗ bigSep Finset.univ fun k => sigK c k (decide (k.val < n)))

theorem from_succ (k : Fin 15) : (Finset.univ.filter fun j : Fin 15 => k.val ≤ j.val) = insert k (Finset.univ.filter fun j : Fin 15 => k.val + 1 ≤ j.val) := by
  revert k; decide +kernel
theorem from_notMem (k : Fin 15) : k ∉ (Finset.univ.filter fun j : Fin 15 => k.val + 1 ≤ j.val) := by
  revert k; decide +kernel

section Steps
variable {sv rv κ} {c : Dev nD} {β : Type} {R : SP F} {Q : β → SP F} {K : PUnit → Prg F β}

theorem sig_step (k : Fin 15) {n : ℕ} (hk : k.val = n) {dv : Dev nD} (hd : dv = peer c k) {sm : Sem sig} (hs : sm = barrier0)
    (h : iprop(SigSt sv rv κ c (n + 1) ∗ R) ⊢ WPc c (K ⟨⟩) Q) :
    iprop(SigSt sv rv κ c n ∗ R) ⊢ WPc c ((semSignalWord dv sm 1#32 : Prg F PUnit) >>= K) Q := by
  subst hd hs hk
  unfold SigSt OW
  iintro ⟨⟨⟨#HG, %W, HO⟩, HB⟩, HR⟩
  ihave HB := (bigSep_univ_update (Φ := fun j : Fin 15 => sigK (F := F) c j (decide (j.val < k.val))) (Ψ := fun j : Fin 15 => sigK c j (decide (j.val < k.val + 1))) k
    (fun j hj => by
      have : j.val ≠ k.val := fun e => hj (Fin.ext e)
      have e : decide (j.val < k.val + 1) = decide (j.val < k.val) := by rw [decide_eq_decide]; omega
      rw [e])) $$ HB
  icases HB with ⟨Hk, HB⟩
  have e1 : sigK (F := F) c k (decide (k.val < k.val)) = iprop(dutyTok ER (barCell (peer c k)) 0 k.rev ∗ barPay (peer c k) k.rev) := by
    rw [decide_eq_false (Nat.lt_irrefl _)]; rfl
  have e2 : sigK (F := F) c k (decide (k.val < k.val + 1)) = iprop(emp) := by rw [decide_eq_true (Nat.lt_succ_self _)]; rfl
  ihave Hk := (Entails.of_eq e1) $$ Hk
  icases Hk with ⟨Ht, Hp⟩
  ihave HI := (Gd_bar sv rv κ (peer c k)) $$ HG
  icases HI with ⟨#HI, #Hr⟩
  iapply (Rounds.wp_signal Variants.none ER (Rd sv rv) (c : Thread nD τ) none (dst := (peer c k : Thread nD τ)) (sem := barrier0) (r := 0) (d := k.rev)
    (κ := κ (barCell (peer c k))) (by rw [duties_bar]; exact Finset.mem_univ _) (amount_bar sv rv (peer c k) k.rev) ()
    (O₀ := debt c (Finset.univ.filter fun j => k.val ≤ j.val) Finset.univ Finset.univ) (debt c (Finset.univ.filter fun j => k.val + 1 ≤ j.val) Finset.univ Finset.univ)
    (by rw [from_succ]; exact debt_bar c _ _ _ k (from_notMem k))) $$ [HO Ht Hp]
  · isplitr; · iexact HI
    isplitl [HO]; · iexact HO
    isplitl [Ht]; · iexact Ht
    isplitl [Hp]; · rw [payload_bar]; iexact Hp
    iexact Hr
  iintro HO
  iapply h
  unfold SigSt OW
  isplitr [HR]
  · isplitl [HO]
    · isplitr; · iexact HG
      iexists W; iexact HO
    iapply HB; rw [e2]; iempintro
  iexact HR

/-- The device's own barrier cell: a credit of fifteen, its position. -/
def BarSt (c : Dev nD) : SP F := iprop(cred (tallyAt (barCell c) () 15) ∗ atPos ER (barCell c) 0 ∅ 0)
/-- What the barrier brought, the cell's count in hand at zero. -/
def BarGot (c : Dev nD) : SP F := iprop((bigSep Finset.univ fun k => barPay c k) ∗ semVal (barCell c) 0)

theorem bar_step {sm : Sem sig} (hs : sm = barrier0)
    (h : iprop(OW sv rv κ c (debt c ∅ Finset.univ Finset.univ) ∗ BarGot c ∗ R) ⊢ WPc c (K ⟨⟩) Q) :
    iprop(OW sv rv κ c (debt c ∅ Finset.univ Finset.univ) ∗ BarSt c ∗ R) ⊢ WPc c ((semWaitWord sm 15#32 : Prg F PUnit) >>= K) Q := by
  subst hs
  have hM := (@Gd_lev F _ _ sv rv κ).trans (mayWait_bar c)
  unfold OW BarSt
  iintro ⟨⟨#HG, %W, HO⟩, ⟨Hc, Ha⟩, HR⟩
  ihave HI := (Gd_bar sv rv κ c) $$ HG
  icases HI with ⟨#HI, -⟩
  iapply (Rounds.wp_wait_rest_token Variants.none ER (Rd sv rv) (c : Thread nD τ) none (κ := κ (barCell c))
    (wpE_semWait_eq Variants.none (c : Thread nD τ) none Set.univ) (Set.mem_univ _) () (O := debt c ∅ Finset.univ Finset.univ) (W := W) (R := 0) (m := 0) (T := ∅)
    ((Nat.zero_add 15).trans (expect_bar sv rv c).symm)) $$ [HO Hc Ha]
  · isplitr; · iexact HI
    isplitl [Hc]; · iexact Hc
    isplitl [HO]; · iexact HO
    isplitr
    · iapply hM; iexact HG
    iexact Ha
  iintro ⟨HO, Ha, -, Hp⟩
  ihave Hp := (Entails.of_eq (rest_bar sv rv c)) $$ Hp
  imod (Rounds.cell_close ER (Rd sv rv) (Set.mem_univ (κ (barCell c))) id (duties_later sv rv (barCell c))) $$ [Ha] with Hs
  · isplitr; · iexact HI
    iexact Ha
  iapply h
  unfold OW BarGot
  isplitl [HO]
  · isplitr; · iexact HG
    iexists _; iexact HO
  isplitr [HR]
  · isplitl [Hp]; · iexact Hp
    iexact Hs
  iexact HR

end Steps

/-! ## The waits for transfers -/

def waitK (c : Dev nD) (j : Fin 4) (k : Fin 15) (b : Bool) : SP F :=
  if b then iprop(semVal (cell c j k) 0 ∗ dmaPay sv rv c j.val k) else iprop(cred (tallyAt (cell c j k) () N) ∗ atPos ER (cell c j k) 0 ∅ 0)

/-- After the first `n` waits of family `j`. -/
def WSt (c : Dev nD) (j : Fin 4) (n : ℕ) : SP F := bigSep Finset.univ fun k => waitK sv rv c j k (decide (k.val < n))

section Waits
variable {sv rv κ} {c : Dev nD} {β : Type} {R : SP F} {Q : β → SP F} {K : PUnit → Prg F β}

theorem wait_step (j : Fin 4) (k : Fin 15) {n : ℕ} (hk : k.val = n) {O : CellTallies nD τ sig Unit}
    (hO : (levAts L lv : SP F) ⊢ MayWait (c : Thread nD τ) (.dma (dsem j k)) () O)
    {sp sp' : Space} {s s' : Shape} {e e' : EltTy} {sem : DmaSem sig} {src : Memref sig .tc sp' s' e'} {dst : Memref sig .tc sp s e} {hsrc hdst}
    (hs : sem = dsem j k) (hN : dst.view.dmaCredit = N)
    (h : iprop(OW sv rv κ c O ∗ WSt sv rv c j (n + 1) ∗ R) ⊢ WPc c (K ⟨⟩) Q) :
    iprop(OW sv rv κ c O ∗ WSt sv rv c j n ∗ R) ⊢ WPc c ((Prog.lift (TpuEff.waitDma2 sem src dst hsrc hdst) : Prg F PUnit) >>= K) Q := by
  subst hs hk
  have hM := (@Gd_lev F _ _ sv rv κ).trans hO
  unfold OW WSt
  iintro ⟨⟨#HG, %W, HO⟩, HB, HR⟩
  ihave HB := (bigSep_univ_update (Φ := fun i : Fin 15 => waitK sv rv c j i (decide (i.val < k.val))) (Ψ := fun i : Fin 15 => waitK sv rv c j i (decide (i.val < k.val + 1))) k
    (fun i hi => by
      have : i.val ≠ k.val := fun e => hi (Fin.ext e)
      have e : decide (i.val < k.val + 1) = decide (i.val < k.val) := by rw [decide_eq_decide]; omega
      rw [e])) $$ HB
  icases HB with ⟨Hk, HB⟩
  have e1 : waitK sv rv c j k (decide (k.val < k.val)) = iprop(cred (tallyAt (cell c j k) () N) ∗ atPos ER (cell c j k) 0 ∅ 0) := by
    rw [decide_eq_false (Nat.lt_irrefl _)]; rfl
  have e2 : waitK sv rv c j k (decide (k.val < k.val + 1)) = iprop(semVal (cell c j k) 0 ∗ dmaPay sv rv c j.val k) := by
    rw [decide_eq_true (Nat.lt_succ_self _)]; rfl
  ihave Hk := (Entails.of_eq e1) $$ Hk
  icases Hk with ⟨Hc, Ha⟩
  ihave HI := (Gd_cell sv rv κ c j k) $$ HG
  icases HI with #HI
  iapply (Rounds.wp_wait_rest_token Variants.none ER (Rd sv rv) (c : Thread nD τ) none (κ := κ (cell c j k))
    (wpE_waitDma2_eq (src := src) (dst := dst) (hsrc := hsrc) (hdst := hdst) Variants.none (c : Thread nD τ) none Set.univ) (Set.mem_univ _) () (O := O) (W := W) (R := 0) (m := 0) (T := ∅)
    (by rw [hN, Nat.zero_add, expect_cell])) $$ [HO Hc Ha]
  · isplitr; · iexact HI
    isplitl [Hc]; · rw [hN]; iexact Hc
    isplitl [HO]; · iexact HO
    isplitr
    · iapply hM; iexact HG
    iexact Ha
  iintro ⟨HO, Ha, -, Hp⟩
  ihave Hp := (Entails.of_eq (rest_cell sv rv c j k)) $$ Hp
  imod (Rounds.cell_close ER (Rd sv rv) (Set.mem_univ (κ (cell c j k))) id (duties_later sv rv (cell c j k))) $$ [Ha] with Hs
  · isplitr; · iexact HI
    iexact Ha
  iapply h
  unfold OW WSt
  isplitl [HO]
  · isplitr; · iexact HG
    iexists _; iexact HO
  isplitr [HR]
  · iapply HB; rw [e2]
    isplitl [Hs]; · iexact Hs
    iexact Hp
  iexact HR

end Waits

/-! ## The first exchange's departures -/

/-- What the transfer to slot `k`'s device still needs beside the rows. -/
def unsent (c : Dev nD) (k : Fin 15) : SP F :=
  iprop(dutyTok ER (cell c 0 k) 0 0 ∗ reached ER (cell c 0 k) 0 ∗ dutyTok ER (cell (peer c k) 1 k) 0 0 ∗ reached ER (cell (peer c k) 1 k) 0
    ∗ ∃ f, slotPts (peer c k) k f)

/-- Rows not written, rows ready, sent. -/
def sendK (c : Dev nD) (k : Fin 15) (a : Fin 3) : SP F :=
  if a = 2 then cred (tallyAt (cell c 0 k) () N) else if a = 1 then iprop(unsent c k ∗ sndPts c (peer c k) (sv c)) else unsent c k

def SendSt (c : Dev nD) (σ : Fin 15 → Fin 3) : SP F :=
  iprop(OW sv rv κ c (debt c ∅ (Finset.univ.filter fun k => σ k ≠ 2) Finset.univ) ∗ bigSep Finset.univ fun k => sendK sv c k (σ k))

theorem unsent_insert (σ : Fin 15 → Fin 3) (k : Fin 15) (h : σ k = 1) :
    (Finset.univ.filter fun j => σ j ≠ 2) = insert k (Finset.univ.filter fun j => Function.update σ k 2 j ≠ 2) := by
  ext j
  rw [Finset.mem_insert, Finset.mem_filter, Finset.mem_filter]
  by_cases e : j = k
  · subst e; simp [h]
  · simp [e]
theorem unsent_notMem (σ : Fin 15 → Fin 3) (k : Fin 15) : k ∉ (Finset.univ.filter fun j => Function.update σ k 2 j ≠ 2) := by simp

section Sends
variable {sv rv κ} {c : Dev nD} {β : Type} {R : SP F} {Q : β → SP F} {K : PUnit → Prg F β}

theorem send_core {σ : Fin 15 → Fin 3} (k : Fin 15) (hσ : σ k = 1) {s1 s2 : DmaSem sig} {src dst : Memref sig .tc .vmem S64x768 .bf16} {d : Dev nD} {hsc hw1 hw2 ht}
    (hs1 : s1 = dsem 0 k) (hs2 : s2 = dsem 1 k) (hsrc : src = sndC (peer c k)) (hdst : dst = slotM k) (hd : d = peer c k)
    (h : iprop(SendSt sv rv κ c (Function.update σ k 2) ∗ R) ⊢ WPc c (K ⟨⟩) Q) :
    iprop(SendSt sv rv κ c σ ∗ R)
      ⊢ WPc c ((Prog.lift (TpuEff.enqueueDma src (DmaTarget.remote (Dev.tc d) dst (.dma s1) hsc) (.dma s2) hw1 hw2 ht) : Prg F PUnit) >>= K) Q := by
  subst hs1 hs2 hsrc hdst hd
  unfold SendSt OW
  iintro ⟨⟨⟨#HG, %W, HO⟩, HB⟩, HR⟩
  ihave HB := (bigSep_univ_update (Φ := fun j : Fin 15 => sendK sv c j (σ j)) (Ψ := fun j : Fin 15 => sendK sv c j (Function.update σ k 2 j)) k
    (fun j hj => by rw [Function.update_of_ne hj])) $$ HB
  icases HB with ⟨Hk, HB⟩
  have e1 : sendK sv c k (σ k) = iprop(unsent c k ∗ sndPts c (peer c k) (sv c)) := by rw [hσ]; rfl
  have e2 : sendK sv c k (Function.update σ k 2 k) = cred (tallyAt (cell c 0 k) () N) := by rw [Function.update_self]; rfl
  ihave Hk := (Entails.of_eq e1) $$ Hk
  unfold unsent
  icases Hk with ⟨⟨Ht0, #Hr0, Ht1, #Hr1, %fd, Hd⟩, Hs⟩
  ihave HI0 := (Gd_cell sv rv κ c 0 k) $$ HG
  icases HI0 with #HI0
  ihave HI1 := (Gd_cell sv rv κ (peer c k) 1 k) $$ HG
  icases HI1 with #HI1
  iapply (Rounds.wp_send_pointsTo Variants.none ER (Rd sv rv) (c : Thread nD τ) none (c' := (peer c k : Thread nD τ)) (src := sndC (peer c k)) (dst := slotM k)
    (sS := .dma (dsem 0 k)) (sem := .dma (dsem 1 k)) (q := fullShare) (fs := sv c) (κ₁ := κ (cell c 0 k)) (κ₂ := κ (cell (peer c k) 1 k))
    (r₁ := 0) (r₂ := 0) (d₁ := 0) (d₂ := 0) (fd := fd)
    (by rw [duties_cell]; exact Finset.mem_singleton_self _) (by rw [duties_cell]; exact Finset.mem_singleton_self _)
    () () N (amount_slot k _) (amount_cell sv rv c 0 k 0) (amount_cell sv rv (peer c k) 1 k 0)
    (O₀ := debt c ∅ (Finset.univ.filter fun j => σ j ≠ 2) Finset.univ)
    (debt c ∅ (Finset.univ.filter fun j => Function.update σ k 2 j ≠ 2) Finset.univ)
    (by rw [unsent_insert σ k hσ]; exact debt_s1 c _ _ k (unsent_notMem σ k)) (W := W)
    (by rw [payload_s1s]) (by rw [payload_s1r]; exact Entails.of_eq (land_slot sv c k fd))) $$ [HO Ht0 Ht1 Hd Hs]
  · isplitr; · iexact HI0
    isplitr; · iexact HI1
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro ⟨Hc, HO⟩
  iapply h
  unfold SendSt OW
  isplitr [HR]
  · isplitl [HO]
    · isplitr; · iexact HG
      iexists W; iexact HO
    iapply HB; rw [e2]; iexact Hc
  iexact HR

/-- A transfer made under a condition. -/
theorem send_if {σ σ' : Fin 15 → Fin 3} {cnd : Prop} {dcd : Decidable cnd} {op : cnd → Prg F PUnit}
    (k : Fin 15) (hσ1 : cnd → σ k = 1) (hσ2 : cnd → Function.update σ k 2 = σ') (hσ3 : ¬ cnd → σ = σ')
    (hop : ∀ hc : cnd, ∀ {R' : SP F} {K' : PUnit → Prg F β}, σ k = 1 →
      (iprop(SendSt sv rv κ c (Function.update σ k 2) ∗ R') ⊢ WPc c (K' ⟨⟩) Q) → iprop(SendSt sv rv κ c σ ∗ R') ⊢ WPc c (op hc >>= K') Q)
    (h : iprop(SendSt sv rv κ c σ' ∗ R) ⊢ WPc c (K ⟨⟩) Q) :
    iprop(SendSt sv rv κ c σ ∗ R) ⊢ WPc c (if hc : cnd then op hc >>= K else K ⟨⟩) Q := by
  by_cases hc : cnd
  · rw [dif_pos hc]; exact hop hc (hσ1 hc) (by rw [hσ2 hc]; exact h)
  · rw [dif_neg hc, hσ3 hc]; exact h

/-- The departures to devices below eight, the first `n` made. -/
def loSt (c : Dev nD) (n : ℕ) (k : Fin 15) : Fin 3 := if (peer c k).val < 8 then (if k.val < n then 2 else 1) else 0
/-- The departures, those to devices from eight on made up to the `n`-th. -/
def hiSt (c : Dev nD) (n : ℕ) (k : Fin 15) : Fin 3 := if (peer c k).val < 8 then 2 else if k.val < n then 2 else 1

theorem loSt_ready (k : Fin 15) : (peer c k).val < 8 → loSt c k.val k = 1 := by revert c k; decide +kernel
theorem loSt_sent (k : Fin 15) : (peer c k).val < 8 → Function.update (loSt c k.val) k 2 = loSt c (k.val + 1) := by revert c k; decide +kernel
theorem loSt_skip (k : Fin 15) : ¬ (peer c k).val < 8 → loSt c k.val = loSt c (k.val + 1) := by revert c k; decide +kernel
theorem hiSt_ready (k : Fin 15) : 8 ≤ (peer c k).val → hiSt c k.val k = 1 := by revert c k; decide +kernel
theorem hiSt_sent (k : Fin 15) : 8 ≤ (peer c k).val → Function.update (hiSt c k.val) k 2 = hiSt c (k.val + 1) := by revert c k; decide +kernel
theorem hiSt_skip (k : Fin 15) : ¬ 8 ≤ (peer c k).val → hiSt c k.val = hiSt c (k.val + 1) := by revert c k; decide +kernel

theorem src_eq {off : Fin 2 → ℕ} {p : Dev nD} (e : off = ![64 * p.val, 0]) (inb) :
    (sndM.slice (Rect.unit (s := S1024x768) off S64x768.size inb) (fun _ => rfl) : Memref sig .tc .vmem S64x768 .bf16) = sndC p := by subst e; rfl

/-- The conditional transfer to slot `k`'s device when that device is below eight. -/
theorem send_lo (k : Fin 15) {n : ℕ} (hk : k.val = n) {cnd : Prop} {dcd : Decidable cnd} (hc : cnd ↔ (peer c k).val < 8) {op : cnd → Prg F PUnit}
    (hop : ∀ hc : cnd, ∀ {R' : SP F} {K' : PUnit → Prg F β} {σ : Fin 15 → Fin 3}, σ k = 1 →
      (iprop(SendSt sv rv κ c (Function.update σ k 2) ∗ R') ⊢ WPc c (K' ⟨⟩) Q) → iprop(SendSt sv rv κ c σ ∗ R') ⊢ WPc c (op hc >>= K') Q)
    (h : iprop(SendSt sv rv κ c (loSt c (n + 1)) ∗ R) ⊢ WPc c (K ⟨⟩) Q) :
    iprop(SendSt sv rv κ c (loSt c n) ∗ R) ⊢ WPc c (if hc : cnd then op hc >>= K else K ⟨⟩) Q := by
  subst hk
  exact send_if k (fun h => loSt_ready k (hc.mp h)) (fun h => loSt_sent k (hc.mp h)) (fun h => loSt_skip k fun h' => h (hc.mpr h'))
    (fun hcc _ _ hσ hh => hop hcc hσ hh) h

/-- The same when that device is from eight on. -/
theorem send_hi (k : Fin 15) {n : ℕ} (hk : k.val = n) {cnd : Prop} {dcd : Decidable cnd} (hc : cnd ↔ 8 ≤ (peer c k).val) {op : cnd → Prg F PUnit}
    (hop : ∀ hc : cnd, ∀ {R' : SP F} {K' : PUnit → Prg F β} {σ : Fin 15 → Fin 3}, σ k = 1 →
      (iprop(SendSt sv rv κ c (Function.update σ k 2) ∗ R') ⊢ WPc c (K' ⟨⟩) Q) → iprop(SendSt sv rv κ c σ ∗ R') ⊢ WPc c (op hc >>= K') Q)
    (h : iprop(SendSt sv rv κ c (hiSt c (n + 1)) ∗ R) ⊢ WPc c (K ⟨⟩) Q) :
    iprop(SendSt sv rv κ c (hiSt c n) ∗ R) ⊢ WPc c (if hc : cnd then op hc >>= K else K ⟨⟩) Q := by
  subst hk
  exact send_if k (fun h => hiSt_ready k (hc.mp h)) (fun h => hiSt_sent k (hc.mp h)) (fun h => hiSt_skip k fun h' => h (hc.mpr h'))
    (fun hcc _ _ hσ hh => hop hcc hσ hh) h

end Sends

/-! ## The second exchange's departures -/

def gathK (c : Dev nD) (k : Fin 15) (b : Bool) : SP F :=
  if b then cred (tallyAt (cell c 2 k) () N)
  else iprop(dutyTok ER (cell c 2 k) 0 0 ∗ reached ER (cell c 2 k) 0 ∗ dutyTok ER (cell (peer c k) 3 k) 0 0 ∗ reached ER (cell (peer c k) 3 k) 0
    ∗ (∃ f, flatPts (peer c k) c f) ∗ redPts c (Transfers.shareTok fullShare 15 k) (rv c))

def GathSt (c : Dev nD) (n : ℕ) : SP F :=
  iprop(OW sv rv κ c (debt c ∅ ∅ (Finset.univ.filter fun k => n ≤ k.val)) ∗ bigSep Finset.univ fun k => gathK rv c k (decide (k.val < n)))

section Gathers
variable {sv rv κ} {c : Dev nD} {β : Type} {R : SP F} {Q : β → SP F} {K : PUnit → Prg F β}

theorem dst_eq {off : Fin 2 → ℕ} {p : Dev nD} (e : off = ![64 * p.val, 0]) (inb) :
    (flatM.slice (Rect.unit (s := S1024x768) off S64x768.size inb) (fun _ => rfl) : Memref sig .tc .vmem S64x768 .bf16) = flatC p := by subst e; rfl

theorem gath_core (k : Fin 15) {n : ℕ} (hk : k.val = n) {s1 s2 : DmaSem sig} {dst : Memref sig .tc .vmem S64x768 .bf16} {d : Dev nD} {hsc hw1 hw2 ht}
    (hs1 : s1 = dsem 2 k) (hs2 : s2 = dsem 3 k) (hdst : dst = flatC c) (hd : d = peer c k)
    (h : iprop(GathSt sv rv κ c (n + 1) ∗ R) ⊢ WPc c (K ⟨⟩) Q) :
    iprop(GathSt sv rv κ c n ∗ R)
      ⊢ WPc c ((Prog.lift (TpuEff.enqueueDma redM (DmaTarget.remote (Dev.tc d) dst (.dma s1) hsc) (.dma s2) hw1 hw2 ht) : Prg F PUnit) >>= K) Q := by
  subst hs1 hs2 hdst hd hk
  unfold GathSt OW
  iintro ⟨⟨⟨#HG, %W, HO⟩, HB⟩, HR⟩
  ihave HB := (bigSep_univ_update (Φ := fun i : Fin 15 => gathK rv c i (decide (i.val < k.val))) (Ψ := fun i : Fin 15 => gathK rv c i (decide (i.val < k.val + 1))) k
    (fun i hi => by
      have : i.val ≠ k.val := fun e => hi (Fin.ext e)
      have e : decide (i.val < k.val + 1) = decide (i.val < k.val) := by rw [decide_eq_decide]; omega
      rw [e])) $$ HB
  icases HB with ⟨Hk, HB⟩
  have e1 : gathK rv c k (decide (k.val < k.val)) = iprop(dutyTok ER (cell c 2 k) 0 0 ∗ reached ER (cell c 2 k) 0 ∗ dutyTok ER (cell (peer c k) 3 k) 0 0
      ∗ reached ER (cell (peer c k) 3 k) 0 ∗ (∃ f, flatPts (peer c k) c f) ∗ redPts c (Transfers.shareTok fullShare 15 k) (rv c)) := by
    rw [decide_eq_false (Nat.lt_irrefl _)]; rfl
  have e2 : gathK rv c k (decide (k.val < k.val + 1)) = cred (tallyAt (cell c 2 k) () N) := by rw [decide_eq_true (Nat.lt_succ_self _)]; rfl
  ihave Hk := (Entails.of_eq e1) $$ Hk
  icases Hk with ⟨Ht0, #Hr0, Ht1, #Hr1, ⟨%fd, Hd⟩, Hs⟩
  ihave HI0 := (Gd_cell sv rv κ c 2 k) $$ HG
  icases HI0 with #HI0
  ihave HI1 := (Gd_cell sv rv κ (peer c k) 3 k) $$ HG
  icases HI1 with #HI1
  iapply (Rounds.wp_send_pointsTo Variants.none ER (Rd sv rv) (c : Thread nD τ) none (c' := (peer c k : Thread nD τ)) (src := redM) (dst := flatC c)
    (sS := .dma (dsem 2 k)) (sem := .dma (dsem 3 k)) (q := Transfers.shareTok fullShare 15 k) (fs := rv c) (κ₁ := κ (cell c 2 k)) (κ₂ := κ (cell (peer c k) 3 k))
    (r₁ := 0) (r₂ := 0) (d₁ := 0) (d₂ := 0) (fd := fd)
    (by rw [duties_cell]; exact Finset.mem_singleton_self _) (by rw [duties_cell]; exact Finset.mem_singleton_self _)
    () () N (amount_flat c _) (amount_cell sv rv c 2 k 0) (amount_cell sv rv (peer c k) 3 k 0)
    (O₀ := debt c ∅ ∅ (Finset.univ.filter fun j => k.val ≤ j.val))
    (debt c ∅ ∅ (Finset.univ.filter fun j => k.val + 1 ≤ j.val))
    (by rw [from_succ]; exact debt_s2 c _ k (from_notMem k)) (W := W)
    (by rw [payload_s2s]) (by rw [payload_s2r, peer_peer]; exact Entails.of_eq (land_flat rv c (peer c k) fd))) $$ [HO Ht0 Ht1 Hd Hs]
  · isplitr; · iexact HI0
    isplitr; · iexact HI1
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro ⟨Hc, HO⟩
  iapply h
  unfold GathSt OW
  isplitr [HR]
  · isplitl [HO]
    · isplitr; · iexact HG
      iexists W; iexact HO
    iapply HB; rw [e2]; iexact Hc
  iexact HR

end Gathers

end Cert.KernelIdeal.Talk

end
-- ==== Proof.Bufs.lean ====
/-
  The buffers cut into the pieces the transfers move, and the loads and stores of the send, landing, reduced, gathered
  and result buffers.
-/
module

public import proofs.«01_k».proof.Proof.Comm

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## Over the devices, over the slots -/

theorem erase_peers (c : Dev nD) : (Finset.univ : Finset (Dev nD)).erase c = Finset.univ.map ⟨peer c, peer_inj c⟩ := by
  revert c; decide +kernel

/-- Over all devices: this one, and the slots' devices. -/
theorem dev_split (c : Dev nD) (Φ : Dev nD → SP F) : bigSep Finset.univ Φ = iprop(Φ c ∗ bigSep Finset.univ fun k : Fin 15 => Φ (peer c k)) := by
  rw [bigSep_univ_at Φ c, erase_peers c, bigSep_map]; rfl
theorem slot_rev (Φ : Fin 15 → SP F) : bigSep Finset.univ (fun k : Fin 15 => Φ k.rev) = bigSep Finset.univ Φ :=
  (bigSep_univ_equiv Fin.revPerm Φ).symm

/-! ## The pieces of a buffer -/

/-- A points-to over a set cut into disjoint parts. -/
theorem cut {T : Type} {ℓ : Loc nD τ sig} {q : PosShare TreeShare} {f : Buf (Elt F) ℓ} (S : Finset (Idx ℓ)) (A : Finset T) (K : T → Finset (Idx ℓ))
    (hS : ∀ i, i ∈ S ↔ ∃ t ∈ A, i ∈ K t) (h : ∀ t t', t ≠ t' → Disjoint (K t) (K t')) :
    (ℓ ↦[S]{q} f : SP F) = bigSep A fun t => ℓ ↦[K t]{q} f := by
  have e : S = A.biUnion K := Finset.ext fun i => (hS i).trans Finset.mem_biUnion.symm
  rw [e]
  exact pointsTo_biUnion A K fun t _ t' _ => h t t'

theorem snd_in (i : S1024x768.Idx) : ∃ p : Dev nD, i ∈ (sndC p).view.set := by
  have h : (i 0).val < 1024 := (i 0).isLt
  refine ⟨⟨(i 0).val / 64, by show _ < 16; omega⟩, (mem_sndC _ i).mpr ?_⟩
  dsimp only; omega
theorem flat_in (i : S1024x768.Idx) : ∃ p : Dev nD, i ∈ (flatC p).view.set := by
  have h : (i 0).val < 1024 := (i 0).isLt
  refine ⟨⟨(i 0).val / 64, by show _ < 16; omega⟩, (mem_flatC _ i).mpr ?_⟩
  dsimp only; omega

theorem snd_whole (c : Dev nD) (f : (cc0_scratch0 : Ref sig .tc).ty.Contents (Elt F)) :
    (whPts c sndM f : SP F) = bigSep Finset.univ fun p => sndPts c p f :=
  cut (ℓ := (View.whole cc0_scratch0).loc (c : Thread nD τ)) (View.whole cc0_scratch0).set Finset.univ (fun p : Dev nD => (sndC p).view.set)
    (fun i => ⟨fun _ => (snd_in i).imp fun p h => ⟨Finset.mem_univ p, h⟩, fun _ => (View.set_whole cc0_scratch0).symm ▸ Finset.mem_univ i⟩)
    fun p p' h => sndC_disjoint p p' h
theorem flat_whole (c : Dev nD) (f : (cc0_scratch4 : Ref sig .tc).ty.Contents (Elt F)) :
    (whPts c flatM f : SP F) = bigSep Finset.univ fun p => flatPts c p f :=
  cut (ℓ := (View.whole cc0_scratch4).loc (c : Thread nD τ)) (View.whole cc0_scratch4).set Finset.univ (fun p : Dev nD => (flatC p).view.set)
    (fun i => ⟨fun _ => (flat_in i).imp fun p h => ⟨Finset.mem_univ p, h⟩, fun _ => (View.set_whole cc0_scratch4).symm ▸ Finset.mem_univ i⟩)
    fun p p' h => flatC_disjoint p p' h
theorem a2a_whole (c : Dev nD) (f : (cc0_scratch2 : Ref sig .tc).ty.Contents (Elt F)) :
    (whPts c a2aM f : SP F) = bigSep Finset.univ fun k => slotPts c k f :=
  cut (ℓ := (View.whole cc0_scratch2).loc (c : Thread nD τ)) (View.whole cc0_scratch2).set Finset.univ (fun k : Fin 15 => (slotM k).view.set)
    (fun i => ⟨fun _ => ⟨⟨((i : S15x64x768.Idx) 0).val, ((i : S15x64x768.Idx) 0).isLt⟩, Finset.mem_univ _, (mem_slotM _ i).mpr rfl⟩,
      fun _ => (View.set_whole cc0_scratch2).symm ▸ Finset.mem_univ i⟩)
    fun p p' h => slotM_disjoint p p' h

/-! ## The send buffer -/

/-- Rows 512 and on. -/
def upSet : Finset S1024x768.Idx := Finset.univ.filter fun i => 512 ≤ (i 0).val
theorem mem_upSet (i : S1024x768.Idx) : i ∈ upSet ↔ 512 ≤ (i 0).val := by
  unfold upSet
  rw [Finset.mem_filter]
  exact ⟨fun h => h.2, fun h => ⟨Finset.mem_univ _, h⟩⟩
theorem mem_upSet' (i : S1024x768.Idx) : i ∈ upSet ↔ ∃ p ∈ (Finset.univ.filter fun p : Dev nD => ¬ p.val < 8), i ∈ (sndC p).view.set := by
  rw [mem_upSet]
  constructor
  · intro h
    obtain ⟨p, hp⟩ := snd_in i
    have h1 := (mem_sndC p i).mp hp
    exact ⟨p, Finset.mem_filter.mpr ⟨Finset.mem_univ _, by omega⟩, hp⟩
  · rintro ⟨p, hp, hi⟩
    have h1 := (mem_sndC p i).mp hi
    have h2 := (Finset.mem_filter.mp hp).2
    omega

abbrev upPts (c : Dev nD) (f : (cc0_scratch0 : Ref sig .tc).ty.Contents (Elt F)) : SP F :=
  sndM.view.loc (c : Thread nD τ) ↦[upSet]{fullShare} f
theorem up_whole (c : Dev nD) (f : (cc0_scratch0 : Ref sig .tc).ty.Contents (Elt F)) :
    (upPts c f : SP F) = bigSep (Finset.univ.filter fun p : Dev nD => ¬ p.val < 8) fun p => sndPts c p f :=
  cut (ℓ := (View.whole cc0_scratch0).loc (c : Thread nD τ)) upSet _ (fun p : Dev nD => (sndC p).view.set) mem_upSet'
    fun p p' h => sndC_disjoint p p' h

theorem sndPts_congr (c p : Dev nD) (f g : (cc0_scratch0 : Ref sig .tc).ty.Contents (Elt F))
    (h : ∀ i : S1024x768.Idx, 64 * p.val ≤ (i 0).val → (i 0).val < 64 * p.val + 64 → f i = g i) : (sndPts c p f : SP F) = sndPts c p g :=
  pointsTo_congr fun i hi => h i ((mem_sndC p i).mp hi).1 ((mem_sndC p i).mp hi).2

/-- The rows in hand of device `p`, if `p` is on side `b`. -/
def sideK (sv : Dev nD → (cc0_scratch0 : Ref sig .tc).ty.Contents (Elt F)) (c : Dev nD) (b : Bool) (p : Dev nD) : SP F :=
  if decide (p.val < 8) = b then sndPts c p (sv c) else iprop(emp)

/-- A half of the send buffer, written: the device's own rows if they are there, and its peers'. -/
def sideSt (sv : Dev nD → (cc0_scratch0 : Ref sig .tc).ty.Contents (Elt F)) (c : Dev nD) (b : Bool) : SP F :=
  iprop(sideK sv c b c ∗ bigSep Finset.univ fun k : Fin 15 => sideK sv c b (peer c k))

theorem side_lo (sv : Dev nD → (cc0_scratch0 : Ref sig .tc).ty.Contents (Elt F)) (c : Dev nD) :
    bigSep (Finset.univ.filter fun p : Dev nD => p.val < 8) (fun p => sndPts c p (sv c)) = sideSt sv c true := by
  unfold sideSt
  rw [← dev_split c (sideK sv c true), bigSep_filter]
  refine bigSep_congr fun p _ => ?_
  unfold sideK
  by_cases h : p.val < 8 <;> simp [h] <;> rfl
theorem side_hi (sv : Dev nD → (cc0_scratch0 : Ref sig .tc).ty.Contents (Elt F)) (c : Dev nD) :
    bigSep (Finset.univ.filter fun p : Dev nD => ¬ p.val < 8) (fun p => sndPts c p (sv c)) = sideSt sv c false := by
  unfold sideSt
  rw [← dev_split c (sideK sv c false), bigSep_filter]
  refine bigSep_congr fun p _ => ?_
  unfold sideK
  by_cases h : p.val < 8 <;> simp [h] <;> rfl

theorem snd_cut (c : Dev nD) (f : (cc0_scratch0 : Ref sig .tc).ty.Contents (Elt F)) : (bigSep Finset.univ fun p => sndPts c p f : SP F)
    = iprop(bigSep (Finset.univ.filter fun p : Dev nD => p.val < 8) (fun p => sndPts c p f)
      ∗ bigSep (Finset.univ.filter fun p : Dev nD => ¬ p.val < 8) (fun p => sndPts c p f)) :=
  bigSep_filter_split Finset.univ (fun p : Dev nD => p.val < 8)

/-- The half written first, as stored. -/
def loOk (X : Inp F) (g : S1024x768.Idx → Elt F .bf16) : Prop := ∀ i, (i 0).val < 512 → g i = sndV X i

theorem sndV_at (X : Inp F) (b : Fin 2) (i : S1024x768.Idx) (J : S512x768.Idx) (h0 : (i 0).val = 512 * b.val + (J 0).val) (h1 : (i 1).val = (J 1).val) :
    sndV X i = partV X b J := by
  have hJ : (J 0).val < 512 := (J 0).isLt
  have eb : (⟨(i 0).val / 512, by have h : (i 0).val < 1024 := (i 0).isLt; omega⟩ : Fin 2) = b := Fin.ext (by show (i 0).val / 512 = b.val; omega)
  have eJ : J = (fun | ⟨0, _⟩ => ⟨(i 0).val % 512, by show _ < 512; omega⟩ | ⟨1, _⟩ => ⟨(i 1).val, (i 1).isLt⟩ : S512x768.Idx) := by
    funext a
    match a with
    | ⟨0, _⟩ => exact Fin.ext (by show (J 0).val = (i 0).val % 512; omega)
    | ⟨1, _⟩ => exact Fin.ext h1.symm
  exact congr (congrArg (partV X) eb) eJ.symm

theorem exists_half (b : Fin 2) (inb) (i : S1024x768.Idx) (h : 512 * b.val ≤ (i 0).val) (h' : (i 0).val < 512 * b.val + 512) :
    ∃ j : S512x768.Idx, i = (Rect.unit (s := S1024x768) ![512 * b.val, 0] S512x768.size inb).emb j := by
  refine ⟨fun | ⟨0, _⟩ => ⟨(i 0).val - 512 * b.val, by show _ < 512; omega⟩ | ⟨1, _⟩ => ⟨(i 1).val, (i 1).isLt⟩, ?_⟩
  funext a
  refine Fin.ext (Eq.trans ?_ (ValueKit.rect_emb_unit_val (s := S1024x768) ![512 * b.val, 0] S512x768.size inb _ a).symm)
  match a with
  | ⟨0, _⟩ => show (i 0).val = 512 * b.val + ((i 0).val - 512 * b.val); omega
  | ⟨1, _⟩ => show (i 1).val = 0 + (i 1).val; omega

section Snd
variable {X : Dev nD → Inp F} {c : Dev nD} {β : Type} {A R : SP F} {Q : β → SP F}

theorem ld_snd_lo {P : (S1024x768.Idx → Elt F .bf16) → Prop} (r : Rect S1024x768) {hl} {K : (r.shape.Idx → Elt F .bf16) → Prg F β}
    (h : ∀ w, iprop(A ∗ bufSt c sndM P ∗ R) ⊢ WPc c (K w) Q) :
    iprop(A ∗ bufSt c sndM P ∗ R) ⊢ WPc c (Prog.lift (TpuEff.load sndM r hl) >>= K) Q :=
  load_ex sndM r fun _ _ => h _

theorem st_snd_lo {P : (S1024x768.Idx → Elt F .bf16) → Prop} {inb hx hm} {w : FVec F S512x768 .bf16} {K : PUnit → Prg F β} (hw : w = partV (X c) 0)
    (h : iprop(A ∗ bufSt c sndM (loOk (X c)) ∗ R) ⊢ WPc c (K ⟨⟩) Q) :
    iprop(A ∗ bufSt c sndM P ∗ R)
      ⊢ WPc c (Prog.lift (TpuEff.store sndM (Rect.unit (s := S1024x768) ![0, 0] S512x768.size inb) w Finset.univ hx hm) >>= K) Q := by
  subst hw
  refine store_ex sndM _ (fun g g' _ h1 _ i hi => ?_) h
  obtain ⟨j, rfl⟩ := exists_half 0 inb i (Nat.zero_le _) (by show _ < 0 + 512; omega)
  refine (h1 j).trans (sndV_at (X c) 0 _ j ?_ ?_).symm
  · exact ValueKit.rect_emb_unit_val (s := S1024x768) ![512 * (0 : Fin 2).val, 0] S512x768.size inb j 0
  · exact (ValueKit.rect_emb_unit_val (s := S1024x768) ![512 * (0 : Fin 2).val, 0] S512x768.size inb j 1).trans (Nat.zero_add _)

theorem snd_split : (bufSt c sndM (loOk (X c)) : SP F) ⊢ iprop(sideSt (svOf X) c true ∗ ∃ f, upPts c f) := by
  unfold bufSt
  iintro ⟨%f, %hf, HX⟩
  ihave HX := (Entails.of_eq ((snd_whole c f).trans (snd_cut c f))) $$ HX
  icases HX with ⟨Hl, Hu⟩
  isplitl [Hl]
  · iapply (Entails.of_eq (side_lo (svOf X) c))
    iapply (Entails.of_eq (bigSep_congr (Ψ := fun p => sndPts c p (svOf X c)) fun p hp => sndPts_congr c p f (svOf X c) fun i _ h2 => hf i (by
      have := (Finset.mem_filter.mp hp).2; omega)))
    iexact Hl
  · iexists f
    iapply (Entails.of_eq (up_whole c f).symm); iexact Hu

theorem half_sub (inb) : (sndM.access (Rect.unit (s := S1024x768) ![512, 0] S512x768.size inb)).set ⊆ upSet := by
  intro i hi
  refine (mem_upSet i).mpr ?_
  have h := (ValueKit.mem_set_slice_whole_iff cc0_scratch0 (Rect.unit (s := S1024x768) ![512, 0] S512x768.size inb) i Iff.rfl).mp hi
  exact ((Rect.mem_set_unit).mp h 0).1

theorem ld_snd_hi {inb hl} {K : Vec F S512x768 .bf16 → Prg F β}
    (h : ∀ w, iprop(A ∗ (∃ f, upPts c f) ∗ R) ⊢ WPc c (K w) Q) :
    iprop(A ∗ (∃ f, upPts c f) ∗ R) ⊢ WPc c (Prog.lift (TpuEff.load sndM (Rect.unit (s := S1024x768) ![512, 0] S512x768.size inb).toLoadRect hl) >>= K) Q := by
  iintro ⟨HA, ⟨%f, HX⟩, HR⟩
  have hh : iprop(A ∗ upPts c f ∗ R) ⊢ WPc c (Prog.lift (TpuEff.load sndM (Rect.unit (s := S1024x768) ![512, 0] S512x768.size inb).toLoadRect hl) >>= K) Q := by
    refine load_step sndM _ (half_sub inb) keep2 ?_
    refine .trans ?_ (h _)
    iintro ⟨HA, HX, HR⟩
    isplitl [HA]; · iexact HA
    isplitl [HX]; · iexists f; iexact HX
    iexact HR
  iapply hh
  isplitl [HA]; · iexact HA
  isplitl [HX] <;> iassumption

theorem hi_same (inb) (f : (cc0_scratch0 : Ref sig .tc).ty.Contents (Elt F)) (i : S1024x768.Idx) (h1 : 512 ≤ (i 0).val) :
    sndM.view.read (Elt F) ((sndM.access (Rect.unit (s := S1024x768) ![512, 0] S512x768.size inb)).write (Elt F) f (partV (X c) 1) Finset.univ) i
      = sndV (X c) i := by
  have hb : (i 0).val < 1024 := (i 0).isLt
  obtain ⟨j, hj⟩ := exists_half 1 inb i (by show 512 * 1 ≤ _; omega) (by show _ < 512 * 1 + 512; omega)
  have e := read_write_in (c := c) sndM (Rect.unit (s := S1024x768) ![512, 0] S512x768.size inb) f (partV (X c) 1) j
  have e0 := ValueKit.rect_emb_unit_val (s := S1024x768) ![512 * (1 : Fin 2).val, 0] S512x768.size inb j 0
  have e1 := (ValueKit.rect_emb_unit_val (s := S1024x768) ![512 * (1 : Fin 2).val, 0] S512x768.size inb j 1).trans (Nat.zero_add _)
  have e' : sndV (X c) i = partV (X c) 1 j := sndV_at (X c) 1 i j (by rw [hj]; exact e0) (by rw [hj]; exact e1)
  rw [e', hj]
  exact e

theorem up_done (g : (cc0_scratch0 : Ref sig .tc).ty.Contents (Elt F)) (h : ∀ i : S1024x768.Idx, 512 ≤ (i 0).val → sndM.view.read (Elt F) g i = sndV (X c) i) :
    (upPts c g : SP F) ⊢ sideSt (svOf X) c false := by
  rw [up_whole, ← side_hi]
  refine Entails.of_eq (bigSep_congr fun p hp => sndPts_congr c p g (svOf X c) fun i h1 _ => h i ?_)
  have := (Finset.mem_filter.mp hp).2
  omega

theorem st_snd_hi {inb hx hm} {w : FVec F S512x768 .bf16} {K : PUnit → Prg F β} (hw : w = partV (X c) 1)
    (h : iprop(A ∗ sideSt (svOf X) c false ∗ R) ⊢ WPc c (K ⟨⟩) Q) :
    iprop(A ∗ (∃ f, upPts c f) ∗ R)
      ⊢ WPc c (Prog.lift (TpuEff.store sndM (Rect.unit (s := S1024x768) ![512, 0] S512x768.size inb) w Finset.univ hx hm) >>= K) Q := by
  subst hw
  have hh : ∀ f, iprop(A ∗ upPts c f ∗ R) ⊢ WPc c (Prog.lift (TpuEff.store sndM (Rect.unit (s := S1024x768) ![512, 0] S512x768.size inb) (partV (X c) 1) Finset.univ hx hm) >>= K) Q := fun f =>
    store_step sndM _ (half_sub inb) keep2 ((sep_mono_right (sep_mono_left (up_done _ fun i hi => hi_same inb f i hi))).trans h)
  iintro ⟨HA, ⟨%f, HX⟩, HR⟩
  iapply (hh f)
  isplitl [HA]; · iexact HA
  isplitl [HX] <;> iassumption

end Snd

end Cert.KernelIdeal.Talk

end
-- ==== Proof.Bufs2.lean ====
/-
  From one phase of the exchange to the next, and the loads and stores of the pieces that travel.
-/
module

public import proofs.«01_k».proof.Proof.Bufs

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

variable (sv : Dev nD → (cc0_scratch0 : Ref sig .tc).ty.Contents (Elt F)) (rv : Dev nD → (cc0_scratch3 : Ref sig .tc).ty.Contents (Elt F))
variable (κ : GSem nD τ sig → ℕ) (c : Dev nD)

/-- Over the slots, two families pairwise. -/
theorem zip {A B C : Fin 15 → SP F} (h : ∀ k, iprop(A k ∗ B k) ⊢ C k) : iprop(bigSep Finset.univ A ∗ bigSep Finset.univ B) ⊢ bigSep Finset.univ C := by
  rw [← bigSep_sep']; exact bigSep_mono fun k _ => h k
theorem unzip {A B C : Fin 15 → SP F} (h : ∀ k, C k ⊢ iprop(A k ∗ B k)) : bigSep Finset.univ C ⊢ iprop(bigSep Finset.univ A ∗ bigSep Finset.univ B) := by
  rw [← bigSep_sep']; exact bigSep_mono fun k _ => h k

theorem sProp_refl (P : SP F) : P ⊢ P := BIBase.Entails.rfl

/-! ## After the barrier -/

theorem sig_done : SigSt sv rv κ c 15 ⊢ OW sv rv κ c (debt c ∅ Finset.univ Finset.univ) := by
  unfold SigSt
  rw [show (Finset.univ.filter fun k : Fin 15 => 15 ≤ k.val) = ∅ by decide]
  iintro ⟨H, -⟩; iexact H

/-- The tokens of the first exchange to slot `k`'s device, of the second. -/
def dutA (k : Fin 15) : SP F := iprop(dutyTok ER (cell c 0 k) 0 0 ∗ reached ER (cell c 0 k) 0 ∗ dutyTok ER (cell (peer c k) 1 k) 0 0)
def dutB (k : Fin 15) : SP F := iprop(dutyTok ER (cell c 2 k) 0 0 ∗ reached ER (cell c 2 k) 0 ∗ dutyTok ER (cell (peer c k) 3 k) 0 0)
/-- What the second exchange's transfer still needs beside the rows. -/
def gathU (k : Fin 15) : SP F := iprop(dutB c k ∗ reached ER (cell (peer c k) 3 k) 0 ∗ ∃ f, flatPts (peer c k) c f)

theorem got_split : (iprop(BarGot c ∗ bigSep Finset.univ (dutA c) ∗ bigSep Finset.univ (dutB c)) : SP F)
    ⊢ iprop(semVal (barCell c) 0 ∗ bigSep Finset.univ (unsent c) ∗ bigSep Finset.univ (gathU c)) := by
  unfold BarGot
  have h : ∀ k, iprop(barPay c k ∗ (dutA c k ∗ dutB c k)) ⊢ (iprop(unsent c k ∗ gathU c k) : SP F) := fun k => by
    unfold barPay dutA dutB unsent gathU dutB
    iintro ⟨⟨Hs, Hf, Hr1, Hr3⟩, ⟨A1, A2, A3⟩, B⟩
    isplitl [Hs Hr1 A1 A2 A3]
    · isplitl [A1]; · iexact A1
      isplitl [A2]; · iexact A2
      isplitl [A3]; · iexact A3
      isplitl [Hr1] <;> iassumption
    isplitl [B]; · iexact B
    isplitl [Hr3] <;> iassumption
  iintro ⟨⟨HB, Hs⟩, HA, HD⟩
  isplitl [Hs]; · iexact Hs
  iapply (unzip fun k => BIBase.Entails.rfl)
  iapply (zip h)
  isplitl [HB]; · iexact HB
  iapply (zip fun k => BIBase.Entails.rfl)
  isplitl [HA] <;> iassumption

/-! ## The first exchange -/

theorem sideK_yes (b : Bool) (p : Dev nD) (h : decide (p.val < 8) = b) : sideK sv c b p = sndPts c p (sv c) := if_pos h
theorem sideK_no (b : Bool) (p : Dev nD) (h : decide (p.val < 8) ≠ b) : sideK sv c b p = iprop(emp) := if_neg h
theorem sendK_two (k : Fin 15) : sendK sv c k 2 = cred (tallyAt (cell c 0 k) () N) := if_pos rfl
theorem sendK_one (k : Fin 15) : sendK sv c k 1 = iprop(unsent c k ∗ sndPts c (peer c k) (sv c)) := rfl
theorem sendK_zero (k : Fin 15) : sendK sv c k 0 = unsent c k := rfl
theorem loSt_low (n : ℕ) (k : Fin 15) (h : (peer c k).val < 8) : loSt c n k = if k.val < n then 2 else 1 := if_pos h
theorem loSt_high (n : ℕ) (k : Fin 15) (h : ¬ (peer c k).val < 8) : loSt c n k = 0 := if_neg h
theorem hiSt_low (n : ℕ) (k : Fin 15) (h : (peer c k).val < 8) : hiSt c n k = 2 := if_pos h
theorem hiSt_high (n : ℕ) (k : Fin 15) (h : ¬ (peer c k).val < 8) : hiSt c n k = if k.val < n then 2 else 1 := if_neg h

theorem lo_start : iprop(OW sv rv κ c (debt c ∅ Finset.univ Finset.univ) ∗ bigSep Finset.univ (unsent c) ∗ sideSt sv c true)
    ⊢ iprop(SendSt sv rv κ c (loSt c 0) ∗ sideK sv c true c) := by
  have e : (Finset.univ.filter fun k : Fin 15 => loSt c 0 k ≠ 2) = Finset.univ := by
    refine Finset.filter_true_of_mem fun k _ => ?_
    unfold loSt; rw [if_neg (Nat.not_lt_zero _)]; split <;> decide
  unfold SendSt sideSt
  rw [e]
  have h : ∀ k, iprop(unsent c k ∗ sideK sv c true (peer c k)) ⊢ sendK sv c k (loSt c 0 k) := fun k => by
    by_cases hp : (peer c k).val < 8
    · rw [loSt_low c 0 k hp, if_neg (Nat.not_lt_zero _), sendK_one, sideK_yes sv c true _ (decide_eq_true hp)]
    · rw [loSt_high c 0 k hp, sendK_zero, sideK_no sv c true _ (by rw [decide_eq_false hp]; decide)]
      iintro ⟨H, -⟩; iexact H
  iintro ⟨HO, HU, Hc, HS⟩
  isplitr [Hc]
  · isplitl [HO]; · iexact HO
    iapply (zip h); isplitl [HU] <;> iassumption
  iexact Hc

theorem hi_start : iprop(SendSt sv rv κ c (loSt c 15) ∗ sideSt sv c false) ⊢ iprop(SendSt sv rv κ c (hiSt c 0) ∗ sideK sv c false c) := by
  have e : (Finset.univ.filter fun k : Fin 15 => loSt c 15 k ≠ 2) = Finset.univ.filter fun k : Fin 15 => hiSt c 0 k ≠ 2 := by
    revert c; decide +kernel
  unfold SendSt sideSt
  rw [e]
  have h : ∀ k, iprop(sendK sv c k (loSt c 15 k) ∗ sideK sv c false (peer c k)) ⊢ sendK sv c k (hiSt c 0 k) := fun k => by
    by_cases hp : (peer c k).val < 8
    · rw [loSt_low c 15 k hp, hiSt_low c 0 k hp, if_pos k.isLt, sideK_no sv c false _ (by rw [decide_eq_true hp]; decide)]
      iintro ⟨H, -⟩; iexact H
    · rw [loSt_high c 15 k hp, hiSt_high c 0 k hp, if_neg (Nat.not_lt_zero _), sendK_zero, sendK_one, sideK_yes sv c false _ (decide_eq_false hp)]
  iintro ⟨⟨HO, HU⟩, Hc, HS⟩
  isplitr [Hc]
  · isplitl [HO]; · iexact HO
    iapply (zip h); isplitl [HU] <;> iassumption
  iexact Hc

theorem send_done : SendSt sv rv κ c (hiSt c 15) ⊢ iprop(OW sv rv κ c (debt c ∅ ∅ Finset.univ) ∗ bigSep Finset.univ fun k : Fin 15 => cred (tallyAt (cell c 0 k) () N)) := by
  have e : (Finset.univ.filter fun k : Fin 15 => hiSt c 15 k ≠ 2) = ∅ := by revert c; decide +kernel
  have e2 : ∀ k, hiSt c 15 k = 2 := fun k => by revert c k; decide +kernel
  unfold SendSt
  rw [e]
  refine sep_mono .rfl (bigSep_mono fun k _ => ?_)
  rw [e2 k, sendK_two]; exact sProp_refl _

theorem own_rows : iprop(sideK sv c true c ∗ sideK sv c false c) ⊢ sndPts c c (sv c) := by
  unfold sideK
  by_cases hp : c.val < 8
  · rw [if_pos (decide_eq_true hp)]; iintro ⟨H, -⟩; iexact H
  · rw [if_pos (decide_eq_false hp)]; iintro ⟨-, H⟩; iexact H

theorem wait_start (j : Fin 4) : iprop((bigSep Finset.univ fun k : Fin 15 => cred (tallyAt (cell c j k) () N)) ∗ bigSep Finset.univ fun k : Fin 15 => atPos ER (cell c j k) 0 ∅ 0)
    ⊢ WSt sv rv c j 0 := by
  unfold WSt
  refine zip fun k => ?_
  rw [decide_eq_false (Nat.not_lt_zero _)]; exact BIBase.Entails.rfl
theorem wait_done (j : Fin 4) : WSt sv rv c j 15 ⊢ iprop((bigSep Finset.univ fun k : Fin 15 => semVal (cell c j k) 0) ∗ bigSep Finset.univ fun k : Fin 15 => dmaPay sv rv c j.val k) := by
  unfold WSt
  refine unzip fun k => ?_
  rw [decide_eq_true k.isLt]; exact BIBase.Entails.rfl

/-! ## The second exchange -/

theorem red_deal (f : (cc0_scratch3 : Ref sig .tc).ty.Contents (Elt F)) :
    (redPts c fullShare f : SP F) ⊢ iprop(redPts c (Transfers.shareDrop fullShare 15) f ∗ bigSep Finset.univ fun k : Fin 15 => redPts c (Transfers.shareTok fullShare 15 k) f) :=
  Transfers.pointsTo_toks_split fullShare 15
theorem red_join (f : (cc0_scratch3 : Ref sig .tc).ty.Contents (Elt F)) :
    iprop(redPts c (Transfers.shareDrop fullShare 15) f ∗ bigSep Finset.univ fun k : Fin 15 => redPts c (Transfers.shareTok fullShare 15 k) f) ⊢ (redPts c fullShare f : SP F) :=
  Transfers.pointsTo_toks_join fullShare 15

theorem gath_start : iprop(OW sv rv κ c (debt c ∅ ∅ Finset.univ) ∗ bigSep Finset.univ (gathU c) ∗ bigSep Finset.univ fun k : Fin 15 => redPts c (Transfers.shareTok fullShare 15 k) (rv c))
    ⊢ GathSt sv rv κ c 0 := by
  unfold GathSt
  rw [show (Finset.univ.filter fun k : Fin 15 => 0 ≤ k.val) = Finset.univ by decide]
  refine sep_mono .rfl (zip fun k => ?_)
  rw [decide_eq_false (Nat.not_lt_zero _)]
  unfold gathU dutB gathK
  rw [if_neg (by decide)]
  iintro ⟨⟨⟨H1, H2, H3⟩, H4, H5⟩, H6⟩
  isplitl [H1]; · iexact H1
  isplitl [H2]; · iexact H2
  isplitl [H3]; · iexact H3
  isplitl [H4]; · iexact H4
  isplitl [H5] <;> iassumption
theorem gath_done : GathSt sv rv κ c 15 ⊢ iprop(OW sv rv κ c 0 ∗ bigSep Finset.univ fun k : Fin 15 => cred (tallyAt (cell c 2 k) () N)) := by
  unfold GathSt
  rw [show (Finset.univ.filter fun k : Fin 15 => 15 ≤ k.val) = ∅ by decide, debt_none]
  refine sep_mono .rfl (bigSep_mono fun k _ => ?_)
  rw [decide_eq_true k.isLt]; exact sProp_refl _

theorem flat_join : iprop(flatPts c c (flatV rv) ∗ bigSep Finset.univ fun k : Fin 15 => dmaPay sv rv c (3 : Fin 4).val k) ⊢ whPts c flatM (flatV rv) := by
  rw [flat_whole, dev_split c, ← slot_rev (fun k : Fin 15 => flatPts c (peer c k) (flatV rv))]
  exact .rfl
theorem a2a_join : (bigSep Finset.univ fun k : Fin 15 => dmaPay sv rv c (1 : Fin 4).val k) ⊢ whPts c a2aM (a2aV sv c) := by
  rw [a2a_whole]; exact .rfl
theorem snd_join : iprop(sndPts c c (sv c) ∗ bigSep Finset.univ fun k : Fin 15 => dmaPay sv rv c (0 : Fin 4).val k) ⊢ whPts c sndM (sv c) := by
  rw [snd_whole, dev_split c]; exact .rfl

/-! ## Loads and stores of the travelling pieces -/

section Acc
variable {sv rv} {X : Dev nD → Inp F} {c} {β : Type} {A R S : SP F} {Q : β → SP F}

theorem rows_sub {off : Fin 2 → ℕ} (e : off = ![64 * c.val, 0]) (inb) :
    (sndM.access (Rect.unit (s := S1024x768) off S64x768.size inb)).set ⊆ (sndC c).view.set := by
  subst e; exact fun _ h => h
theorem rows_sub' {off : Fin 2 → ℕ} (e : off = ![64 * c.val, 0]) (inb) :
    (flatM.access (Rect.unit (s := S1024x768) off S64x768.size inb)).set ⊆ (flatC c).view.set := by
  subst e; exact fun _ h => h

theorem ld_own {off inb hl} {K : Vec F S64x768 .bf16 → Prg F β} (e : off = ![64 * c.val, 0])
    (h : iprop(A ∗ sndPts c c (svOf X c) ∗ R) ⊢ WPc c (K (ownPl X c)) Q) :
    iprop(A ∗ sndPts c c (svOf X c) ∗ R)
      ⊢ WPc c (Prog.lift (TpuEff.load sndM (Rect.unit (s := S1024x768) off S64x768.size inb).toLoadRect hl) >>= K) Q := by
  subst e; exact load_step sndM _ (rows_sub rfl inb) keep2 h

theorem slot_in (k : Fin 15) (n : ℕ) (hn : k.val < n) :
    iprop(A ∗ WSt sv rv c 1 n ∗ R) ⊢ iprop(slotPts c k (a2aV sv c) ∗ (slotPts c k (a2aV sv c) -∗ A ∗ WSt sv rv c 1 n ∗ R)) := by
  unfold WSt
  have e : waitK sv rv c 1 k (decide (k.val < n)) = iprop(semVal (cell c 1 k) 0 ∗ slotPts c k (a2aV sv c)) := by
    rw [decide_eq_true hn]; rfl
  iintro ⟨HA, HB, HR⟩
  ihave HB := (bigSep_univ_update (Φ := fun i : Fin 15 => waitK sv rv c 1 i (decide (i.val < n))) (Ψ := fun i : Fin 15 => waitK sv rv c 1 i (decide (i.val < n))) k
    (fun i hi => rfl)) $$ HB
  icases HB with ⟨Hk, HB⟩
  ihave Hk := (Entails.of_eq e) $$ Hk
  icases Hk with ⟨Hs, Hk⟩
  isplitl [Hk]; · iexact Hk
  iintro Hk
  isplitl [HA]; · iexact HA
  isplitr [HR]
  · iapply HB; iapply (Entails.of_eq e.symm); isplitl [Hs] <;> iassumption
  iexact HR
theorem slot_sub (k : Fin 15) (inb) : (a2aM.access (Rect.unit (s := S15x64x768) ![k.val, 0, 0] S1x64x768.size inb)).set ⊆ (slotM k).view.set := by
  intro i hi
  refine (mem_slotM k i).mpr ?_
  have h := (ValueKit.mem_set_slice_whole_iff cc0_scratch2 (Rect.unit (s := S15x64x768) ![k.val, 0, 0] S1x64x768.size inb) i Iff.rfl).mp hi
  have h0 := (Rect.mem_set_unit).mp h 0
  have h1 : k.val ≤ (i 0).val := h0.1
  have h2 : (i 0).val < k.val + 1 := h0.2
  omega

/-- The load of a slot that has landed. -/
theorem ld_slot (k : Fin 15) {n : ℕ} (hn : k.val < n) {off inb hl} {K : Vec F S1x64x768 .bf16 → Prg F β} (e : off = ![k.val, 0, 0])
    (h : iprop(A ∗ WSt (svOf X) rv c 1 n ∗ R) ⊢ WPc c (K (slotPl X c k)) Q) :
    iprop(A ∗ WSt (svOf X) rv c 1 n ∗ R)
      ⊢ WPc c (Prog.lift (TpuEff.load a2aM (Rect.unit (s := S15x64x768) off S1x64x768.size inb).toLoadRect hl) >>= K) Q := by
  subst e; exact load_step a2aM _ (slot_sub k inb) (slot_in k n hn) h

theorem exists_red (inb) (i : S64x768.Idx) : ∃ j : S64x768.Idx, i = (Rect.unit (s := S64x768) ![0, 0] S64x768.size inb).emb j := by
  refine ⟨i, ?_⟩
  funext a
  refine Fin.ext (Eq.trans ?_ (ValueKit.rect_emb_unit_val (s := S64x768) ![0, 0] S64x768.size inb _ a).symm)
  match a with
  | ⟨0, _⟩ => exact (Nat.zero_add _).symm
  | ⟨1, _⟩ => exact (Nat.zero_add _).symm
theorem emb_red (inb) (j : S64x768.Idx) : (Rect.unit (s := S64x768) ![0, 0] S64x768.size inb).emb j = j := by
  funext a
  refine Fin.ext ((ValueKit.rect_emb_unit_val (s := S64x768) ![0, 0] S64x768.size inb _ a).trans ?_)
  match a with
  | ⟨0, _⟩ => exact Nat.zero_add _
  | ⟨1, _⟩ => exact Nat.zero_add _

theorem ld_red_any {P : (S64x768.Idx → Elt F .bf16) → Prop} {inb hl} {K : Vec F S64x768 .bf16 → Prg F β}
    (h : ∀ w, iprop(A ∗ bufSt c redM P ∗ R) ⊢ WPc c (K w) Q) :
    iprop(A ∗ bufSt c redM P ∗ R) ⊢ WPc c (Prog.lift (TpuEff.load redM (Rect.unit (s := S64x768) ![0, 0] S64x768.size inb).toLoadRect hl) >>= K) Q :=
  load_ex redM _ fun _ _ => h _
theorem st_red {P : (S64x768.Idx → Elt F .bf16) → Prop} {inb hx hm} {w : FVec F S64x768 .bf16} {K : PUnit → Prg F β} (hw : w = rvOf X c)
    (h : iprop(A ∗ bufSt c redM (fun g => ∀ i, g i = rvOf X c i) ∗ R) ⊢ WPc c (K ⟨⟩) Q) :
    iprop(A ∗ bufSt c redM P ∗ R)
      ⊢ WPc c (Prog.lift (TpuEff.store redM (Rect.unit (s := S64x768) ![0, 0] S64x768.size inb) w Finset.univ hx hm) >>= K) Q := by
  subst hw
  refine store_ex redM _ (fun g g' _ h1 _ i => ?_) h
  have h2 := h1 i
  rw [emb_red inb i] at h2
  exact h2
theorem ld_red {inb hl} {K : Vec F S64x768 .bf16 → Prg F β}
    (h : iprop(A ∗ bufSt c redM (fun g => ∀ i, g i = rvOf X c i) ∗ R) ⊢ WPc c (K (rvOf X c)) Q) :
    iprop(A ∗ bufSt c redM (fun g => ∀ i, g i = rvOf X c i) ∗ R)
      ⊢ WPc c (Prog.lift (TpuEff.load redM (Rect.unit (s := S64x768) ![0, 0] S64x768.size inb).toLoadRect hl) >>= K) Q := by
  refine load_ex redM _ fun g hg => ?_
  have e : (fun j : S64x768.Idx => g ((Rect.unit (s := S64x768) ![0, 0] S64x768.size inb).emb j)) = rvOf X c := by
    funext j; exact (hg _).trans (congrArg (rvOf X c) (emb_red inb j))
  exact h.trans (Entails.of_eq (congrArg (fun w => WPc c (K w) Q) e.symm))
theorem red_fix : bufSt c redM (fun g => ∀ i, g i = rvOf X c i) ⊢ redPts c fullShare (rvOf X c) := by
  unfold bufSt
  iintro ⟨%f, %hf, HX⟩
  have e : f = rvOf X c := funext fun i => hf i
  subst e
  iexact HX

theorem exists_rows {p : Dev nD} (inb) (i : S1024x768.Idx) (h : 64 * p.val ≤ (i 0).val) (h' : (i 0).val < 64 * p.val + 64) :
    ∃ j : S64x768.Idx, i = (Rect.unit (s := S1024x768) ![64 * p.val, 0] S64x768.size inb).emb j := by
  refine ⟨fun | ⟨0, _⟩ => ⟨(i 0).val - 64 * p.val, by show _ < 64; omega⟩ | ⟨1, _⟩ => ⟨(i 1).val, (i 1).isLt⟩, ?_⟩
  funext a
  refine Fin.ext (Eq.trans ?_ (ValueKit.rect_emb_unit_val (s := S1024x768) ![64 * p.val, 0] S64x768.size inb _ a).symm)
  match a with
  | ⟨0, _⟩ => show (i 0).val = 64 * p.val + ((i 0).val - 64 * p.val); omega
  | ⟨1, _⟩ => show (i 1).val = 0 + (i 1).val; omega

theorem ld_flat_any {off inb hl} {K : Vec F S64x768 .bf16 → Prg F β} (e : off = ![64 * c.val, 0])
    (h : ∀ w, iprop(A ∗ (∃ f, flatPts c c f) ∗ R) ⊢ WPc c (K w) Q) :
    iprop(A ∗ (∃ f, flatPts c c f) ∗ R) ⊢ WPc c (Prog.lift (TpuEff.load flatM (Rect.unit (s := S1024x768) off S64x768.size inb).toLoadRect hl) >>= K) Q := by
  subst e
  have hh : ∀ f, iprop(A ∗ flatPts c c f ∗ R) ⊢ WPc c (Prog.lift (TpuEff.load flatM (Rect.unit (s := S1024x768) ![64 * c.val, 0] S64x768.size inb).toLoadRect hl) >>= K) Q := fun f =>
    load_step flatM _ (rows_sub' rfl inb) keep2 ((sep_mono_right (sep_mono_left (show (flatPts c c f : SP F) ⊢ iprop(∃ f, flatPts c c f) by iintro H; iexists f; iexact H))).trans (h _))
  iintro ⟨HA, ⟨%f, HX⟩, HR⟩
  iapply (hh f)
  isplitl [HA]; · iexact HA
  isplitl [HX] <;> iassumption

/-- A store inside the part of a buffer in hand. -/
theorem store_part {s : Shape} {e : EltTy} (m : Memref sig .tc .vmem s e) (r : Rect s) {w : r.shape.Idx → Elt F e}
    {hx : (m.access r).Stores Finset.univ} {hm} {K : PUnit → Prg F β} {I : Finset (Idx (m.view.loc (c : Thread nD τ)))} {T : SP F}
    (hS : (m.access r).set ⊆ I)
    (hT : ∀ g : Buf (Elt F) (m.view.loc (c : Thread nD τ)), (∀ j, m.view.read (Elt F) g (r.emb j) = w j) → (m.view.loc (c : Thread nD τ) ↦[I]{fullShare} g) ⊢ T)
    (h : iprop(A ∗ T ∗ R) ⊢ WPc c (K ⟨⟩) Q) :
    iprop(A ∗ (∃ f, m.view.loc (c : Thread nD τ) ↦[I]{fullShare} f) ∗ R) ⊢ WPc c ((Prog.lift (TpuEff.store m r w Finset.univ hx hm) : Prg F _) >>= K) Q := by
  have hh : ∀ f, iprop(A ∗ (m.view.loc (c : Thread nD τ) ↦[I]{fullShare} f) ∗ R) ⊢ WPc c ((Prog.lift (TpuEff.store m r w Finset.univ hx hm) : Prg F _) >>= K) Q := fun f =>
    store_step m r hS keep2 ((sep_mono_right (sep_mono_left (hT _ (read_write_in (c := c) m r f w)))).trans h)
  iintro ⟨HA, ⟨%f, HX⟩, HR⟩
  iapply (hh f)
  isplitl [HA]; · iexact HA
  isplitl [HX] <;> iassumption

theorem flat_done (g : (cc0_scratch4 : Ref sig .tc).ty.Contents (Elt F))
    (h : ∀ i : S1024x768.Idx, 64 * c.val ≤ (i 0).val → (i 0).val < 64 * c.val + 64 → flatM.view.read (Elt F) g i = flatV rv i) :
    (flatPts c c g : SP F) ⊢ flatPts c c (flatV rv) :=
  Entails.of_eq (pointsTo_congr fun i hi => h i ((mem_flatC c i).mp hi).1 ((mem_flatC c i).mp hi).2)

theorem st_flat {off inb hx hm} {w : FVec F S64x768 .bf16} {K : PUnit → Prg F β} (e : off = ![64 * c.val, 0]) (hw : ∀ j, w j = rv c j)
    (h : iprop(A ∗ flatPts c c (flatV rv) ∗ R) ⊢ WPc c (K ⟨⟩) Q) :
    iprop(A ∗ (∃ f, flatPts c c f) ∗ R)
      ⊢ WPc c (Prog.lift (TpuEff.store flatM (Rect.unit (s := S1024x768) off S64x768.size inb) w Finset.univ hx hm) >>= K) Q := by
  subst e
  refine store_part flatM _ (rows_sub' rfl inb) (fun g hg => flat_done g fun i h1 h2 => ?_) h
  obtain ⟨j, hj⟩ := exists_rows inb i h1 h2
  have e0 := ValueKit.rect_emb_unit_val (s := S1024x768) ![64 * c.val, 0] S64x768.size inb j 0
  have e1 := (ValueKit.rect_emb_unit_val (s := S1024x768) ![64 * c.val, 0] S64x768.size inb j 1).trans (Nat.zero_add _)
  have e' : flatV rv i = rv c j := flatV_at rv c i j (by rw [hj]; exact e0) (by rw [hj]; exact e1)
  rw [e', hj]; exact (hg j).trans (hw j)

theorem ld_flat (b : Fin 2) {off inb hl} {K : Vec F S512x768 .bf16 → Prg F β} (e : off = ![512 * b.val, 0])
    (h : iprop(A ∗ whPts c flatM (flatV (rvOf X)) ∗ R) ⊢ WPc c (K (flatPl X b)) Q) :
    iprop(A ∗ whPts c flatM (flatV (rvOf X)) ∗ R)
      ⊢ WPc c (Prog.lift (TpuEff.load flatM (Rect.unit (s := S1024x768) off S512x768.size inb).toLoadRect hl) >>= K) Q := by
  subst e; exact load_step flatM _ (View.set_slice_subset _ _) keep2 h

/-! ## The result buffer -/

/-- The first `n` planes of the result are in place. -/
def outOk (X : Dev nD → Inp F) (n : ℕ) (g : S2x512x768.Idx → Elt F .f32) : Prop := ∀ i, (i 0).val < n → g i = outV X i

theorem ld_out_any {P : (S2x512x768.Idx → Elt F .f32) → Prop} (r : Rect S2x512x768) {hl} {K : (r.shape.Idx → Elt F .f32) → Prg F β}
    (h : ∀ w, iprop(A ∗ bufSt c outM P ∗ R) ⊢ WPc c (K w) Q) :
    iprop(A ∗ bufSt c outM P ∗ R) ⊢ WPc c (Prog.lift (TpuEff.load outM r hl) >>= K) Q :=
  load_ex outM r fun _ _ => h _

theorem exists_plane (b : Fin 2) (inb) (i : S2x512x768.Idx) (h : (i 0).val = b.val) :
    ∃ j : S1x512x768.Idx, i = (Rect.unit (s := S2x512x768) ![b.val, 0, 0] S1x512x768.size inb).emb j := by
  refine ⟨fun | ⟨0, _⟩ => ⟨0, Nat.one_pos⟩ | ⟨1, _⟩ => ⟨(i 1).val, (i 1).isLt⟩ | ⟨2, _⟩ => ⟨(i 2).val, (i 2).isLt⟩, ?_⟩
  funext a
  refine Fin.ext (Eq.trans ?_ (ValueKit.rect_emb_unit_val (s := S2x512x768) ![b.val, 0, 0] S1x512x768.size inb _ a).symm)
  match a with
  | ⟨0, _⟩ => show (i 0).val = b.val + 0; omega
  | ⟨1, _⟩ => show (i 1).val = 0 + (i 1).val; omega
  | ⟨2, _⟩ => show (i 2).val = 0 + (i 2).val; omega

theorem outV_at (b : Fin 2) (i : S2x512x768.Idx) (j : S1x512x768.Idx) (h0 : (i 0).val = b.val) (h1 : (i 1).val = (j 1).val) (h2 : (i 2).val = (j 2).val) :
    outV X i = k0_pay1 (flatPl X b) j := by
  have eb : (⟨(i 0).val, (i 0).isLt⟩ : Fin 2) = b := Fin.ext h0
  have eJ : j = (fun | ⟨0, _⟩ => ⟨0, Nat.one_pos⟩ | ⟨1, _⟩ => ⟨(i 1).val, (i 1).isLt⟩ | ⟨2, _⟩ => ⟨(i 2).val, (i 2).isLt⟩ : S1x512x768.Idx) := by
    funext a
    match a with
    | ⟨0, _⟩ => exact Fin.ext (by have h : (j 0).val < 1 := (j 0).isLt; show (j 0).val = 0; omega)
    | ⟨1, _⟩ => exact Fin.ext h1.symm
    | ⟨2, _⟩ => exact Fin.ext h2.symm
  exact congr (congrArg (fun b => k0_pay1 (flatPl X b)) eb) eJ.symm

theorem st_out (b : Fin 2) {n : ℕ} (hn : b.val = n) {off inb hx hm} {w : FVec F S1x512x768 .f32} {K : PUnit → Prg F β} (e : off = ![b.val, 0, 0])
    (hw : w = k0_pay1 (flatPl X b)) (h : iprop(A ∗ bufSt c outM (outOk X (n + 1)) ∗ R) ⊢ WPc c (K ⟨⟩) Q) :
    iprop(A ∗ bufSt c outM (outOk X n) ∗ R)
      ⊢ WPc c (Prog.lift (TpuEff.store outM (Rect.unit (s := S2x512x768) off S1x512x768.size inb) w Finset.univ hx hm) >>= K) Q := by
  subst e hw hn
  refine store_ex outM _ (fun g g' h0 h1 h2 i hi => ?_) h
  by_cases hb : (i 0).val = b.val
  · obtain ⟨j, hj⟩ := exists_plane b inb i hb
    have e1 := (ValueKit.rect_emb_unit_val (s := S2x512x768) ![b.val, 0, 0] S1x512x768.size inb j 1).trans (Nat.zero_add _)
    have e2 := (ValueKit.rect_emb_unit_val (s := S2x512x768) ![b.val, 0, 0] S1x512x768.size inb j 2).trans (Nat.zero_add _)
    rw [outV_at (X := X) b i j hb (by rw [hj]; exact e1) (by rw [hj]; exact e2), hj]
    exact h1 j
  · rw [h2 i (fun j hj => hb ?_)]
    · exact h0 i (by omega)
    · have e0 := ValueKit.rect_emb_unit_val (s := S2x512x768) ![b.val, 0, 0] S1x512x768.size inb j 0
      have hj0 : (j 0).val < 1 := (j 0).isLt
      rw [hj]
      refine e0.trans ?_
      show b.val + (j 0).val = b.val
      omega
theorem out_fix : bufSt c outM (outOk X 2) ⊢ whPts c outM (outV X) := by
  unfold bufSt
  iintro ⟨%f, %hf, HX⟩
  have e : f = outV X := funext fun i => hf i (i 0).isLt
  subst e
  iexact HX

end Acc

end Cert.KernelIdeal.Talk

end
-- ==== Proof.BodyA.lean ====
/-
  The body up to the last head of the first half's batch: the barrier, the mask's words, the heads.
-/
module

public import proofs.«01_k».proof.Proof.Bufs2

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

universe u

/-- A piece of the body at the buffers and semaphores of the launch. -/
abbrev onAll {α : Sort u} (p : (a0 : Memref sig .tc .vmem S2x512x768 .bf16) → a0.IsWhole → (a1 : Memref sig .tc .vmem S768x512 .bf16) → a1.IsWhole
    → (a2 : Memref sig .tc .vmem S2x8x512x64 .bf16) → a2.IsWhole → (a3 : Memref sig .tc .vmem S2x8x512x64 .bf16) → a3.IsWhole
    → (a4 : Memref sig .tc .vmem S512x768 .bf16) → a4.IsWhole → (a5 : Memref sig .tc .vmem S2x512x768 .f32) → a5.IsWhole
    → (a6 : Memref sig .tc .vmem S1024x768 .bf16) → a6.IsWhole → (a7 : Memref sig .tc .vmem S2x512x512 .bf16) → a7.IsWhole
    → (a8 : Memref sig .tc .vmem S15x64x768 .bf16) → a8.IsWhole → (a9 : Memref sig .tc .vmem S64x768 .bf16) → a9.IsWhole
    → (a10 : Memref sig .tc .vmem S1024x768 .bf16) → a10.IsWhole → DmaSems sig S15 → DmaSems sig S15 → DmaSems sig S15 → DmaSems sig S15 → α) : α :=
  p xM (Memref.isWhole_whole _) wqM (Memref.isWhole_whole _) kM (Memref.isWhole_whole _) vM (Memref.isWhole_whole _) woM (Memref.isWhole_whole _)
    outM (Memref.isWhole_whole _) sndM (Memref.isWhole_whole _) ctxM (Memref.isWhole_whole _) a2aM (Memref.isWhole_whole _) redM (Memref.isWhole_whole _)
    flatM (Memref.isWhole_whole _) cc0_scratch5 cc0_scratch6 cc0_scratch7 cc0_scratch8

/-- A device reads its own number. -/
theorem dev_step {c : Dev nD} {β : Type} {S : SP F} {K : Dev nD → Prg F β} {Q : β → SP F} (h : S ⊢ WPc c (K c) Q) :
    S ⊢ WPc c ((Prog.lift .deviceId : Prg F (Dev nD)) >>= K) Q := by
  unfold WPc
  rw [show ((Prog.lift TpuEff.deviceId : Prg F (Dev nD)) >>= K) = Prog.op TpuEff.deviceId K from rfl]
  simp only [wp_deviceId]
  exact h

section Bar
variable (sv : Dev nD → (cc0_scratch0 : Ref sig .tc).ty.Contents (Elt F)) (rv : Dev nD → (cc0_scratch3 : Ref sig .tc).ty.Contents (Elt F))
variable (κ : GSem nD τ sig → ℕ) (c : Dev nD) {R : SP F}

theorem part1 {Q : _ → SP F} (h : ∀ v2 v24 w, iprop(SigSt sv rv κ c 5 ∗ R) ⊢ Q ⟨c, v2, SemArray.scalar (sig.barrier 0 rfl), v24, w⟩) :
    iprop(SigSt sv rv κ c 0 ∗ R) ⊢ WPc c (onAll (k0_part1 (F := F))) Q := by
  rw [k0_part1_eq_skeleton]; unfold k0_part1_skel
  refine dev_step ?_
  refine sig_step 0 rfl (Fin.ext (k0_dev1_eq c)) rfl ?_
  refine sig_step 1 rfl (Fin.ext (k0_dev2_eq c)) rfl ?_
  refine sig_step 2 rfl (Fin.ext (k0_dev3_eq c)) rfl ?_
  refine sig_step 3 rfl (Fin.ext (k0_dev4_eq c)) rfl ?_
  refine sig_step 4 rfl (Fin.ext (k0_dev5_eq c)) rfl ?_
  exact ret_step (h _ _ _)

theorem part2 (v2 v24 w) {Q : _ → SP F} (h : ∀ v48 w, iprop(SigSt sv rv κ c 11 ∗ R) ⊢ Q ⟨v48, w⟩) :
    iprop(SigSt sv rv κ c 5 ∗ R) ⊢ WPc c (onAll (k0_part2 (F := F)) c v2 (SemArray.scalar (sig.barrier 0 rfl)) v24 w) Q := by
  rw [k0_part2_eq_skeleton]; unfold k0_part2_skel
  refine sig_step 5 rfl (Fin.ext (k0_dev6_eq c)) rfl ?_
  refine sig_step 6 rfl (Fin.ext (k0_dev7_eq c)) rfl ?_
  refine sig_step 7 rfl (Fin.ext (k0_dev8_eq c)) rfl ?_
  refine sig_step 8 rfl (Fin.ext (k0_dev9_eq c)) rfl ?_
  refine sig_step 9 rfl (Fin.ext (k0_dev10_eq c)) rfl ?_
  refine sig_step 10 rfl (Fin.ext (k0_dev11_eq c)) rfl ?_
  exact ret_step (h _ _)

theorem part3 (v2 v48 w) {Q : _ → SP F}
    (h : ∀ a b d e, iprop(OW sv rv κ c (debt c ∅ Finset.univ Finset.univ) ∗ BarGot c ∗ R) ⊢ Q ⟨a, b, d, e⟩) :
    iprop(SigSt sv rv κ c 11 ∗ BarSt c ∗ R) ⊢ WPc c (onAll (k0_part3 (F := F)) c v2 (SemArray.scalar (sig.barrier 0 rfl)) v48 w) Q := by
  rw [k0_part3_eq_skeleton]; unfold k0_part3_skel
  refine sig_step 11 rfl (Fin.ext (k0_dev12_eq c)) rfl ?_
  refine sig_step 12 rfl (Fin.ext (k0_dev13_eq c)) rfl ?_
  refine sig_step 13 rfl (Fin.ext (k0_dev14_eq c)) rfl ?_
  refine sig_step 14 rfl (Fin.ext (k0_dev15_eq c)) rfl ?_
  refine .trans (sep_mono_left (sig_done sv rv κ c)) ?_
  refine bar_step rfl ?_
  exact ret_step (h _ _ _ _)

end Bar

section Heads
variable {c : Dev nD} {X : Inp F} {R : SP F}

theorem part4 (v2 v73) {S : SP F} {Q : _ → SP F} (h : ∀ a b d e f g i j k l m, S ⊢ Q ⟨a, b, d, e, f, g, i, j, k, l, m⟩) :
    S ⊢ WPc c (onAll (k0_part4 (F := F)) v2 v73) Q := by
  rw [k0_part4_eq_skeleton]; unfold k0_part4_skel
  exact ret_step (h _ _ _ _ _ _ _ _ _ _ _)

theorem part5 (v2 v103) {S : SP F} {Q : _ → SP F}
    (h : ∀ a b, S ⊢ Q ⟨a, b, k0_pay3, iota .tc S512x512 32 [1] iota_S512x512_d1_w32, 64#32, k0_pay4, k0_pay5,
      Scalar.extui (Scalar.cmpi .sgt 64#32 0#32), Scalar.cmpi .slt 64#32 0#32⟩) :
    S ⊢ WPc c (onAll (k0_part5 (F := F)) v2 v103) Q := by
  rw [k0_part5_eq_skeleton]; unfold k0_part5_skel
  exact ret_step (h _ _)

theorem part6 {S : SP F} {Q : _ → SP F} (h : S ⊢ Q ⟨maskV, Scalar.ofBits .f32 0x00000000#32⟩) :
    S ⊢ WPc c (onAll (k0_part6 (F := F)) k0_pay3 (iota .tc S512x512 32 [1] iota_S512x512_d1_w32) 64#32 k0_pay4 k0_pay5
      (Scalar.extui (Scalar.cmpi .sgt 64#32 0#32)) (Scalar.cmpi .slt 64#32 0#32)) Q := by
  rw [k0_part6_eq_skeleton]; unfold k0_part6_skel
  exact ret_step h

theorem part7 {Q : _ → SP F}
    (h : iprop(ins c X ∗ ctxSt c X 1 ∗ R) ⊢ Q ⟨biasV, qV X 0, k0_pay10 (xPl X 0) (wqPl X), k0_pay11 (kPl X 0 1), constant S512x512 .f32 0x00000000#32⟩) :
    iprop(ins c X ∗ ctxSt c X 0 ∗ R) ⊢ WPc c (onAll (k0_part7 (F := F)) maskV (Scalar.ofBits .f32 0x00000000#32)) Q := by
  rw [k0_part7_eq_skeleton]; unfold k0_part7_skel
  refine ld_x 0 rfl (ld_wq (ld_k 0 0 rfl (ld_v 0 0 rfl (ld_ctx_any _ fun _ => ?_))))
  exact st_ctx 0 0 rfl rfl (pay_b0h0 _) (ld_k 0 1 rfl (ret_step h))

theorem part8 {Q : _ → SP F} (h : iprop(ins c X ∗ ctxSt c X 2 ∗ R) ⊢ Q (k0_pay13 biasV (qV X 0) (kPl X 0 2) (vPl X 0 2))) :
    iprop(ins c X ∗ ctxSt c X 1 ∗ R) ⊢ WPc c (onAll (k0_part8 (F := F)) biasV (qV X 0) (k0_pay10 (xPl X 0) (wqPl X)) (k0_pay11 (kPl X 0 1)) (constant S512x512 .f32 0x00000000#32)) Q := by
  rw [k0_part8_eq_skeleton]; unfold k0_part8_skel
  refine ld_v 0 1 rfl (ld_ctx_any _ fun _ => ?_)
  exact st_ctx 0 1 rfl rfl (pay_b0h1 _) (ld_k 0 2 rfl (ld_v 0 2 rfl (ret_step h)))

theorem part9 {Q : _ → SP F} (h : iprop(ins c X ∗ ctxSt c X 4 ∗ R) ⊢ Q (k0_pay16 biasV (qV X 0) (kPl X 0 4))) :
    iprop(ins c X ∗ ctxSt c X 2 ∗ R) ⊢ WPc c (onAll (k0_part9 (F := F)) biasV (qV X 0) (k0_pay13 biasV (qV X 0) (kPl X 0 2) (vPl X 0 2))) Q := by
  rw [k0_part9_eq_skeleton]; unfold k0_part9_skel
  refine ld_ctx_any _ fun _ => ?_
  refine st_ctx 0 2 rfl rfl (pay_b0h2 _) (ld_k 0 3 rfl (ld_v 0 3 rfl (ld_ctx_any _ fun _ => ?_)))
  exact st_ctx 0 3 rfl rfl (pay_b0h3 _) (ld_k 0 4 rfl (ret_step h))

theorem part10 {Q : _ → SP F} (h : iprop(ins c X ∗ ctxSt c X 6 ∗ R) ⊢ Q ⟨k0_pay19 (qV X 0), k0_pay20 (kPl X 0 6), constant S512x512 .f32 0x00000000#32⟩) :
    iprop(ins c X ∗ ctxSt c X 4 ∗ R) ⊢ WPc c (onAll (k0_part10 (F := F)) biasV (qV X 0) (k0_pay16 biasV (qV X 0) (kPl X 0 4))) Q := by
  rw [k0_part10_eq_skeleton]; unfold k0_part10_skel
  refine ld_v 0 4 rfl (ld_ctx_any _ fun _ => ?_)
  refine st_ctx 0 4 rfl rfl (pay_b0h4 _) (ld_k 0 5 rfl (ld_v 0 5 rfl (ld_ctx_any _ fun _ => ?_)))
  exact st_ctx 0 5 rfl rfl (pay_b0h5 _) (ld_k 0 6 rfl (ret_step h))

theorem part11 {Q : _ → SP F} (h : iprop(ins c X ∗ ctxSt c X 7 ∗ R) ⊢ Q (k0_pay22 biasV (qV X 0) (kPl X 0 7) (vPl X 0 7))) :
    iprop(ins c X ∗ ctxSt c X 6 ∗ R) ⊢ WPc c (onAll (k0_part11 (F := F)) biasV (qV X 0) (k0_pay19 (qV X 0)) (k0_pay20 (kPl X 0 6)) (constant S512x512 .f32 0x00000000#32)) Q := by
  rw [k0_part11_eq_skeleton]; unfold k0_part11_skel
  refine ld_v 0 6 rfl (ld_ctx_any _ fun _ => ?_)
  exact st_ctx 0 6 rfl rfl (pay_b0h6 _) (ld_k 0 7 rfl (ld_v 0 7 rfl (ret_step h)))

end Heads

end Cert.KernelIdeal.Talk
-- ==== Proof.BodyC.lean ====
/-
  The waits of the exchange, the sum of the rows, and the waits for the transfers sent.
-/
module

public import proofs.«01_k».proof.Proof.BodyA

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

section
variable {X : Dev nD → Inp F} {κ : GSem nD τ sig → ℕ} {c : Dev nD} {R : SP F}

/-- What the device holds while it takes the rows that landed. -/
abbrev TakeSt (X : Dev nD → Inp F) (κ : GSem nD τ sig → ℕ) (c : Dev nD) (j : Fin 4) (n : ℕ) (R : SP F) : SP F :=
  iprop(OW (svOf X) (rvOf X) κ c (debt c ∅ ∅ Finset.univ) ∗ WSt (svOf X) (rvOf X) c j n ∗ R)

theorem regroup3 {A B C G : SP F} (h : iprop((A ∗ B) ∗ C ∗ R) ⊢ G) : iprop(A ∗ B ∗ C ∗ R) ⊢ G := by
  refine .trans ?_ h
  iintro ⟨HA, HB, HR⟩; iframe ∗
theorem ungroup {A B : SP F} : iprop((A ∗ B) ∗ R) ⊢ iprop(A ∗ B ∗ R) := by
  iintro ⟨⟨HA, HB⟩, HR⟩; iframe ∗

theorem part23 (v2) {Q : _ → SP F} (h : TakeSt X κ c 1 4 R ⊢ Q (accV X c 4)) :
    TakeSt X κ c 1 1 R ⊢ WPc c (onAll (k0_part23 (F := F)) v2 (accV X c 1)) Q := by
  rw [k0_part23_eq_skeleton]; unfold k0_part23_skel
  refine wait_step 1 1 rfl (mayWait_cell c 1 1 (by decide)) (sem_s1r 1) rfl (ld_slot 1 (by decide) rfl ?_)
  refine wait_step 1 2 rfl (mayWait_cell c 1 2 (by decide)) (sem_s1r 2) rfl (ld_slot 2 (by decide) rfl ?_)
  refine wait_step 1 3 rfl (mayWait_cell c 1 3 (by decide)) (sem_s1r 3) rfl (ld_slot 3 (by decide) rfl ?_)
  refine ret_step ?_
  rw [pay_acc4]; exact h

theorem part24 (v2) {Q : _ → SP F} (h : TakeSt X κ c 1 6 R ⊢ Q (accV X c 6)) :
    TakeSt X κ c 1 4 R ⊢ WPc c (onAll (k0_part24 (F := F)) v2 (accV X c 4)) Q := by
  rw [k0_part24_eq_skeleton]; unfold k0_part24_skel
  refine wait_step 1 4 rfl (mayWait_cell c 1 4 (by decide)) (sem_s1r 4) rfl (ld_slot 4 (by decide) rfl ?_)
  refine wait_step 1 5 rfl (mayWait_cell c 1 5 (by decide)) (sem_s1r 5) rfl (ld_slot 5 (by decide) rfl ?_)
  refine ret_step ?_
  rw [pay_acc6]; exact h

theorem part25 (v2) {Q : _ → SP F} (h : TakeSt X κ c 1 8 R ⊢ Q (accV X c 8)) :
    TakeSt X κ c 1 6 R ⊢ WPc c (onAll (k0_part25 (F := F)) v2 (accV X c 6)) Q := by
  rw [k0_part25_eq_skeleton]; unfold k0_part25_skel
  refine wait_step 1 6 rfl (mayWait_cell c 1 6 (by decide)) (sem_s1r 6) rfl (ld_slot 6 (by decide) rfl ?_)
  refine wait_step 1 7 rfl (mayWait_cell c 1 7 (by decide)) (sem_s1r 7) rfl (ld_slot 7 (by decide) rfl ?_)
  refine ret_step ?_
  rw [pay_acc8]; exact h

theorem part26 (v2) {Q : _ → SP F} (h : TakeSt X κ c 1 11 R ⊢ Q ⟨accV X c 10, k0_pay45 (slotPl X c 10)⟩) :
    TakeSt X κ c 1 8 R ⊢ WPc c (onAll (k0_part26 (F := F)) v2 (accV X c 8)) Q := by
  rw [k0_part26_eq_skeleton]; unfold k0_part26_skel
  refine wait_step 1 8 rfl (mayWait_cell c 1 8 (by decide)) (sem_s1r 8) rfl (ld_slot 8 (by decide) rfl ?_)
  refine wait_step 1 9 rfl (mayWait_cell c 1 9 (by decide)) (sem_s1r 9) rfl (ld_slot 9 (by decide) rfl ?_)
  refine wait_step 1 10 rfl (mayWait_cell c 1 10 (by decide)) (sem_s1r 10) rfl (ld_slot 10 (by decide) rfl ?_)
  refine ret_step ?_
  rw [pay_acc10]; exact h

theorem part27 (v2) {Q : _ → SP F} (h : ∀ w, TakeSt X κ c 1 13 R ⊢ Q ⟨accV X c 13, w⟩) :
    TakeSt X κ c 1 11 R ⊢ WPc c (onAll (k0_part27 (F := F)) v2 (accV X c 10) (k0_pay45 (slotPl X c 10))) Q := by
  rw [k0_part27_eq_skeleton]; unfold k0_part27_skel
  refine wait_step 1 11 rfl (mayWait_cell c 1 11 (by decide)) (sem_s1r 11) rfl (ld_slot 11 (by decide) rfl ?_)
  refine wait_step 1 12 rfl (mayWait_cell c 1 12 (by decide)) (sem_s1r 12) rfl (ld_slot 12 (by decide) rfl ?_)
  refine ret_step ?_
  rw [pay_acc13]; exact h _

theorem part28 (v2 v795) {P : (S64x768.Idx → Elt F .bf16) → Prop} {Q : _ → SP F}
    (h : TakeSt X κ c 1 15 iprop(bufSt c redM (fun g => ∀ i, g i = rvOf X c i) ∗ R) ⊢ Q (rvOf X c)) :
    TakeSt X κ c 1 13 iprop(bufSt c redM P ∗ R) ⊢ WPc c (onAll (k0_part28 (F := F)) v2 (accV X c 13) v795) Q := by
  rw [k0_part28_eq_skeleton]; unfold k0_part28_skel
  refine wait_step 1 13 rfl (mayWait_cell c 1 13 (by decide)) (sem_s1r 13) rfl (ld_slot 13 (by decide) rfl ?_)
  refine wait_step 1 14 rfl (mayWait_cell c 1 14 (by decide)) (sem_s1r 14) rfl (ld_slot 14 (by decide) rfl ?_)
  refine regroup3 (ld_red_any fun _ => st_red (pay_red _ _) (ld_red (ret_step ?_)))
  exact ungroup.trans h

/-- A cast to the same shape changes nothing. -/
theorem pay_flat (v : Vec F S64x768 .bf16) : k0_pay48 v = v := by unfold k0_pay48; exact shapeCast_self _ _

theorem part29 {Q : _ → SP F} (h : TakeSt X κ c 0 4 iprop(flatPts c c (flatV (rvOf X)) ∗ R) ⊢ Q ⟨⟩) :
    TakeSt X κ c 0 0 iprop((∃ f, flatPts c c f) ∗ R) ⊢ WPc c (onAll (k0_part29 (F := F)) c (rvOf X c)) Q := by
  rw [k0_part29_eq_skeleton]; unfold k0_part29_skel
  refine regroup3 (ld_flat_any (k0_off31_eq c) fun _ => st_flat (rv := rvOf X) (k0_off31_eq c) (fun j => congrFun (pay_flat _) j) ?_)
  refine .trans ungroup ?_
  refine wait_step 0 0 rfl (mayWait_cell c 0 0 (by decide)) (sem_s1s 0) rfl ?_
  refine wait_step 0 1 rfl (mayWait_cell c 0 1 (by decide)) (sem_s1s 1) rfl ?_
  refine wait_step 0 2 rfl (mayWait_cell c 0 2 (by decide)) (sem_s1s 2) rfl ?_
  refine wait_step 0 3 rfl (mayWait_cell c 0 3 (by decide)) (sem_s1s 3) rfl ?_
  exact ret_step h

theorem part30 {Q : _ → SP F} (h : TakeSt X κ c 0 8 R ⊢ Q ⟨⟩) : TakeSt X κ c 0 4 R ⊢ WPc c (onAll (k0_part30 (F := F)) c) Q := by
  rw [k0_part30_eq_skeleton]; unfold k0_part30_skel
  refine wait_step 0 4 rfl (mayWait_cell c 0 4 (by decide)) (sem_s1s 4) rfl ?_
  refine wait_step 0 5 rfl (mayWait_cell c 0 5 (by decide)) (sem_s1s 5) rfl ?_
  refine wait_step 0 6 rfl (mayWait_cell c 0 6 (by decide)) (sem_s1s 6) rfl ?_
  refine wait_step 0 7 rfl (mayWait_cell c 0 7 (by decide)) (sem_s1s 7) rfl ?_
  exact ret_step h

theorem part31 {Q : _ → SP F} (h : TakeSt X κ c 0 13 R ⊢ Q ⟨⟩) : TakeSt X κ c 0 8 R ⊢ WPc c (onAll (k0_part31 (F := F)) c) Q := by
  rw [k0_part31_eq_skeleton]; unfold k0_part31_skel
  refine wait_step 0 8 rfl (mayWait_cell c 0 8 (by decide)) (sem_s1s 8) rfl ?_
  refine wait_step 0 9 rfl (mayWait_cell c 0 9 (by decide)) (sem_s1s 9) rfl ?_
  refine wait_step 0 10 rfl (mayWait_cell c 0 10 (by decide)) (sem_s1s 10) rfl ?_
  refine wait_step 0 11 rfl (mayWait_cell c 0 11 (by decide)) (sem_s1s 11) rfl ?_
  refine wait_step 0 12 rfl (mayWait_cell c 0 12 (by decide)) (sem_s1s 12) rfl ?_
  exact ret_step h

end

end Cert.KernelIdeal.Talk
-- ==== Proof.BodyD.lean ====
/-
  The gather of the sums, and its waits.
-/
module

public import proofs.«01_k».proof.Proof.BodyC

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

section
variable {X : Dev nD → Inp F} {κ : GSem nD τ sig → ℕ} {c : Dev nD} {R : SP F}

/-- The gather's waits, with nothing owed. -/
abbrev DoneSt (X : Dev nD → Inp F) (κ : GSem nD τ sig → ℕ) (c : Dev nD) (j : Fin 4) (n : ℕ) (R : SP F) : SP F :=
  iprop(OW (svOf X) (rvOf X) κ c 0 ∗ WSt (svOf X) (rvOf X) c j n ∗ R)

theorem swap23 {A B C G : SP F} (h : iprop(A ∗ C ∗ B ∗ R) ⊢ G) : iprop(A ∗ B ∗ C ∗ R) ⊢ G := by
  refine .trans ?_ h
  iintro ⟨HA, HB, HC, HR⟩; iframe ∗

theorem mayWait_free (c : Dev nD) (s : SemLoc sig) : (levAts L lv : SP F) ⊢ MayWait (c : Thread nD τ) s () 0 := by
  rw [MayWait_zero]; exact Laws.affine

theorem gath_enter : TakeSt X κ c 0 15 iprop(bufSt c redM (fun g => ∀ i, g i = rvOf X c i) ∗ bigSep Finset.univ (gathU c) ∗ R)
    ⊢ iprop(GathSt (svOf X) (rvOf X) κ c 0 ∗ WSt (svOf X) (rvOf X) c 0 15 ∗ redPts c (Transfers.shareDrop fullShare 15) (rvOf X c) ∗ R) := by
  iintro ⟨HO, HW, Hb, HG, HR⟩
  ihave Hb := red_fix $$ Hb
  ihave Hb := (red_deal c (rvOf X c)) $$ Hb
  icases Hb with ⟨Hd, Ht⟩
  ihave H := (gath_start (svOf X) (rvOf X) κ c) $$ [HO HG Ht]
  · iframe ∗
  iframe ∗

theorem gath_leave : iprop(GathSt (svOf X) (rvOf X) κ c 15 ∗ WSt (svOf X) (rvOf X) c 3 0 ∗ (bigSep Finset.univ fun k : Fin 15 => atPos ER (cell c 2 k) 0 ∅ 0) ∗ R)
    ⊢ DoneSt X κ c 3 0 iprop(WSt (svOf X) (rvOf X) c 2 0 ∗ R) := by
  iintro ⟨HG, HW, Ha, HR⟩
  ihave HG := (gath_done (svOf X) (rvOf X) κ c) $$ HG
  icases HG with ⟨HO, Hc⟩
  ihave Hw := (wait_start (svOf X) (rvOf X) c 2) $$ [Hc Ha]
  · iframe ∗
  unfold DoneSt
  iframe ∗

theorem part32 (v2 v65 v68 v71) {Q : _ → SP F} (h : iprop(GathSt (svOf X) (rvOf X) κ c 2 ∗ WSt (svOf X) (rvOf X) c 0 15 ∗ redPts c (Transfers.shareDrop fullShare 15) (rvOf X c) ∗ R) ⊢ Q ⟨⟩) :
    TakeSt X κ c 0 13 iprop(bufSt c redM (fun g => ∀ i, g i = rvOf X c i) ∗ bigSep Finset.univ (gathU c) ∗ R) ⊢ WPc c (onAll (k0_part32 (F := F)) c v2 v65 v68 v71) Q := by
  rw [k0_part32_eq_skeleton]; unfold k0_part32_skel
  refine wait_step 0 13 rfl (mayWait_cell c 0 13 (by decide)) (sem_s1s 13) rfl ?_
  refine wait_step 0 14 rfl (mayWait_cell c 0 14 (by decide)) (sem_s1s 14) rfl ?_
  refine .trans gath_enter ?_
  refine gath_core 0 rfl (sem_s2s 0) (sem_s2r 0) (dst_eq (k0_off33_eq c) _) (Fin.ext (k0_dev46_eq c)) ?_
  refine gath_core 1 rfl (sem_s2s 1) (sem_s2r 1) (dst_eq (k0_off33_eq c) _) (Fin.ext (k0_dev47_eq c)) ?_
  exact ret_step h

theorem part33 (v2 v74 v77 v80 v83) {Q : _ → SP F} (h : iprop(GathSt (svOf X) (rvOf X) κ c 6 ∗ R) ⊢ Q ⟨⟩) :
    iprop(GathSt (svOf X) (rvOf X) κ c 2 ∗ R) ⊢ WPc c (onAll (k0_part33 (F := F)) c v2 v74 v77 v80 v83) Q := by
  rw [k0_part33_eq_skeleton]; unfold k0_part33_skel
  refine gath_core 2 rfl (sem_s2s 2) (sem_s2r 2) (dst_eq (k0_off33_eq c) _) (Fin.ext (k0_dev48_eq c)) ?_
  refine gath_core 3 rfl (sem_s2s 3) (sem_s2r 3) (dst_eq (k0_off33_eq c) _) (Fin.ext (k0_dev49_eq c)) ?_
  refine gath_core 4 rfl (sem_s2s 4) (sem_s2r 4) (dst_eq (k0_off33_eq c) _) (Fin.ext (k0_dev50_eq c)) ?_
  refine gath_core 5 rfl (sem_s2s 5) (sem_s2r 5) (dst_eq (k0_off33_eq c) _) (Fin.ext (k0_dev51_eq c)) ?_
  exact ret_step h

theorem part34 (v2 v86 v89 v92 v95) {Q : _ → SP F} (h : iprop(GathSt (svOf X) (rvOf X) κ c 10 ∗ R) ⊢ Q ⟨⟩) :
    iprop(GathSt (svOf X) (rvOf X) κ c 6 ∗ R) ⊢ WPc c (onAll (k0_part34 (F := F)) c v2 v86 v89 v92 v95) Q := by
  rw [k0_part34_eq_skeleton]; unfold k0_part34_skel
  refine gath_core 6 rfl (sem_s2s 6) (sem_s2r 6) (dst_eq (k0_off33_eq c) _) (Fin.ext (k0_dev52_eq c)) ?_
  refine gath_core 7 rfl (sem_s2s 7) (sem_s2r 7) (dst_eq (k0_off33_eq c) _) (Fin.ext (k0_dev53_eq c)) ?_
  refine gath_core 8 rfl (sem_s2s 8) (sem_s2r 8) (dst_eq (k0_off33_eq c) _) (Fin.ext (k0_dev54_eq c)) ?_
  refine gath_core 9 rfl (sem_s2s 9) (sem_s2r 9) (dst_eq (k0_off33_eq c) _) (Fin.ext (k0_dev55_eq c)) ?_
  exact ret_step h

theorem part35 (v2 v98 v101 v104 v107) {Q : _ → SP F} (h : iprop(GathSt (svOf X) (rvOf X) κ c 14 ∗ R) ⊢ Q ⟨⟩) :
    iprop(GathSt (svOf X) (rvOf X) κ c 10 ∗ R) ⊢ WPc c (onAll (k0_part35 (F := F)) c v2 v98 v101 v104 v107) Q := by
  rw [k0_part35_eq_skeleton]; unfold k0_part35_skel
  refine gath_core 10 rfl (sem_s2s 10) (sem_s2r 10) (dst_eq (k0_off33_eq c) _) (Fin.ext (k0_dev56_eq c)) ?_
  refine gath_core 11 rfl (sem_s2s 11) (sem_s2r 11) (dst_eq (k0_off33_eq c) _) (Fin.ext (k0_dev57_eq c)) ?_
  refine gath_core 12 rfl (sem_s2s 12) (sem_s2r 12) (dst_eq (k0_off33_eq c) _) (Fin.ext (k0_dev58_eq c)) ?_
  refine gath_core 13 rfl (sem_s2s 13) (sem_s2r 13) (dst_eq (k0_off33_eq c) _) (Fin.ext (k0_dev59_eq c)) ?_
  exact ret_step h

theorem part36 (v2) {Q : _ → SP F} (h : DoneSt X κ c 3 6 iprop(WSt (svOf X) (rvOf X) c 2 0 ∗ R) ⊢ Q ⟨⟩) :
    iprop(GathSt (svOf X) (rvOf X) κ c 14 ∗ WSt (svOf X) (rvOf X) c 3 0 ∗ (bigSep Finset.univ fun k : Fin 15 => atPos ER (cell c 2 k) 0 ∅ 0) ∗ R) ⊢ WPc c (onAll (k0_part36 (F := F)) c v2) Q := by
  rw [k0_part36_eq_skeleton]; unfold k0_part36_skel
  refine gath_core 14 rfl (sem_s2s 14) (sem_s2r 14) (dst_eq (k0_off33_eq c) _) (Fin.ext (k0_dev60_eq c)) ?_
  refine .trans gath_leave ?_
  refine wait_step 3 0 rfl (mayWait_free c _) (sem_s2r 0) rfl ?_
  refine wait_step 3 1 rfl (mayWait_free c _) (sem_s2r 1) rfl ?_
  refine wait_step 3 2 rfl (mayWait_free c _) (sem_s2r 2) rfl ?_
  refine wait_step 3 3 rfl (mayWait_free c _) (sem_s2r 3) rfl ?_
  refine wait_step 3 4 rfl (mayWait_free c _) (sem_s2r 4) rfl ?_
  refine wait_step 3 5 rfl (mayWait_free c _) (sem_s2r 5) rfl ?_
  exact ret_step h

theorem part37 (v2) {Q : _ → SP F} (h : DoneSt X κ c 3 12 R ⊢ Q ⟨⟩) :
    DoneSt X κ c 3 6 R ⊢ WPc c (onAll (k0_part37 (F := F)) v2) Q := by
  rw [k0_part37_eq_skeleton]; unfold k0_part37_skel
  refine wait_step 3 6 rfl (mayWait_free c _) (sem_s2r 6) rfl ?_
  refine wait_step 3 7 rfl (mayWait_free c _) (sem_s2r 7) rfl ?_
  refine wait_step 3 8 rfl (mayWait_free c _) (sem_s2r 8) rfl ?_
  refine wait_step 3 9 rfl (mayWait_free c _) (sem_s2r 9) rfl ?_
  refine wait_step 3 10 rfl (mayWait_free c _) (sem_s2r 10) rfl ?_
  refine wait_step 3 11 rfl (mayWait_free c _) (sem_s2r 11) rfl ?_
  exact ret_step h

theorem part38 (v2) {Q : _ → SP F} (h : DoneSt X κ c 2 5 iprop(WSt (svOf X) (rvOf X) c 3 15 ∗ R) ⊢ Q ⟨⟩) :
    DoneSt X κ c 3 12 iprop(WSt (svOf X) (rvOf X) c 2 0 ∗ R) ⊢ WPc c (onAll (k0_part38 (F := F)) c v2) Q := by
  rw [k0_part38_eq_skeleton]; unfold k0_part38_skel
  refine wait_step 3 12 rfl (mayWait_free c _) (sem_s2r 12) rfl ?_
  refine wait_step 3 13 rfl (mayWait_free c _) (sem_s2r 13) rfl ?_
  refine wait_step 3 14 rfl (mayWait_free c _) (sem_s2r 14) rfl ?_
  refine swap23 ?_
  refine wait_step 2 0 rfl (mayWait_free c _) (sem_s2s 0) rfl ?_
  refine wait_step 2 1 rfl (mayWait_free c _) (sem_s2s 1) rfl ?_
  refine wait_step 2 2 rfl (mayWait_free c _) (sem_s2s 2) rfl ?_
  refine wait_step 2 3 rfl (mayWait_free c _) (sem_s2s 3) rfl ?_
  refine wait_step 2 4 rfl (mayWait_free c _) (sem_s2s 4) rfl ?_
  exact ret_step h

theorem part39 {Q : _ → SP F} (h : DoneSt X κ c 2 12 R ⊢ Q ⟨⟩) :
    DoneSt X κ c 2 5 R ⊢ WPc c (onAll (k0_part39 (F := F)) c) Q := by
  rw [k0_part39_eq_skeleton]; unfold k0_part39_skel
  refine wait_step 2 5 rfl (mayWait_free c _) (sem_s2s 5) rfl ?_
  refine wait_step 2 6 rfl (mayWait_free c _) (sem_s2s 6) rfl ?_
  refine wait_step 2 7 rfl (mayWait_free c _) (sem_s2s 7) rfl ?_
  refine wait_step 2 8 rfl (mayWait_free c _) (sem_s2s 8) rfl ?_
  refine wait_step 2 9 rfl (mayWait_free c _) (sem_s2s 9) rfl ?_
  refine wait_step 2 10 rfl (mayWait_free c _) (sem_s2s 10) rfl ?_
  refine wait_step 2 11 rfl (mayWait_free c _) (sem_s2s 11) rfl ?_
  exact ret_step h

end

end Cert.KernelIdeal.Talk
-- ==== Proof.BodyB.lean ====
/-
  The exchange of the batches' partial rows: the stores, the conditional transfers, and the second batch's heads between them.
-/
module

public import proofs.«01_k».proof.Proof.BodyA

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

section
variable {X : Dev nD → Inp F} {rv : Dev nD → (cc0_scratch3 : Ref sig .tc).ty.Contents (Elt F)}
variable {κ : GSem nD τ sig → ℕ} {c : Dev nD} {R : SP F}

theorem regroup {A B G : SP F} (h : iprop((A ∗ B) ∗ R) ⊢ G) : iprop(A ∗ B ∗ R) ⊢ G := by
  refine .trans ?_ h
  iintro ⟨HA, HB, HR⟩; iframe ∗

theorem swap23 {A B C G : SP F} (h : iprop(A ∗ C ∗ B ∗ R) ⊢ G) : iprop(A ∗ B ∗ C ∗ R) ⊢ G := by
  refine .trans ?_ h
  iintro ⟨HA, HB, HC, HR⟩; iframe ∗

theorem lo_enter : iprop((ins c (X c) ∗ ctxSt c (X c) 8) ∗ bufSt c sndM (loOk (X c)) ∗ OW (svOf X) rv κ c (debt c ∅ Finset.univ Finset.univ)
      ∗ bigSep Finset.univ (unsent c) ∗ R)
    ⊢ iprop(SendSt (svOf X) rv κ c (loSt c 0) ∗ ins c (X c) ∗ ctxSt c (X c) 8 ∗ sideK (svOf X) c true c ∗ (∃ f, upPts c f) ∗ R) := by
  iintro ⟨⟨Hi, Hx⟩, Hb, HO, HU, HR⟩
  ihave Hb := snd_split $$ Hb
  icases Hb with ⟨Hs, Hup⟩
  ihave H := (lo_start (svOf X) rv κ c) $$ [HO HU Hs]
  · iframe ∗
  icases H with ⟨HS, Hk⟩
  iframe ∗

theorem hi_enter : iprop((ins c (X c) ∗ ctxSt c (X c) 16) ∗ sideSt (svOf X) c false ∗ SendSt (svOf X) rv κ c (loSt c 15) ∗ R)
    ⊢ iprop(SendSt (svOf X) rv κ c (hiSt c 0) ∗ ins c (X c) ∗ ctxSt c (X c) 16 ∗ sideK (svOf X) c false c ∗ R) := by
  iintro ⟨⟨Hi, Hx⟩, Hb, HS, HR⟩
  ihave H := (hi_start (svOf X) rv κ c) $$ [HS Hb]
  · iframe ∗
  icases H with ⟨HS, Hk⟩
  iframe ∗

/-- The waits of the exchange, with the device's own rows in hand. -/
abbrev OwnSt (X : Dev nD → Inp F) (c : Dev nD) : SP F :=
  iprop(sndPts c c (svOf X c) ∗ bigSep Finset.univ fun k : Fin 15 => cred (tallyAt (cell c 0 k) () N))

theorem own_enter : iprop(SendSt (svOf X) rv κ c (hiSt c 15) ∗ sideK (svOf X) c true c ∗ sideK (svOf X) c false c ∗ WSt (svOf X) rv c 1 0 ∗ R)
    ⊢ iprop(OW (svOf X) rv κ c (debt c ∅ ∅ Finset.univ) ∗ sndPts c c (svOf X c) ∗ WSt (svOf X) rv c 1 0 ∗ (bigSep Finset.univ fun k : Fin 15 => cred (tallyAt (cell c 0 k) () N)) ∗ R) := by
  iintro ⟨HS, Ht, Hf, HW, HR⟩
  ihave HS := (send_done (svOf X) rv κ c) $$ HS
  icases HS with ⟨HO, Hc⟩
  ihave Hs := (own_rows (svOf X) c) $$ [Ht Hf]
  · iframe ∗
  iframe ∗

attribute [local irreducible] k0_cond1 k0_cond2 k0_cond3 k0_cond4 k0_cond5 k0_cond6 k0_cond7 k0_cond8 k0_cond9 k0_cond10 k0_cond11 k0_cond12 k0_cond13
  k0_cond14 k0_cond15 k0_cond16 k0_cond17 k0_cond18 k0_cond19 k0_cond20 k0_cond21 k0_cond22 k0_cond23 k0_cond24 k0_cond25 k0_cond26 k0_cond27 k0_cond28
  k0_cond29 k0_cond30

theorem part12 (a b d e f) {Q : _ → SP F}
    (h : ∀ w, iprop(SendSt (svOf X) rv κ c (loSt c 4) ∗ ins c (X c) ∗ ctxSt c (X c) 8 ∗ sideK (svOf X) c true c ∗ (∃ f, upPts c f) ∗ R) ⊢ Q w) {P : (S1024x768.Idx → Elt F .bf16) → Prop} :
    iprop(ins c (X c) ∗ ctxSt c (X c) 7 ∗ bufSt c sndM P ∗ OW (svOf X) rv κ c (debt c ∅ Finset.univ Finset.univ) ∗ bigSep Finset.univ (unsent c) ∗ R)
      ⊢ WPc c (onAll (k0_part12 (F := F)) c a b d e f (k0_pay22 biasV (qV (X c) 0) (kPl (X c) 0 7) (vPl (X c) 0 7))) Q := by
  rw [k0_part12_eq_skeleton]; unfold k0_part12_skel
  refine ld_ctx_any _ fun _ => ?_
  refine st_ctx 0 7 rfl rfl (pay_b0h7 _) (ld_ctx_pl 0 rfl (by decide) (ld_wo (regroup (ld_snd_lo _ fun _ => ?_))))
  refine st_snd_lo rfl ?_
  refine .trans lo_enter ?_
  refine send_lo 0 rfl ((by decide +kernel : ∀ d : Dev nD, k0_cond1 d = 1#1 ↔ (peer d 0).val < 8) c) (fun hc _ _ _ hσ hh => send_core 0 hσ (sem_s1s 0) (sem_s1r 0) (src_eq (k0_off1_eq c) _) rfl (Fin.ext (k0_dev16_eq c)) hh) ?_
  refine send_lo 1 rfl ((by decide +kernel : ∀ d : Dev nD, k0_cond2 d = 1#1 ↔ (peer d 1).val < 8) c) (fun hc _ _ _ hσ hh => send_core 1 hσ (sem_s1s 1) (sem_s1r 1) (src_eq (k0_off2_eq c) _) rfl (Fin.ext (k0_dev17_eq c)) hh) ?_
  refine send_lo 2 rfl ((by decide +kernel : ∀ d : Dev nD, k0_cond3 d = 1#1 ↔ (peer d 2).val < 8) c) (fun hc _ _ _ hσ hh => send_core 2 hσ (sem_s1s 2) (sem_s1r 2) (src_eq (k0_off3_eq c) _) rfl (Fin.ext (k0_dev18_eq c)) hh) ?_
  refine send_lo 3 rfl ((by decide +kernel : ∀ d : Dev nD, k0_cond4 d = 1#1 ↔ (peer d 3).val < 8) c) (fun hc _ _ _ hσ hh => send_core 3 hσ (sem_s1s 3) (sem_s1r 3) (src_eq (k0_off4_eq c) _) rfl (Fin.ext (k0_dev19_eq c)) hh) ?_
  exact ret_step (h _)

theorem part13 (v77 v80 v83 v86 v89 v92 v95 v382) {Q : _ → SP F} (h : iprop(SendSt (svOf X) rv κ c (loSt c 10) ∗ R) ⊢ Q ⟨⟩) :
    iprop(SendSt (svOf X) rv κ c (loSt c 4) ∗ R) ⊢ WPc c (onAll (k0_part13 (F := F)) c v77 v80 v83 v86 v89 v92 v95 v382) Q := by
  rw [k0_part13_eq_skeleton]; unfold k0_part13_skel
  refine send_lo 4 rfl ((by decide +kernel : ∀ d : Dev nD, k0_cond5 d = 1#1 ↔ (peer d 4).val < 8) c) (fun hc _ _ _ hσ hh => send_core 4 hσ (sem_s1s 4) (sem_s1r 4) (src_eq (k0_off5_eq c) _) rfl (Fin.ext (k0_dev20_eq c)) hh) ?_
  refine send_lo 5 rfl ((by decide +kernel : ∀ d : Dev nD, k0_cond6 d = 1#1 ↔ (peer d 5).val < 8) c) (fun hc _ _ _ hσ hh => send_core 5 hσ (sem_s1s 5) (sem_s1r 5) (src_eq (k0_off6_eq c) _) rfl (Fin.ext (k0_dev21_eq c)) hh) ?_
  refine send_lo 6 rfl ((by decide +kernel : ∀ d : Dev nD, k0_cond7 d = 1#1 ↔ (peer d 6).val < 8) c) (fun hc _ _ _ hσ hh => send_core 6 hσ (sem_s1s 6) (sem_s1r 6) (src_eq (k0_off7_eq c) _) rfl (Fin.ext (k0_dev22_eq c)) hh) ?_
  refine send_lo 7 rfl ((by decide +kernel : ∀ d : Dev nD, k0_cond8 d = 1#1 ↔ (peer d 7).val < 8) c) (fun hc _ _ _ hσ hh => send_core 7 hσ (sem_s1s 7) (sem_s1r 7) (src_eq (k0_off8_eq c) _) rfl (Fin.ext (k0_dev23_eq c)) hh) ?_
  refine send_lo 8 rfl ((by decide +kernel : ∀ d : Dev nD, k0_cond9 d = 1#1 ↔ (peer d 8).val < 8) c) (fun hc _ _ _ hσ hh => send_core 8 hσ (sem_s1s 8) (sem_s1r 8) (src_eq (k0_off9_eq c) _) rfl (Fin.ext (k0_dev24_eq c)) hh) ?_
  refine send_lo 9 rfl ((by decide +kernel : ∀ d : Dev nD, k0_cond10 d = 1#1 ↔ (peer d 9).val < 8) c) (fun hc _ _ _ hσ hh => send_core 9 hσ (sem_s1s 9) (sem_s1r 9) (src_eq (k0_off10_eq c) _) rfl (Fin.ext (k0_dev25_eq c)) hh) ?_
  exact ret_step h

theorem part14 (v95 v98 v101 v104 v107) {Q : _ → SP F}
    (h : iprop(ins c (X c) ∗ SendSt (svOf X) rv κ c (loSt c 15) ∗ R) ⊢ Q ⟨qV (X c) 1, k0_pay26 (xPl (X c) 1) (wqPl (X c)) (kPl (X c) 1 0), k0_pay27⟩) :
    iprop(SendSt (svOf X) rv κ c (loSt c 10) ∗ ins c (X c) ∗ R) ⊢ WPc c (onAll (k0_part14 (F := F)) c v95 v98 v101 v104 v107) Q := by
  rw [k0_part14_eq_skeleton]; unfold k0_part14_skel
  refine send_lo 10 rfl ((by decide +kernel : ∀ d : Dev nD, k0_cond11 d = 1#1 ↔ (peer d 10).val < 8) c) (fun hc _ _ _ hσ hh => send_core 10 hσ (sem_s1s 10) (sem_s1r 10) (src_eq (k0_off11_eq c) _) rfl (Fin.ext (k0_dev26_eq c)) hh) ?_
  refine send_lo 11 rfl ((by decide +kernel : ∀ d : Dev nD, k0_cond12 d = 1#1 ↔ (peer d 11).val < 8) c) (fun hc _ _ _ hσ hh => send_core 11 hσ (sem_s1s 11) (sem_s1r 11) (src_eq (k0_off12_eq c) _) rfl (Fin.ext (k0_dev27_eq c)) hh) ?_
  refine send_lo 12 rfl ((by decide +kernel : ∀ d : Dev nD, k0_cond13 d = 1#1 ↔ (peer d 12).val < 8) c) (fun hc _ _ _ hσ hh => send_core 12 hσ (sem_s1s 12) (sem_s1r 12) (src_eq (k0_off13_eq c) _) rfl (Fin.ext (k0_dev28_eq c)) hh) ?_
  refine send_lo 13 rfl ((by decide +kernel : ∀ d : Dev nD, k0_cond14 d = 1#1 ↔ (peer d 13).val < 8) c) (fun hc _ _ _ hσ hh => send_core 13 hσ (sem_s1s 13) (sem_s1r 13) (src_eq (k0_off14_eq c) _) rfl (Fin.ext (k0_dev29_eq c)) hh) ?_
  refine send_lo 14 rfl ((by decide +kernel : ∀ d : Dev nD, k0_cond15 d = 1#1 ↔ (peer d 14).val < 8) c) (fun hc _ _ _ hσ hh => send_core 14 hσ (sem_s1s 14) (sem_s1r 14) (src_eq (k0_off15_eq c) _) rfl (Fin.ext (k0_dev30_eq c)) hh) ?_
  refine swap12 (ld_x 1 rfl (ld_wq (ld_k 1 0 rfl (ret_step ?_))))
  rw [pay_q1]; exact h

theorem part15 {n : ℕ} (hn : n = 8) {Q : _ → SP F} (h : iprop(ins c (X c) ∗ ctxSt c (X c) 9 ∗ R) ⊢ Q (k0_pay29 biasV (qV (X c) 1) (kPl (X c) 1 1) (vPl (X c) 1 1))) :
    iprop(ins c (X c) ∗ ctxSt c (X c) n ∗ R) ⊢ WPc c (onAll (k0_part15 (F := F)) biasV (qV (X c) 1) (k0_pay26 (xPl (X c) 1) (wqPl (X c)) (kPl (X c) 1 0)) k0_pay27) Q := by
  subst hn
  rw [k0_part15_eq_skeleton]; unfold k0_part15_skel
  refine ld_v 1 0 rfl (ld_ctx_any _ fun _ => ?_)
  exact st_ctx 1 0 rfl rfl (pay_b1h0 _) (ld_k 1 1 rfl (ld_v 1 1 rfl (ld_ctx_any _ fun _ => ret_step h)))

theorem part16 {Q : _ → SP F} (h : iprop(ins c (X c) ∗ ctxSt c (X c) 11 ∗ R) ⊢ Q (k0_pay31 biasV (qV (X c) 1) (kPl (X c) 1 3))) :
    iprop(ins c (X c) ∗ ctxSt c (X c) 9 ∗ R) ⊢ WPc c (onAll (k0_part16 (F := F)) biasV (qV (X c) 1) (k0_pay29 biasV (qV (X c) 1) (kPl (X c) 1 1) (vPl (X c) 1 1))) Q := by
  rw [k0_part16_eq_skeleton]; unfold k0_part16_skel
  refine st_ctx 1 1 rfl rfl (pay_b1h1 _) (ld_k 1 2 rfl (ld_v 1 2 rfl (ld_ctx_any _ fun _ => ?_)))
  exact st_ctx 1 2 rfl rfl (pay_b1h2 _) (ld_k 1 3 rfl (ret_step h))

theorem part17 {Q : _ → SP F} (h : iprop(ins c (X c) ∗ ctxSt c (X c) 13 ∗ R) ⊢ Q ⟨k0_pay34 (qV (X c) 1) (kPl (X c) 1 5), k0_pay35⟩) :
    iprop(ins c (X c) ∗ ctxSt c (X c) 11 ∗ R) ⊢ WPc c (onAll (k0_part17 (F := F)) biasV (qV (X c) 1) (k0_pay31 biasV (qV (X c) 1) (kPl (X c) 1 3))) Q := by
  rw [k0_part17_eq_skeleton]; unfold k0_part17_skel
  refine ld_v 1 3 rfl (ld_ctx_any _ fun _ => ?_)
  refine st_ctx 1 3 rfl rfl (pay_b1h3 _) (ld_k 1 4 rfl (ld_v 1 4 rfl (ld_ctx_any _ fun _ => ?_)))
  exact st_ctx 1 4 rfl rfl (pay_b1h4 _) (ld_k 1 5 rfl (ret_step h))

theorem part18 {Q : _ → SP F} (h : iprop(ins c (X c) ∗ ctxSt c (X c) 14 ∗ R) ⊢ Q (k0_pay37 biasV (qV (X c) 1) (kPl (X c) 1 6) (vPl (X c) 1 6))) :
    iprop(ins c (X c) ∗ ctxSt c (X c) 13 ∗ R) ⊢ WPc c (onAll (k0_part18 (F := F)) biasV (qV (X c) 1) (k0_pay34 (qV (X c) 1) (kPl (X c) 1 5)) k0_pay35) Q := by
  rw [k0_part18_eq_skeleton]; unfold k0_part18_skel
  refine ld_v 1 5 rfl (ld_ctx_any _ fun _ => ?_)
  exact st_ctx 1 5 rfl rfl (pay_b1h5 _) (ld_k 1 6 rfl (ld_v 1 6 rfl (ld_ctx_any _ fun _ => ret_step h)))

theorem part19 (v65) {Q : _ → SP F}
    (h : ∀ w, iprop(SendSt (svOf X) rv κ c (hiSt c 0) ∗ ins c (X c) ∗ ctxSt c (X c) 16 ∗ sideK (svOf X) c false c ∗ R) ⊢ Q w) :
    iprop(ins c (X c) ∗ ctxSt c (X c) 14 ∗ (∃ f, upPts c f) ∗ SendSt (svOf X) rv κ c (loSt c 15) ∗ R)
      ⊢ WPc c (onAll (k0_part19 (F := F)) v65 biasV (qV (X c) 1) (k0_pay37 biasV (qV (X c) 1) (kPl (X c) 1 6) (vPl (X c) 1 6))) Q := by
  rw [k0_part19_eq_skeleton]; unfold k0_part19_skel
  refine st_ctx 1 6 rfl rfl (pay_b1h6 _) (ld_k 1 7 rfl (ld_v 1 7 rfl (ld_ctx_any _ fun _ => ?_)))
  refine st_ctx 1 7 rfl rfl (pay_b1h7 _) (ld_ctx_pl 1 rfl (by decide) (ld_wo (regroup (ld_snd_hi fun _ => ?_))))
  exact st_snd_hi (pay_part1 _) (BIBase.Entails.trans hi_enter (ret_step (h _)))

theorem part20 (a b d e f g i j k) {Q : _ → SP F} (h : ∀ w, iprop(SendSt (svOf X) rv κ c (hiSt c 7) ∗ R) ⊢ Q w) :
    iprop(SendSt (svOf X) rv κ c (hiSt c 0) ∗ R) ⊢ WPc c (onAll (k0_part20 (F := F)) c a b d e f g i j k) Q := by
  rw [k0_part20_eq_skeleton]; unfold k0_part20_skel
  refine send_hi 0 rfl ((by decide +kernel : ∀ d : Dev nD, k0_cond16 d = 1#1 ↔ 8 ≤ (peer d 0).val) c) (fun hc _ _ _ hσ hh => send_core 0 hσ (sem_s1s 0) (sem_s1r 0) (src_eq (k0_off16_eq c) _) rfl (Fin.ext (k0_dev31_eq c)) hh) ?_
  refine send_hi 1 rfl ((by decide +kernel : ∀ d : Dev nD, k0_cond17 d = 1#1 ↔ 8 ≤ (peer d 1).val) c) (fun hc _ _ _ hσ hh => send_core 1 hσ (sem_s1s 1) (sem_s1r 1) (src_eq (k0_off17_eq c) _) rfl (Fin.ext (k0_dev32_eq c)) hh) ?_
  refine send_hi 2 rfl ((by decide +kernel : ∀ d : Dev nD, k0_cond18 d = 1#1 ↔ 8 ≤ (peer d 2).val) c) (fun hc _ _ _ hσ hh => send_core 2 hσ (sem_s1s 2) (sem_s1r 2) (src_eq (k0_off18_eq c) _) rfl (Fin.ext (k0_dev33_eq c)) hh) ?_
  refine send_hi 3 rfl ((by decide +kernel : ∀ d : Dev nD, k0_cond19 d = 1#1 ↔ 8 ≤ (peer d 3).val) c) (fun hc _ _ _ hσ hh => send_core 3 hσ (sem_s1s 3) (sem_s1r 3) (src_eq (k0_off19_eq c) _) rfl (Fin.ext (k0_dev34_eq c)) hh) ?_
  refine send_hi 4 rfl ((by decide +kernel : ∀ d : Dev nD, k0_cond20 d = 1#1 ↔ 8 ≤ (peer d 4).val) c) (fun hc _ _ _ hσ hh => send_core 4 hσ (sem_s1s 4) (sem_s1r 4) (src_eq (k0_off20_eq c) _) rfl (Fin.ext (k0_dev35_eq c)) hh) ?_
  refine send_hi 5 rfl ((by decide +kernel : ∀ d : Dev nD, k0_cond21 d = 1#1 ↔ 8 ≤ (peer d 5).val) c) (fun hc _ _ _ hσ hh => send_core 5 hσ (sem_s1s 5) (sem_s1r 5) (src_eq (k0_off21_eq c) _) rfl (Fin.ext (k0_dev36_eq c)) hh) ?_
  refine send_hi 6 rfl ((by decide +kernel : ∀ d : Dev nD, k0_cond22 d = 1#1 ↔ 8 ≤ (peer d 6).val) c) (fun hc _ _ _ hσ hh => send_core 6 hσ (sem_s1s 6) (sem_s1r 6) (src_eq (k0_off22_eq c) _) rfl (Fin.ext (k0_dev37_eq c)) hh) ?_
  exact ret_step (h _)

theorem part21 (a b d e f g i j) {Q : _ → SP F} (h : iprop(SendSt (svOf X) rv κ c (hiSt c 13) ∗ R) ⊢ Q ⟨⟩) :
    iprop(SendSt (svOf X) rv κ c (hiSt c 7) ∗ R) ⊢ WPc c (onAll (k0_part21 (F := F)) c a b d e f g i j) Q := by
  rw [k0_part21_eq_skeleton]; unfold k0_part21_skel
  refine send_hi 7 rfl ((by decide +kernel : ∀ d : Dev nD, k0_cond23 d = 1#1 ↔ 8 ≤ (peer d 7).val) c) (fun hc _ _ _ hσ hh => send_core 7 hσ (sem_s1s 7) (sem_s1r 7) (src_eq (k0_off23_eq c) _) rfl (Fin.ext (k0_dev38_eq c)) hh) ?_
  refine send_hi 8 rfl ((by decide +kernel : ∀ d : Dev nD, k0_cond24 d = 1#1 ↔ 8 ≤ (peer d 8).val) c) (fun hc _ _ _ hσ hh => send_core 8 hσ (sem_s1s 8) (sem_s1r 8) (src_eq (k0_off24_eq c) _) rfl (Fin.ext (k0_dev39_eq c)) hh) ?_
  refine send_hi 9 rfl ((by decide +kernel : ∀ d : Dev nD, k0_cond25 d = 1#1 ↔ 8 ≤ (peer d 9).val) c) (fun hc _ _ _ hσ hh => send_core 9 hσ (sem_s1s 9) (sem_s1r 9) (src_eq (k0_off25_eq c) _) rfl (Fin.ext (k0_dev40_eq c)) hh) ?_
  refine send_hi 10 rfl ((by decide +kernel : ∀ d : Dev nD, k0_cond26 d = 1#1 ↔ 8 ≤ (peer d 10).val) c) (fun hc _ _ _ hσ hh => send_core 10 hσ (sem_s1s 10) (sem_s1r 10) (src_eq (k0_off26_eq c) _) rfl (Fin.ext (k0_dev41_eq c)) hh) ?_
  refine send_hi 11 rfl ((by decide +kernel : ∀ d : Dev nD, k0_cond27 d = 1#1 ↔ 8 ≤ (peer d 11).val) c) (fun hc _ _ _ hσ hh => send_core 11 hσ (sem_s1s 11) (sem_s1r 11) (src_eq (k0_off27_eq c) _) rfl (Fin.ext (k0_dev42_eq c)) hh) ?_
  refine send_hi 12 rfl ((by decide +kernel : ∀ d : Dev nD, k0_cond28 d = 1#1 ↔ 8 ≤ (peer d 12).val) c) (fun hc _ _ _ hσ hh => send_core 12 hσ (sem_s1s 12) (sem_s1r 12) (src_eq (k0_off28_eq c) _) rfl (Fin.ext (k0_dev43_eq c)) hh) ?_
  exact ret_step h

theorem part22 (v2 v104 v107) {Q : _ → SP F}
    (h : iprop(OW (svOf X) rv κ c (debt c ∅ ∅ Finset.univ) ∗ WSt (svOf X) rv c 1 1 ∗ sndPts c c (svOf X c) ∗ (bigSep Finset.univ fun k : Fin 15 => cred (tallyAt (cell c 0 k) () N)) ∗ R) ⊢ Q (accV X c 1)) :
    iprop(SendSt (svOf X) rv κ c (hiSt c 13) ∗ sideK (svOf X) c true c ∗ sideK (svOf X) c false c ∗ WSt (svOf X) rv c 1 0 ∗ R)
      ⊢ WPc c (onAll (k0_part22 (F := F)) c v2 v104 v107) Q := by
  rw [k0_part22_eq_skeleton]; unfold k0_part22_skel
  refine send_hi 13 rfl ((by decide +kernel : ∀ d : Dev nD, k0_cond29 d = 1#1 ↔ 8 ≤ (peer d 13).val) c) (fun hc _ _ _ hσ hh => send_core 13 hσ (sem_s1s 13) (sem_s1r 13) (src_eq (k0_off29_eq c) _) rfl (Fin.ext (k0_dev44_eq c)) hh) ?_
  refine send_hi 14 rfl ((by decide +kernel : ∀ d : Dev nD, k0_cond30 d = 1#1 ↔ 8 ≤ (peer d 14).val) c) (fun hc _ _ _ hσ hh => send_core 14 hσ (sem_s1s 14) (sem_s1r 14) (src_eq (k0_off30_eq c) _) rfl (Fin.ext (k0_dev45_eq c)) hh) ?_
  refine .trans own_enter ?_
  refine ld_own (k0_off31_eq c) (swap23 ?_)
  refine wait_step 1 0 rfl (mayWait_cell c 1 0 (by decide)) (sem_s1r 0) rfl (ld_slot 0 (by decide) rfl ?_)
  exact ret_step h

end

end Cert.KernelIdeal.Talk
-- ==== Proof.BodyE.lean ====
/-
  The whole body: its pieces in order, and what the buffers hold at its end.
-/
module

public import proofs.«01_k».proof.Proof.BodyD
public import proofs.«01_k».proof.Proof.BodyB

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

section
variable {X : Dev nD → Inp F} {κ : GSem nD τ sig → ℕ} {c : Dev nD} {R : SP F}

/-- A device's own buffers that the exchange leaves alone until its part of them is due. -/
abbrev Held (c : Dev nD) : SP F := iprop(bufSt c redM (fun _ => True) ∗ (∃ f, flatPts c c f))
/-- The places of the waits for departures, both rounds. -/
abbrev Pos (c : Dev nD) : SP F :=
  iprop(bigSep Finset.univ (fun k : Fin 15 => atPos ER (cell c 0 k) 0 ∅ 0) ∗ bigSep Finset.univ (fun k : Fin 15 => atPos ER (cell c 2 k) 0 ∅ 0))
/-- The waits for what arrives, both rounds. -/
abbrev Arr (X : Dev nD → Inp F) (c : Dev nD) : SP F := iprop(WSt (svOf X) (rvOf X) c 1 0 ∗ WSt (svOf X) (rvOf X) c 3 0)

/-- What a device starts from. -/
abbrev BodyPre (X : Dev nD → Inp F) (κ : GSem nD τ sig → ℕ) (c : Dev nD) (R : SP F) : SP F :=
  iprop(SigSt (svOf X) (rvOf X) κ c 0 ∗ BarSt c ∗ bigSep Finset.univ (dutA c) ∗ bigSep Finset.univ (dutB c) ∗ ins c (X c) ∗ ctxSt c (X c) 0
    ∗ bufSt c sndM (fun _ => True) ∗ Held c ∗ Pos c ∗ Arr X c ∗ R)

/-- A cell at zero for each slot. -/
abbrev Zero (c : Dev nD) (j : Fin 4) : SP F := bigSep Finset.univ fun k : Fin 15 => semVal (cell c j k) 0

/-- What the exchange leaves. -/
abbrev BodyMid (X : Dev nD → Inp F) (κ : GSem nD τ sig → ℕ) (c : Dev nD) (R : SP F) : SP F :=
  iprop(OW (svOf X) (rvOf X) κ c 0 ∗ whPts c flatM (flatV (rvOf X)) ∗ (ins c (X c) ∗ ctxSt c (X c) 16 ∗ whPts c sndM (svOf X c) ∗ whPts c a2aM (a2aV (svOf X) c)
    ∗ redPts c fullShare (rvOf X c) ∗ semVal (barCell c) 0 ∗ Zero c 0 ∗ Zero c 1 ∗ Zero c 2 ∗ Zero c 3) ∗ R)

/-- The whole body's regrouping after the barrier. -/
theorem after_bar : iprop(OW (svOf X) (rvOf X) κ c (debt c ∅ Finset.univ Finset.univ) ∗ BarGot c ∗ bigSep Finset.univ (dutA c) ∗ bigSep Finset.univ (dutB c)
      ∗ ins c (X c) ∗ ctxSt c (X c) 0 ∗ bufSt c sndM (fun _ => True) ∗ R)
    ⊢ iprop(ins c (X c) ∗ ctxSt c (X c) 0 ∗ bufSt c sndM (fun _ => True) ∗ OW (svOf X) (rvOf X) κ c (debt c ∅ Finset.univ Finset.univ)
      ∗ bigSep Finset.univ (unsent c) ∗ bigSep Finset.univ (gathU c) ∗ semVal (barCell c) 0 ∗ R) := by
  iintro ⟨HO, HG, HA, HB, Hi, Hx, Hs, HR⟩
  ihave H := (got_split c) $$ [HG HA HB]
  · iframe ∗
  icases H with ⟨Hv, HU, Hg⟩
  iframe ∗

theorem before_hi {A B C D E : SP F} : iprop(A ∗ B ∗ C ∗ D ∗ E ∗ R) ⊢ iprop(A ∗ C ∗ E ∗ B ∗ D ∗ R) := by
  iintro ⟨HA, HB, HC, HD, HE, HR⟩; iframe ∗

theorem before_own : iprop(SendSt (svOf X) (rvOf X) κ c (hiSt c 13) ∗ ins c (X c) ∗ ctxSt c (X c) 16 ∗ sideK (svOf X) c false c ∗ sideK (svOf X) c true c
      ∗ bigSep Finset.univ (gathU c) ∗ semVal (barCell c) 0 ∗ Held c ∗ Pos c ∗ Arr X c ∗ R)
    ⊢ iprop(SendSt (svOf X) (rvOf X) κ c (hiSt c 13) ∗ sideK (svOf X) c true c ∗ sideK (svOf X) c false c ∗ WSt (svOf X) (rvOf X) c 1 0
      ∗ Held c ∗ bigSep Finset.univ (gathU c) ∗ Pos c ∗ WSt (svOf X) (rvOf X) c 3 0 ∗ ins c (X c) ∗ ctxSt c (X c) 16 ∗ semVal (barCell c) 0 ∗ R) := by
  unfold Held Pos Arr
  iintro ⟨HA, HB, HC, HD, HE, HF, HG, ⟨HH, HH'⟩, ⟨HI, HI'⟩, ⟨HJ, HJ'⟩, HR⟩; iframe ∗

theorem before_take {A B C D E G : SP F} : iprop(A ∗ B ∗ C ∗ D ∗ (E ∗ G) ∗ R) ⊢ iprop(A ∗ B ∗ E ∗ C ∗ D ∗ G ∗ R) := by
  iintro ⟨HA, HB, HC, HD, ⟨HE, HG⟩, HR⟩; iframe ∗

theorem before_flat : TakeSt X κ c 1 15 iprop(bufSt c redM (fun g => ∀ i, g i = rvOf X c i) ∗ sndPts c c (svOf X c) ∗ (bigSep Finset.univ fun k : Fin 15 => cred (tallyAt (cell c 0 k) () N))
      ∗ (∃ f, flatPts c c f) ∗ bigSep Finset.univ (gathU c) ∗ Pos c ∗ R)
    ⊢ TakeSt X κ c 0 0 iprop((∃ f, flatPts c c f) ∗ bufSt c redM (fun g => ∀ i, g i = rvOf X c i) ∗ bigSep Finset.univ (gathU c) ∗ sndPts c c (svOf X c)
      ∗ WSt (svOf X) (rvOf X) c 1 15 ∗ bigSep Finset.univ (fun k : Fin 15 => atPos ER (cell c 2 k) 0 ∅ 0) ∗ R) := by
  unfold TakeSt
  iintro ⟨HO, HW, Hr, Hs, Hc, Hf, Hg, ⟨Ha, Hb⟩, HR⟩
  ihave Hw := (wait_start (svOf X) (rvOf X) c 0) $$ [Hc Ha]
  · iframe ∗
  iframe ∗

theorem before_gath {A B C D E : SP F} : iprop(A ∗ B ∗ C ∗ D ∗ E ∗ R) ⊢ iprop(A ∗ B ∗ D ∗ E ∗ C ∗ R) := by
  iintro ⟨HA, HB, HC, HD, HE, HR⟩; iframe ∗

theorem before_last {A B C D E G H I : SP F} : iprop(A ∗ B ∗ C ∗ D ∗ E ∗ G ∗ H ∗ I ∗ R) ⊢ iprop(A ∗ I ∗ H ∗ B ∗ C ∗ D ∗ E ∗ G ∗ R) := by
  iintro ⟨HA, HB, HC, HD, HE, HG, HH, HI, HR⟩; iframe ∗

theorem share_back : iprop(redPts c (Transfers.shareDrop fullShare 15) (rvOf X c) ∗ bigSep Finset.univ fun k : Fin 15 => dmaPay (svOf X) (rvOf X) c (2 : Fin 4).val k)
    ⊢ redPts c fullShare (rvOf X c) := red_join c (rvOf X c)

theorem at_rest : DoneSt X κ c 2 15 iprop(WSt (svOf X) (rvOf X) c 3 15 ∗ WSt (svOf X) (rvOf X) c 0 15 ∗ redPts c (Transfers.shareDrop fullShare 15) (rvOf X c)
      ∗ flatPts c c (flatV (rvOf X)) ∗ sndPts c c (svOf X c) ∗ WSt (svOf X) (rvOf X) c 1 15 ∗ ins c (X c) ∗ ctxSt c (X c) 16 ∗ semVal (barCell c) 0 ∗ R)
    ⊢ BodyMid X κ c R := by
  unfold DoneSt
  iintro ⟨HO, W2, W3, W0, Hr, Hf, Hs, W1, Hi, Hx, Hv, HR⟩
  ihave W0 := (wait_done (svOf X) (rvOf X) c 0) $$ W0
  icases W0 with ⟨Z0, D0⟩
  ihave W1 := (wait_done (svOf X) (rvOf X) c 1) $$ W1
  icases W1 with ⟨Z1, D1⟩
  ihave W2 := (wait_done (svOf X) (rvOf X) c 2) $$ W2
  icases W2 with ⟨Z2, D2⟩
  ihave W3 := (wait_done (svOf X) (rvOf X) c 3) $$ W3
  icases W3 with ⟨Z3, D3⟩
  ihave D0 := (snd_join (svOf X) (rvOf X) c) $$ [Hs D0]
  · iframe ∗
  ihave D1 := (a2a_join (svOf X) (rvOf X) c) $$ D1
  ihave D2 := share_back $$ [Hr D2]
  · iframe ∗
  ihave D3 := (flat_join (svOf X) (rvOf X) c) $$ [Hf D3]
  · iframe ∗
  unfold BodyMid
  iframe ∗

attribute [local irreducible] k0_part1 k0_part2 k0_part3 k0_part4 k0_part5 k0_part6 k0_part7 k0_part8 k0_part9 k0_part10 k0_part11 k0_part12 k0_part13
  k0_part14 k0_part15 k0_part16 k0_part17 k0_part18 k0_part19 k0_part20 k0_part21 k0_part22 k0_part23 k0_part24 k0_part25 k0_part26 k0_part27 k0_part28
  k0_part29 k0_part30 k0_part31 k0_part32 k0_part33 k0_part34 k0_part35 k0_part36 k0_part37 k0_part38 k0_part39

theorem part40 {Q : _ → SP F} (h : BodyMid X κ c R ⊢ Q ⟨⟩) : BodyPre X κ c R ⊢ WPc c (onAll (k0_part40 (F := F))) Q := by
  rw [k0_part40_eq_skeleton]; unfold k0_part40_skel
  refine seq_step (part1 (svOf X) (rvOf X) κ c fun _ _ _ => ?_)
  refine seq_step (part2 (svOf X) (rvOf X) κ c _ _ _ fun _ _ => ?_)
  refine seq_step (part3 (svOf X) (rvOf X) κ c _ _ _ fun _ _ _ _ => ?_)
  refine .trans after_bar ?_
  refine seq_step (part4 _ _ fun _ _ _ _ _ _ _ _ _ _ _ => ?_)
  refine seq_step (part5 _ _ fun _ _ => ?_)
  refine seq_step (part6 ?_)
  refine seq_step (part7 ?_)
  refine seq_step (part8 ?_)
  refine seq_step (part9 ?_)
  refine seq_step (part10 ?_)
  refine seq_step (part11 ?_)
  refine seq_step (part12 _ _ _ _ _ fun _ => ?_)
  refine seq_step (part13 _ _ _ _ _ _ _ _ ?_)
  refine seq_step (part14 _ _ _ _ _ ?_)
  refine .trans before_hi ?_
  refine seq_step (part15 rfl ?_)
  refine seq_step (part16 ?_)
  refine seq_step (part17 ?_)
  refine seq_step (part18 ?_)
  refine seq_step (part19 _ fun _ => ?_)
  refine seq_step (part20 _ _ _ _ _ _ _ _ _ fun _ => ?_)
  refine seq_step (part21 _ _ _ _ _ _ _ _ ?_)
  refine .trans before_own ?_
  refine seq_step (part22 _ _ _ ?_)
  refine .trans before_take ?_
  refine seq_step (part23 _ ?_)
  refine seq_step (part24 _ ?_)
  refine seq_step (part25 _ ?_)
  refine seq_step (part26 _ ?_)
  refine seq_step (part27 _ fun _ => ?_)
  refine seq_step (part28 _ _ ?_)
  refine .trans before_flat ?_
  refine seq_step (part29 ?_)
  refine .trans before_gath ?_
  refine seq_step (part30 ?_)
  refine seq_step (part31 ?_)
  refine seq_step (part32 _ _ _ _ ?_)
  refine seq_step (part33 _ _ _ _ _ ?_)
  refine seq_step (part34 _ _ _ _ _ ?_)
  refine seq_step (part35 _ _ _ _ _ ?_)
  refine .trans before_last ?_
  refine seq_step (part36 _ ?_)
  refine seq_step (part37 _ ?_)
  refine seq_step (part38 _ ?_)
  refine seq_step (part39 ?_)
  refine wait_step 2 12 rfl (mayWait_free c _) (sem_s2s 12) rfl ?_
  refine wait_step 2 13 rfl (mayWait_free c _) (sem_s2s 13) rfl ?_
  refine wait_step 2 14 rfl (mayWait_free c _) (sem_s2s 14) rfl ?_
  refine .trans at_rest ?_
  exact ret_step h

end

end Cert.KernelIdeal.Talk
-- ==== Proof.BodyF.lean ====
/-
  The whole body of the kernel: the exchange and the computation, then the copy into the result.
-/
module

public import proofs.«01_k».proof.Proof.BodyE

@[expose] public section

set_option maxRecDepth 65536

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

section
variable {X : Dev nD → Inp F} {κ : GSem nD τ sig → ℕ} {c : Dev nD} {R : SP F}

/-- The buffers and counters beside the last two, when the exchange is over. -/
abbrev Rest (X : Dev nD → Inp F) (c : Dev nD) : SP F :=
  iprop(ins c (X c) ∗ ctxSt c (X c) 16 ∗ whPts c sndM (svOf X c) ∗ whPts c a2aM (a2aV (svOf X) c) ∗ redPts c fullShare (rvOf X c)
    ∗ semVal (barCell c) 0 ∗ Zero c 0 ∗ Zero c 1 ∗ Zero c 2 ∗ Zero c 3)

/-- What a device ends with: the result in place. -/
abbrev BodyEnd (X : Dev nD → Inp F) (κ : GSem nD τ sig → ℕ) (c : Dev nD) (R : SP F) : SP F :=
  iprop(OW (svOf X) (rvOf X) κ c 0 ∗ whPts c outM (outV X) ∗ whPts c flatM (flatV (rvOf X)) ∗ Rest X c ∗ R)

theorem to_out {A B C D G : SP F} (h : iprop(A ∗ D ∗ B ∗ C ∗ R) ⊢ G) : iprop(A ∗ B ∗ C ∗ D ∗ R) ⊢ G := by
  refine .trans ?_ h
  iintro ⟨H1, H2, H3, H4, H5⟩; iframe ∗
theorem swap_out {A B D G : SP F} (h : iprop(A ∗ D ∗ B ∗ R) ⊢ G) : iprop(A ∗ B ∗ D ∗ R) ⊢ G := by
  refine .trans ?_ h
  iintro ⟨H1, H2, H3, H5⟩; iframe ∗

theorem out_start : bufSt c outM (fun _ => True) ⊢ bufSt c outM (outOk X 0) := by
  unfold bufSt
  iintro ⟨%f, -, HX⟩
  iexists f; isplitr
  · ipureintro; exact fun i hi => absurd hi (Nat.not_lt_zero _)
  iexact HX

theorem body_start : BodyPre X κ c iprop(bufSt c outM (fun _ => True) ∗ R) ⊢ BodyPre X κ c iprop(bufSt c outM (outOk X 0) ∗ R) := by
  refine sep_mono_right (sep_mono_right (sep_mono_right (sep_mono_right (sep_mono_right (sep_mono_right (sep_mono_right (sep_mono_right
    (sep_mono_right (sep_mono_right ?_)))))))))
  exact sep_mono_left out_start

theorem body_end : iprop(OW (svOf X) (rvOf X) κ c 0 ∗ bufSt c outM (outOk X 2) ∗ whPts c flatM (flatV (rvOf X)) ∗ Rest X c ∗ R) ⊢ BodyEnd X κ c R :=
  sep_mono_right (sep_mono_left out_fix)

attribute [local irreducible] k0_part40

theorem whole_body {Q : PUnit → SP F} (h : BodyEnd X κ c R ⊢ Q ⟨⟩) :
    BodyPre X κ c iprop(bufSt c outM (fun _ => True) ∗ R) ⊢ WPc c (onAll (cc0__body (F := F))) Q := by
  refine .trans body_start ?_
  rw [show onAll (cc0__body (F := F)) = onAll (cc0__body_skel (F := F)) from congrArg (fun p => onAll p) cc0__body_eq_skeleton]
  unfold onAll cc0__body_skel
  refine seq_step (part40 ?_)
  unfold BodyMid
  refine ld_flat 0 rfl ?_
  refine to_out ?_
  refine ld_out_any _ fun _ => ?_
  refine st_out 0 rfl rfl rfl ?_
  refine swap_out ?_
  refine ld_flat 1 rfl ?_
  refine swap_out ?_
  refine ld_out_any _ fun _ => ?_
  refine st_out 1 rfl rfl rfl ?_
  refine .trans body_end ?_
  exact ret_step h

end

end Cert.KernelIdeal.Talk
-- ==== Proof.Entry.lean ====
/-
  Entering the kernel and leaving it: from what the launch left a device to what its body starts from, and from what the
  body ends with to the buffers and counters as they were handed over.
-/
module

public import proofs.«01_k».proof.Proof.BodyF
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## The kernel's own counters -/

abbrev osem (t : Fin 4 × Fin 15) : SemLoc sig := .dma (dsem t.1 t.2)

theorem osem_facts : Pipeline.OwnSemFacts spec0 osem := by decide +kernel

theorem four (Φ : Fin 4 → SP F) : bigSep Finset.univ Φ = iprop(Φ 0 ∗ Φ 1 ∗ Φ 2 ∗ Φ 3) :=
  bigSep_univ_eq_bigSepL [(0 : Fin 4), 1, 2, 3] (by decide) (by decide) Φ

/-- A family over the four groups of fifteen cells, group by group. -/
theorem groups (Φ : Fin 4 × Fin 15 → SP F) : bigSep Finset.univ Φ
    = iprop((bigSep Finset.univ fun k => Φ (0, k)) ∗ (bigSep Finset.univ fun k => Φ (1, k)) ∗ (bigSep Finset.univ fun k => Φ (2, k))
      ∗ bigSep Finset.univ fun k => Φ (3, k)) := by
  rw [bigSep_univ_prod, four]

theorem ownSems_eq (c : Dev nD) : (Pipeline.ownSems0 osem c : SP F) = iprop(Zero c 0 ∗ Zero c 1 ∗ Zero c 2 ∗ Zero c 3) := by
  unfold Pipeline.ownSems0; rw [groups]

/-! ## What a device holds around the kernel -/

section
variable (X : Dev nD → Inp F) (κ : GSem nD τ sig → ℕ) (c : Dev nD)

/-- The right to signal each of the fifteen others once. -/
def BarToks : SP F := bigSep Finset.univ fun k : Fin 15 => dutyTok ER (barCell (peer c k)) 0 k.rev
/-- The right to each departure and to each arrival the device causes. -/
def XferToks : SP F :=
  iprop((bigSep Finset.univ fun k : Fin 15 => dutyTok ER (cell c 0 k) 0 0) ∗ (bigSep Finset.univ fun k : Fin 15 => dutyTok ER (cell (peer c k) 1 k) 0 0)
    ∗ (bigSep Finset.univ fun k : Fin 15 => dutyTok ER (cell c 2 k) 0 0) ∗ bigSep Finset.univ fun k : Fin 15 => dutyTok ER (cell (peer c k) 3 k) 0 0)
/-- What the others owe it. -/
def Creds : SP F :=
  iprop((bigSep Finset.univ fun k : Fin 15 => cred (tallyAt (cell c 1 k) () N)) ∗ bigSep Finset.univ fun k : Fin 15 => cred (tallyAt (cell c 3 k) () N))
/-- The right to open each of its own cells. -/
def Opens : SP F := bigSep Finset.univ fun t : Fin 4 × Fin 15 => openTok ER (cell c t.1 t.2)
/-- Its own cells are open. -/
def Reach (j : Fin 4) : SP F := bigSep Finset.univ fun k : Fin 15 => reached ER (cell c j k) 0

/-- What the launch leaves a device. -/
def Kept : SP F := iprop(∃ κ, Gd (svOf X) (rvOf X) κ ∗ BarToks c ∗ BarSt c ∗ XferToks c ∗ Creds c ∗ Opens c)
/-- The same, its own cells opened. -/
def Opened : SP F := iprop(∃ κ, Gd (svOf X) (rvOf X) κ ∗ BarToks c ∗ BarSt c ∗ bigSep Finset.univ (dutA c) ∗ bigSep Finset.univ (dutB c) ∗ Pos c
  ∗ Arr X c ∗ Reach c 1 ∗ Reach c 3)

theorem cells_of : Gd (svOf X) (rvOf X) κ ⊢ bigSep Finset.univ fun t : Fin 4 × Fin 15 => cellInv ER (Rd (svOf X) (rvOf X)) (κ (cell c t.1 t.2)) (cell c t.1 t.2) :=
  bigSep_intro_persistent fun t _ => Gd_cell (svOf X) (rvOf X) κ c t.1 t.2

theorem open_all : iprop(Gd (svOf X) (rvOf X) κ ∗ Opens c ∗ Pipeline.ownSems0 osem c)
    ⊢ (|={Set.univ}=> bigSep Finset.univ fun t : Fin 4 × Fin 15 => iprop(atPos ER (cell c t.1 t.2) 0 ∅ 0 ∗ reached ER (cell c t.1 t.2) 0) : SP F) := by
  refine .trans ?_ (Rounds.cells_open ER (Rd (svOf X) (rvOf X)) Finset.univ (fun t : Fin 4 × Fin 15 => cell c t.1 t.2) (fun t => κ (cell c t.1 t.2))
    (fun _ _ => Set.mem_univ _))
  rw [bigSep_sep']
  unfold Opens Pipeline.ownSems0
  iintro ⟨HG, HO, HZ⟩
  isplitl [HG HO]
  · isplitl [HG]
    · iapply (cells_of X κ c); iexact HG
    iexact HO
  iexact HZ

theorem dut_all (j j' : Fin 4) (T : Fin 15 → SP F) (D : Fin 15 → SP F)
    (h : ∀ k, iprop((dutyTok ER (cell c j k) 0 0 ∗ T k) ∗ reached ER (cell c j k) 0) ⊢ D k) :
    iprop(((bigSep Finset.univ fun k : Fin 15 => dutyTok ER (cell c j k) 0 0) ∗ bigSep Finset.univ T) ∗ Reach c j) ⊢ bigSep Finset.univ D :=
  .trans (sep_mono_left (zip fun _ => sProp_refl _)) (zip h)

theorem open_kept : iprop(Kept X c ∗ Pipeline.ownSems0 osem c ∗ levAts L lv) ⊢ (|={Set.univ}=> Opened X c : SP F) := by
  unfold Kept Opened
  iintro ⟨⟨%κ, #HG, HB, HS, HX, HC, HO⟩, HZ, -⟩
  imod (open_all X κ c) $$ [HO HZ] with H
  · isplitr; · iexact HG
    isplitl [HO] <;> iassumption
  imodintro
  iexists κ
  isplitr; · iexact HG
  isplitl [HB]; · iexact HB
  isplitl [HS]; · iexact HS
  ihave H := (Entails.of_eq (bigSep_sep' Finset.univ (fun t : Fin 4 × Fin 15 => (atPos ER (cell c t.1 t.2) 0 ∅ 0 : SP F)) (fun t => reached ER (cell c t.1 t.2) 0))) $$ H
  icases H with ⟨HA, HR⟩
  ihave HA := (Entails.of_eq (groups fun t : Fin 4 × Fin 15 => (atPos ER (cell c t.1 t.2) 0 ∅ 0 : SP F))) $$ HA
  ihave HR := (Entails.of_eq (groups fun t : Fin 4 × Fin 15 => (reached ER (cell c t.1 t.2) 0 : SP F))) $$ HR
  icases HA with ⟨A0, A1, A2, A3⟩
  icases HR with ⟨R0, R1, R2, R3⟩
  unfold XferToks Creds
  icases HX with ⟨X0, X1, X2, X3⟩
  icases HC with ⟨C1, C3⟩
  isplitl [X0 X1 R0]
  · iapply (dut_all c 0 1 (fun k => dutyTok ER (cell (peer c k) 1 k) 0 0) (dutA c) (fun k => by
      unfold dutA; iintro ⟨⟨H1, H2⟩, H3⟩; iframe ∗))
    unfold Reach; iframe ∗
  isplitl [X2 X3 R2]
  · iapply (dut_all c 2 3 (fun k => dutyTok ER (cell (peer c k) 3 k) 0 0) (dutB c) (fun k => by
      unfold dutB; iintro ⟨⟨H1, H2⟩, H3⟩; iframe ∗))
    unfold Reach; iframe ∗
  isplitl [A0 A2]
  · unfold Pos; isplitl [A0] <;> iassumption
  isplitl [A1 A3 C1 C3]
  · unfold Arr
    isplitl [A1 C1]
    · iapply (wait_start (svOf X) (rvOf X) c 1); isplitl [C1] <;> iassumption
    · iapply (wait_start (svOf X) (rvOf X) c 3); isplitl [C3] <;> iassumption
  unfold Reach
  isplitl [R1] <;> iassumption

/-! ## Into the body -/

theorem barPay_eq (k : Fin 15) : (barPay (peer c k) k.rev : SP F) = iprop((∃ f, slotPts c k.rev f) ∗ (∃ f, flatPts c (peer c k) f)
    ∗ reached ER (cell c 1 k.rev) 0 ∗ reached ER (cell c 3 k.rev) 0) := by
  unfold barPay; rw [peer_peer]

theorem all_from : (Finset.univ.filter fun k : Fin 15 => 0 ≤ k.val) = Finset.univ := Finset.filter_true_of_mem fun _ _ => Nat.zero_le _

/-- The two buffers others write into, cut along the writers, are what the signals carry. -/
theorem sig_start : iprop(Gd (svOf X) (rvOf X) κ ∗ (∃ W, owes (c : Thread nD τ) (O₀ c) W) ∗ BarToks c ∗ Reach c 1 ∗ Reach c 3
      ∗ (∃ f, whPts c a2aM f) ∗ ∃ f, whPts c flatM f)
    ⊢ (iprop(SigSt (svOf X) (rvOf X) κ c 0 ∗ ∃ f, flatPts c c f) : SP F) := by
  unfold SigSt OW
  rw [all_from]
  iintro ⟨HG, HO, HB, H1, H3, ⟨%fa, Ha⟩, ⟨%ff, Hf⟩⟩
  ihave Ha := (Entails.of_eq ((a2a_whole c fa).trans (slot_rev fun k => slotPts c k fa).symm)) $$ Ha
  ihave Hf := (Entails.of_eq ((flat_whole c ff).trans (dev_split c fun p => flatPts c p ff))) $$ Hf
  icases Hf with ⟨Hfc, Hf⟩
  unfold Reach
  ihave H1 := (Entails.of_eq (slot_rev fun k => (reached ER (cell c 1 k) 0 : SP F)).symm) $$ H1
  ihave H3 := (Entails.of_eq (slot_rev fun k => (reached ER (cell c 3 k) 0 : SP F)).symm) $$ H3
  isplitr [Hfc]; swap; · iexists ff; iexact Hfc
  isplitl [HG HO]
  · isplitl [HG] <;> iassumption
  unfold BarToks
  ihave HX := (zip (C := fun k => iprop(slotPts c k.rev fa ∗ flatPts c (peer c k) ff)) fun _ => sProp_refl _) $$ [Ha Hf]
  · isplitl [Ha] <;> iassumption
  ihave HY := (zip (C := fun k => iprop(reached ER (cell c 1 k.rev) 0 ∗ reached ER (cell c 3 k.rev) 0)) fun _ => sProp_refl _) $$ [H1 H3]
  · isplitl [H1] <;> iassumption
  ihave HZ := (zip (A := fun k => iprop(slotPts c k.rev fa ∗ flatPts c (peer c k) ff))
      (B := fun k => iprop(reached ER (cell c 1 k.rev) 0 ∗ reached ER (cell c 3 k.rev) 0)) (C := fun k => barPay (peer c k) k.rev) fun k => by
    rw [barPay_eq]; iintro ⟨⟨Ha, Hb⟩, Hc, Hd⟩
    isplitl [Ha]; · iexists fa; iexact Ha
    isplitl [Hb]; · iexists ff; iexact Hb
    isplitl [Hc] <;> iassumption) $$ [HX HY]
  · isplitl [HX] <;> iassumption
  iapply (zip (A := fun k => dutyTok ER (barCell (peer c k)) 0 k.rev) (B := fun k => barPay (peer c k) k.rev) fun k => by
    unfold sigK; rw [decide_eq_false (Nat.not_lt_zero _), if_neg Bool.false_ne_true])
  isplitl [HB] <;> iassumption

/-! ## The scratch buffers -/

theorem wh_eq (b : Ref sig .tc) (f : Buf (Elt F) ((c : Thread nD τ).loc b)) :
    (((Memref.whole b).view.loc (c : Thread nD τ) ↦[(Memref.whole b).view.set]{fullShare} f : SP F)) = ((c : Thread nD τ).loc b ↦{fullShare} f) := by
  simp only [Memref.view_whole, View.set_whole]

theorem scratch_eq : (Pipeline.scopedRest spec0 c : SP F)
    = iprop((∃ f, whPts c sndM f) ∗ (∃ f, whPts c ctxM f) ∗ (∃ f, whPts c a2aM f) ∗ (∃ f, whPts c redM f) ∗ ∃ f, whPts c flatM f) := by
  rw [scopedRest0_eq]; unfold whPts; simp only [sndM, ctxM, a2aM, redM, flatM, Memref.view_whole, View.set_whole]

/-- What enters: the opened cells, the scratch buffers, the generator register. -/
abbrev In : SP F := iprop(Opened X c ∗ Pipeline.scopedRest spec0 c ∗ ∃ r, prngReg c r)
/-- What leaves: every counter at zero, the scratch buffers, the generator register. -/
abbrev Out : SP F := iprop(semVal (barCell c) 0 ∗ Pipeline.ownSems0 osem c ∗ Pipeline.scopedRest spec0 c ∗ ∃ r, prngReg c r)

theorem st_any {s : Shape} {e : EltTy} (m : Memref sig .tc .vmem s e) {P : (s.Idx → Elt F e) → Prop} (h : ∀ f, P f) :
    iprop(∃ f, whPts c m f) ⊢ bufSt c m P := by
  unfold bufSt
  iintro ⟨%f, H⟩
  iexists f; isplitr; · ipureintro; exact h _
  iexact H

theorem any_st {s : Shape} {e : EltTy} (m : Memref sig .tc .vmem s e) {P : (s.Idx → Elt F e) → Prop} :
    bufSt c m P ⊢ iprop(∃ f, whPts c m f) := by
  unfold bufSt
  iintro ⟨%f, -, H⟩
  iexists f; iexact H

theorem enter : iprop(In X c ∗ (∃ W, owes (c : Thread nD τ) (O₀ c) W) ∗ ins c (X c) ∗ ∃ f, whPts c outM f)
    ⊢ (iprop(∃ κ, BodyPre X κ c iprop(bufSt c outM (fun _ => True) ∗ ∃ r, prngReg c r)) : SP F) := by
  unfold In Opened
  rw [scratch_eq]
  iintro ⟨⟨⟨%κ, #HG, HB, HS, HA, HA', HP, HR, R1, R3⟩, ⟨Hsnd, Hctx, Ha2a, Hred, Hflat⟩, Hp⟩, HO, Hi, Hout⟩
  iexists κ
  ihave H := (sig_start X κ c) $$ [HO HB R1 R3 Ha2a Hflat]
  · isplitr; · iexact HG
    iframe ∗
  icases H with ⟨HSig, Hf⟩
  ihave Hsnd := (st_any c sndM (P := fun _ => True) fun _ => trivial) $$ Hsnd
  ihave Hred := (st_any c redM (P := fun _ => True) fun _ => trivial) $$ Hred
  ihave Hout := (st_any c outM (P := fun _ => True) fun _ => trivial) $$ Hout
  ihave Hctx := (st_any c ctxM (P := ctxOk (X c) 0) fun _ _ h => absurd h (Nat.not_lt_zero _)) $$ Hctx
  unfold BodyPre Held
  iframe ∗

theorem leave : BodyEnd X κ c iprop(∃ r, prngReg c r)
    ⊢ (iprop(Out c ∗ (∃ W, owes (c : Thread nD τ) (0 : CellTallies nD τ sig Unit) W) ∗ ins c (X c) ∗ whPts c outM (outV X)) : SP F) := by
  unfold BodyEnd Out Rest OW
  rw [scratch_eq, ownSems_eq]
  iintro ⟨⟨-, HO⟩, Hout, Hflat, ⟨Hi, Hctx, Hsnd, Ha2a, Hred, Hv, Z0, Z1, Z2, Z3⟩, Hp⟩
  ihave Hctx := (any_st c ctxM) $$ Hctx
  isplitr [HO Hi Hout]
  · isplitl [Hv]; · iexact Hv
    isplitl [Z0 Z1 Z2 Z3]; · iframe ∗
    isplitr [Hp]; swap; · iexact Hp
    isplitl [Hsnd]; · iexists _; iexact Hsnd
    isplitl [Hctx]; · iexact Hctx
    isplitl [Ha2a]; · iexists _; iexact Ha2a
    isplitl [Hred]; · iexists _; iexact Hred
    iexists _; iexact Hflat
  iframe ∗

/-- The kernel's run on a device. -/
theorem body_run {Q : PUnit → SP F}
    (h : iprop(Out c ∗ (∃ W, owes (c : Thread nD τ) (0 : CellTallies nD τ sig Unit) W) ∗ ins c (X c) ∗ whPts c outM (outV X)) ⊢ Q ⟨⟩) :
    iprop(In X c ∗ (∃ W, owes (c : Thread nD τ) (O₀ c) W) ∗ ins c (X c) ∗ ∃ f, whPts c outM f) ⊢ WPc c (onAll (cc0__body (F := F))) Q := by
  refine .trans (enter X c) ?_
  iintro ⟨%κ, H⟩
  iapply (whole_body ((leave X κ c).trans h))
  iexact H

end

end Cert.KernelIdeal.Talk
-- ==== Proof.Reg.lean ====
/-
  The kernel as a region of the program: its windows, what they hold before and after, and its record.
-/
module

public import proofs.«01_k».proof.Proof.Entry

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

/-! ## A window that is its whole array -/

/-- Reading the block that is the whole array reads the array. -/
theorem read_all {s : Shape} {e : EltTy} (m : Memref sig .tc .hbm s e) (off : Fin s.rank → ℕ) (h0 : ∀ a, off a = 0) (inb) (hr)
    (f : m.view.ty.Contents (Elt F)) :
    (m.slice (Rect.unit (s := s) off s.size inb) hr).view.read (Elt F) f = m.view.read (Elt F) f := by
  funext j
  rw [View.read_apply, View.read_apply]
  have e1 : (m.slice (Rect.unit (s := s) off s.size inb) hr).view.emb j = m.view.emb j := by
    refine congrArg m.view.emb (funext fun a => Fin.ext ?_)
    rw [ValueKit.rect_emb_unit_val (s := s) off s.size inb j a, h0, Nat.zero_add]
  rw [e1]

theorem read_0 (f : (main_arg0 : Ref sig .tc).ty.Contents (Elt F)) : ((cfg0.win 0).blk t0_0).view.read (Elt F) f = f :=
  read_all (Memref.whole main_arg0) _ (fun _ => Nat.zero_mul _) _ _ f
theorem read_1 (f : (main_arg1 : Ref sig .tc).ty.Contents (Elt F)) : ((cfg0.win 1).blk t0_0).view.read (Elt F) f = f :=
  read_all (Memref.whole main_arg1) _ (fun _ => Nat.zero_mul _) _ _ f
theorem read_2 (f : (main_v15 : Ref sig .tc).ty.Contents (Elt F)) : ((cfg0.win 2).blk t0_0).view.read (Elt F) f = f :=
  read_all (Memref.whole main_v15) _ (fun _ => Nat.zero_mul _) _ _ f
theorem read_3 (f : (main_v16 : Ref sig .tc).ty.Contents (Elt F)) : ((cfg0.win 3).blk t0_0).view.read (Elt F) f = f :=
  read_all (Memref.whole main_v16) _ (fun _ => Nat.zero_mul _) _ _ f
theorem read_4 (f : (main_arg4 : Ref sig .tc).ty.Contents (Elt F)) : ((cfg0.win 4).blk t0_0).view.read (Elt F) f = f :=
  read_all (Memref.whole main_arg4) _ (fun _ => Nat.zero_mul _) _ _ f
theorem read_5 (f : (main_v17 : Ref sig .tc).ty.Contents (Elt F)) : ((cfg0.win 5).blk t0_0).view.read (Elt F) f = f :=
  read_all (Memref.whole main_v17) _ (fun _ => Nat.zero_mul _) _ _ f

/-! ## The region's data, over what the program's buffers hold at its entry -/

variable (W : Dev nD → Valuation τ sig (Elt F))

/-- A device's operands. -/
def XI (c : Dev nD) : Inp F :=
  ⟨W c (Proc.devRef .tc main_arg0), W c (Proc.devRef .tc main_arg1), W c (Proc.devRef .tc main_v15), W c (Proc.devRef .tc main_v16), W c (Proc.devRef .tc main_arg4)⟩

/-- What the buffers hold afterwards: the result written, the rest as before. -/
def Wout (c : Dev nD) : Valuation τ sig (Elt F) := Function.update (W c) (Proc.devRef .tc main_v17) (outV (XI W))

/-- The region's data: each window's array as found; the operands as fetched and the result as computed; the exchange's
    state before and after; the arrivals owed before, nothing after. -/
def dat (c : Dev nD) : Pipeline.Dat τ (Elt F) Unit ℕ UU ℕ cfg0 c where
  A w := W c (Proc.devRef .tc (Pipeline.arrRef spec0 w))
  after w _ := match w with
    | ⟨0, _⟩ => (XI W c).x
    | ⟨1, _⟩ => (XI W c).wq
    | ⟨2, _⟩ => (XI W c).k
    | ⟨3, _⟩ => (XI W c).v
    | ⟨4, _⟩ => (XI W c).wo
    | ⟨5, _⟩ => outV (XI W)
  Φ t := if t.val = 0 then In (XI W) c else Out c
  q _ := fullShare
  owed t := if t.val = 0 then O₀ c else 0

def pdats : (p : Fin 1) → (c : Dev nD) → Pipeline.Dat τ (Elt F) Unit ℕ UU ℕ (cfgs p) c
  | 0 => dat W

theorem before_0 (c : Dev nD) (d : (cfg0.win 0).block.Idx → Elt F (cfg0.win 0).elt) : (dat W c).before 0 t0_0 d = (XI W c).x := by
  unfold Pipeline.Dat.before; rw [if_pos (by decide)]; exact read_0 (F := F) _
theorem before_1 (c : Dev nD) (d : (cfg0.win 1).block.Idx → Elt F (cfg0.win 1).elt) : (dat W c).before 1 t0_0 d = (XI W c).wq := by
  unfold Pipeline.Dat.before; rw [if_pos (by decide)]; exact read_1 (F := F) _
theorem before_2 (c : Dev nD) (d : (cfg0.win 2).block.Idx → Elt F (cfg0.win 2).elt) : (dat W c).before 2 t0_0 d = (XI W c).k := by
  unfold Pipeline.Dat.before; rw [if_pos (by decide)]; exact read_2 (F := F) _
theorem before_3 (c : Dev nD) (d : (cfg0.win 3).block.Idx → Elt F (cfg0.win 3).elt) : (dat W c).before 3 t0_0 d = (XI W c).v := by
  unfold Pipeline.Dat.before; rw [if_pos (by decide)]; exact read_3 (F := F) _
theorem before_4 (c : Dev nD) (d : (cfg0.win 4).block.Idx → Elt F (cfg0.win 4).elt) : (dat W c).before 4 t0_0 d = (XI W c).wo := by
  unfold Pipeline.Dat.before; rw [if_pos (by decide)]; exact read_4 (F := F) _

/-- A whole buffer owned at given contents. -/
theorem own_eq (c : Dev nD) (b : Ref sig .tc) (f : b.ty.Contents (Elt F)) :
    (owns (Ix := Unit) (Name := ℕ) (U := UU) (Lvl := ℕ) (c : Thread nD τ) (Memref.whole b) fullShare f : SP F)
      = iprop(∃ g : Buf (Elt F) ((c : Thread nD τ).loc b), ⌜g = f⌝ ∗ ((Memref.whole b).view.loc (c : Thread nD τ) ↦[(Memref.whole b).view.set]{fullShare} g)) := by
  unfold owns; simp only [Memref.view_whole, View.read_whole, View.set_whole]

theorem own_elim (c : Dev nD) (b : Ref sig .tc) (f : b.ty.Contents (Elt F)) :
    (owns (Ix := Unit) (Name := ℕ) (U := UU) (Lvl := ℕ) (c : Thread nD τ) (Memref.whole b) fullShare f : SP F)
      ⊢ ((Memref.whole b).view.loc (c : Thread nD τ) ↦[(Memref.whole b).view.set]{fullShare} f) := by
  rw [own_eq]; iintro ⟨%g, %e, H⟩; subst e; iexact H
theorem own_intro (c : Dev nD) (b : Ref sig .tc) (f : b.ty.Contents (Elt F)) :
    ((Memref.whole b).view.loc (c : Thread nD τ) ↦[(Memref.whole b).view.set]{fullShare} f)
      ⊢ (owns (Ix := Unit) (Name := ℕ) (U := UU) (Lvl := ℕ) (c : Thread nD τ) (Memref.whole b) fullShare f : SP F) := by
  rw [own_eq]; iintro H; iexists f; isplitr; · ipureintro; rfl
  iexact H

theorem due_in {c : Dev nD} (t : Fin (cfg0.N + 1)) (O : CellTallies nD τ sig Unit) (h0 : (dat W c).owed t = O) :
    iprop(∃ Wd, owes (c : Thread nD τ) O Wd) ⊢ ((dat W c).owesAt () t : SP F) := by
  unfold Pipeline.Dat.owesAt Pipeline.owesWithin Pipeline.Dat.bound; rw [h0]
  iintro ⟨%Wd, HO⟩; iexists Wd; isplitr; · ipureintro; exact fun _ _ => Or.inl trivial
  iexact HO
theorem due_out {c : Dev nD} (t : Fin (cfg0.N + 1)) (O : CellTallies nD τ sig Unit) (h0 : (dat W c).owed t = O) :
    ((dat W c).owesAt () t : SP F) ⊢ iprop(∃ Wd, owes (c : Thread nD τ) O Wd) := by
  unfold Pipeline.Dat.owesAt Pipeline.owesWithin; rw [h0]
  iintro ⟨%Wd, -, HO⟩; iexists Wd; iexact HO

theorem owed_first (c : Dev nD) : (dat W c).owed t0_0.castSucc = O₀ c := by
  show (if (t0_0.castSucc : Fin (cfg0.N + 1)).val = 0 then O₀ c else 0) = O₀ c; exact if_pos rfl
theorem owed_zero (c : Dev nD) : (dat W c).owed 0 = O₀ c := by
  show (if (0 : Fin (cfg0.N + 1)).val = 0 then O₀ c else 0) = O₀ c; exact if_pos rfl
theorem owed_last (c : Dev nD) : (dat W c).owed (Fin.last _) = 0 := by
  show (if (Fin.last cfg0.N).val = 0 then O₀ c else 0) = 0
  rw [Fin.val_last, if_neg (by rw [show cfg0.N = 1 from N_0]; decide)]
theorem phi_zero (c : Dev nD) : (dat W c).Φ 0 = In (XI W) c := by
  show (if (0 : Fin (cfg0.N + 1)).val = 0 then In (XI W) c else Out c) = _; exact if_pos rfl
theorem phi_last (c : Dev nD) : (dat W c).Φ (Fin.last _) = Out c := by
  show (if (Fin.last cfg0.N).val = 0 then In (XI W) c else Out c) = _
  rw [Fin.val_last, if_neg (by rw [show cfg0.N = 1 from N_0]; decide)]

set_option maxRecDepth 4000 in
/-- The body's obligation: the staging buffers taken apart, the body run, the staging buffers put back. -/
theorem body_obligation (c : Dev nD) : BodyObligation (dat W c) (defs₀ (F := F)) Variants.none () Set.univ := fun t => by
  obtain rfl := fin_N0 t
  rw [bigSep_W0, bigSep_W0]
  rw [show (dat W c).Φ t0_0.castSucc = In (XI W) c from phi_zero W c, show (dat W c).Φ t0_0.succ = Out c from phi_last W c]
  iintro ⟨HI, HO, ⟨%d0, H0⟩, ⟨%d1, H1⟩, ⟨%d2, H2⟩, ⟨%d3, H3⟩, ⟨%d4, H4⟩, ⟨%d5, H5⟩⟩
  rw [before_0, before_1, before_2, before_3, before_4]
  ihave H0 := (own_elim c cc0_stg0_0 (XI W c).x) $$ H0
  ihave H1 := (own_elim c cc0_stg1_0 (XI W c).wq) $$ H1
  ihave H2 := (own_elim c cc0_stg2_0 (XI W c).k) $$ H2
  ihave H3 := (own_elim c cc0_stg3_0 (XI W c).v) $$ H3
  ihave H4 := (own_elim c cc0_stg4_0 (XI W c).wo) $$ H4
  ihave H5 := (own_elim c cc0_stg5_0 _) $$ H5
  ihave HO := (due_out W t0_0.castSucc (O₀ c) (owed_first W c)) $$ HO
  iapply (body_run (XI W) c ?_)
  rotate_left
  · isplitl [HI]; · iexact HI
    isplitl [HO]; · iexact HO
    isplitl [H0 H1 H2 H3 H4]
    · unfold ins; iframe ∗
    iexists _; iexact H5
  unfold ins
  iintro ⟨HI, HO, ⟨H0, H1, H2, H3, H4⟩, H5⟩
  isplitl [HI]; · iexact HI
  isplitl [HO]; · iapply (due_in W t0_0.succ 0 (owed_last W c)); iexact HO
  isplitl [H0]; · iapply (own_intro c cc0_stg0_0 (XI W c).x); iexact H0
  isplitl [H1]; · iapply (own_intro c cc0_stg1_0 (XI W c).wq); iexact H1
  isplitl [H2]; · iapply (own_intro c cc0_stg2_0 (XI W c).k); iexact H2
  isplitl [H3]; · iapply (own_intro c cc0_stg3_0 (XI W c).v); iexact H3
  isplitl [H4]; · iapply (own_intro c cc0_stg4_0 (XI W c).wo); iexact H4
  iapply (own_intro c cc0_stg5_0 (outV (XI W))); iexact H5

/-! ## The record -/

/-- The unscoped buffers no window stages. -/
abbrev Sr : Finset (DevRef τ sig) := Pipeline.ucRefs τ sig \ Pipeline.arrRefs (τ := τ) spec0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_lv (w : Fin 6) (s : Fin (spec0 w).nbuf) : lvOf (.dma ((spec0 w).sem s)) = 0 := by
  revert w s; decide +kernel

theorem owed_pos (c : Dev nD) (t : Fin (cfg0.N + 1)) (g : GSem nD τ sig) (i : Unit) (h : 0 < (dat W c).owed t g i) : i ∈ L g ∧ (0 : ℕ) < lv g i := by
  have e : (dat W c).owed t = if t.val = 0 then O₀ c else 0 := rfl
  rw [e] at h
  split at h
  · cases i
    rcases debt_mem h with ⟨k, -, rfl⟩ | ⟨k, -, rfl⟩ | ⟨k, -, rfl⟩
    · exact ⟨by rw [L_tc]; exact Finset.mem_singleton_self _, by rw [lv_cell]; decide⟩
    · exact ⟨by rw [L_tc]; exact Finset.mem_singleton_self _, by rw [lv_cell]; decide⟩
    · exact ⟨by rw [L_tc]; exact Finset.mem_singleton_self _, Nat.one_pos⟩
  · exact absurd h (Nat.lt_irrefl 0)

theorem arr_start (c : Dev nD) (w : Fin 6) : (dat W c).arrAt w 0 = W c (Proc.devRef .tc (Pipeline.arrRef spec0 w)) := rfl

theorem out_kept (c : Dev nD) (w : Fin 6) (hw : w.val < 5) : Wout W c (Proc.devRef .tc (Pipeline.arrRef spec0 w)) = W c (Proc.devRef .tc (Pipeline.arrRef spec0 w)) := by
  unfold Wout
  refine Function.update_of_ne (StableHlo.devRef_ne_of_ne ?_) _ _
  revert w hw; decide +kernel

theorem arr_end (c : Dev nD) (w : Fin 6) : (dat W c).arrAt w cfg0.N = Wout W c (Proc.devRef .tc (Pipeline.arrRef spec0 w)) := by
  by_cases hw : w.val < 5
  · rw [out_kept W c w hw]
    exact (dat W c).arrAt_in w (by revert w hw; decide +kernel) _
  · obtain rfl : w = 5 := Fin.ext (by have := w.isLt; omega)
    have e5 : Wout W c (Proc.devRef .tc (Pipeline.arrRef spec0 5)) = outV (XI W) := Function.update_self _ _ _
    rw [e5]
    have hf : (cfg0.win 5).flush t0_0 = true := by decide
    have h := (dat W c).read_blk_arrAt 5 (outV (XI W)) (fun t _ => by obtain rfl := fin_N0 t; exact (read_5 (F := F) _).symm) t0_0 hf
    exact ((read_5 (F := F) _).symm.trans h).trans (read_5 (F := F) _)

theorem share_full (c : Dev nD) (w : Fin 6) : (dat W c).share w = fullShare := by
  unfold Pipeline.Dat.share; split <;> rfl

theorem enter_region (c : Dev nD) : iprop(Pipeline.scopedRest spec0 c ∗ (∃ r, prngReg c r) ∗ StableHlo.held (c.tc : Thread nD τ) ∅ (W c) ∗ Opened (XI W) c)
    ⊢ ((dat W c).Φ 0 : SP F) := by
  rw [phi_zero]; unfold In
  iintro ⟨HS, Hp, -, HO⟩; iframe ∗
theorem leave_region (c : Dev nD) : ((dat W c).Φ (Fin.last _) : SP F)
    ⊢ iprop(Pipeline.scopedRest spec0 c ∗ (∃ r, prngReg c r) ∗ StableHlo.held (c.tc : Thread nD τ) ∅ (Wout W c) ∗ Pipeline.ownSems0 osem c ∗ semVal (barCell c) 0) := by
  rw [phi_last]; unfold Out
  have e : (StableHlo.held (c.tc : Thread nD τ) ∅ (Wout W c) : SP F) = BI.emp := by unfold StableHlo.held; exact BI.bigSep_empty
  rw [e]
  iintro ⟨HV, HZ, HS, Hp⟩
  isplitl [HS]; · iexact HS
  isplitl [Hp]; · iexact Hp
  isplitr; · iempintro
  isplitl [HZ] <;> iassumption

set_option backward.isDefEq.respectTransparency.types false in
def region : Pipeline.RegionSeg (pcfgs (F := F)) adm (pdats W) () defs₀ Variants.none L lv 0 :=
  Pipeline.RegionSeg.ofTalk (pcfgs (F := F)) adm (pdats W) () defs₀ Variants.none L lv 0 osem osem_facts
    ∅ Sr (Finset.empty_subset _) kit rfl (fun c => (body_obligation W c).loose)
    (fun _ => 0) O₀ (fun c => (owed_zero W c).trans (zero_add _).symm) (owed_last W) (fun _ => rfl) (share_full W)
    W (Wout W) (fun c b hb => by
      refine Function.update_of_ne (fun e => ?_) _ _
      subst e
      exact absurd hb (by decide +kernel))
    (Kept (XI W)) (fun c => semVal (barCell c) 0) (Opened (XI W)) (fun c => semVal (barCell c) 0) (open_kept (XI W)) (enter_region W) (leave_region W)
    (fun c => by iintro H; imodintro; iexact H)
    (fun _ => 0)
    ⟨fun c w s => by rw [L_tc]; exact Finset.mem_singleton_self _, fun c w s => Nat.le_of_eq (stage_lv w s), fun c t g i h => owed_pos W c t g i h⟩
    (fun _ => iprop(emp))
    (arr_start W) (arr_end W)

/-- A device's thread state before the region, beside its buffers. -/
abbrev Before (c : Dev nD) : SP F := iprop((∃ r, prngReg c r) ∗ Kept (XI W) c ∗ ∃ Wd, owes (c : Thread nD τ) (O₀ c) Wd)
abbrev After (c : Dev nD) : SP F := iprop(semVal (barCell c) 0 ∗ ∃ Wd, owes (c : Thread nD τ) (0 : CellTallies nD τ sig Unit) Wd)

theorem arr_sub : Pipeline.arrRefs (τ := τ) spec0 ⊆ Pipeline.ucRefs τ sig := by decide +kernel

theorem region_pre (c : Dev nD) : iprop(StableHlo.held (c : Thread nD τ) (Pipeline.ucRefs τ sig) (W c) ∗ Before W c) ⊢ (region W).pre c := by
  show _ ⊢ iprop(StableHlo.held (c.tc : Thread nD τ) (Pipeline.arrRefs (τ := τ) spec0) (W c) ∗ (∃ r, prngReg c r)
    ∗ (StableHlo.held (c.tc : Thread nD τ) Sr (W c) ∗ emp) ∗ Kept (XI W) c ∗ ∃ Wd, owes (c : Thread nD τ) (0 + O₀ c) Wd)
  rw [StableHlo.held_sub_split (c : Thread nD τ) arr_sub (W c), zero_add]
  unfold Before
  iintro ⟨⟨HA, HR⟩, Hp, HK, HO⟩
  isplitl [HA]; · iexact HA
  isplitl [Hp]; · iexact Hp
  isplitl [HR]
  · isplitl [HR]; · iexact HR
    iempintro
  isplitl [HK] <;> iassumption

theorem region_post (c : Dev nD) : (region W).post c ⊢ iprop(StableHlo.held (c : Thread nD τ) (Pipeline.ucRefs τ sig) (Wout W c) ∗ After c) := by
  show iprop(StableHlo.held (c.tc : Thread nD τ) (Pipeline.arrRefs (τ := τ) spec0) (Wout W c) ∗ (∃ r, prngReg c r)
    ∗ (StableHlo.held (c.tc : Thread nD τ) Sr (Wout W c) ∗ emp) ∗ semVal (barCell c) 0 ∗ ∃ Wd, owes (c : Thread nD τ) (0 : CellTallies nD τ sig Unit) Wd) ⊢ iprop(StableHlo.held (c : Thread nD τ) (Pipeline.ucRefs τ sig) (Wout W c) ∗ After c)
  rw [StableHlo.held_sub_split (c : Thread nD τ) arr_sub (Wout W c)]
  unfold After
  iintro ⟨HA, -, ⟨HR, -⟩, HV, HO⟩
  isplitl [HA HR]
  · isplitl [HA] <;> iassumption
  isplitl [HV] <;> iassumption

end Cert.KernelIdeal.Talk
-- ==== Proof.Deal.lean ====
/-
  The launch: the cells' invariants made, and the tokens, credits and counters dealt to the devices.
-/
module

public import proofs.«01_k».proof.Proof.Reg

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## The cells and the tokens -/

theorem bar_inj : Function.Injective barCell := fun _ _ h => congrArg (fun g : GSem nD τ sig => g.1.1) h
theorem cell_inj : Function.Injective fun t : Dev nD × Fin 4 × Fin 15 => cell t.1 t.2.1 t.2.2 := fun _ _ h =>
  Prod.ext (congrArg (fun g : GSem nD τ sig => g.1.1) h) (osem_facts.inj (congrArg Prod.snd h))
theorem bar_ne_cell (c c' : Dev nD) (j : Fin 4) (k : Fin 15) : barCell c ≠ cell c' j k := fun h => by
  have := congrArg Prod.snd h; cases this

abbrev barCells : Finset (GSem nD τ sig) := Finset.univ.map ⟨barCell, bar_inj⟩
abbrev ownCells : Finset (GSem nD τ sig) := Finset.univ.map ⟨fun t : Dev nD × Fin 4 × Fin 15 => cell t.1 t.2.1 t.2.2, cell_inj⟩

theorem cells_disjoint : Disjoint barCells ownCells := by
  rw [Finset.disjoint_left]
  rintro g h₁ h₂
  obtain ⟨c, -, rfl⟩ := Finset.mem_map.mp h₁
  obtain ⟨t, -, h⟩ := Finset.mem_map.mp h₂
  exact bar_ne_cell c t.1 t.2.1 t.2.2 h.symm

/-- A signal's token, and a transfer end's. -/
abbrev barTok (t : Dev nD × Fin 15) : GSem nD τ sig × ℕ × Fin 15 := (barCell t.1, 0, t.2)
abbrev ownTok (t : Dev nD × Fin 4 × Fin 15) : GSem nD τ sig × ℕ × Fin 15 := (cell t.1 t.2.1 t.2.2, 0, 0)

theorem barTok_inj : Function.Injective barTok := fun _ _ h => Prod.ext (bar_inj (congrArg Prod.fst h)) (congrArg (fun x : GSem nD τ sig × ℕ × Fin 15 => x.2.2) h)
theorem ownTok_inj : Function.Injective ownTok := fun _ _ h => cell_inj (congrArg Prod.fst h)

abbrev barToks : Finset (GSem nD τ sig × ℕ × Fin 15) := Finset.univ.map ⟨barTok, barTok_inj⟩
abbrev ownToks : Finset (GSem nD τ sig × ℕ × Fin 15) := Finset.univ.map ⟨ownTok, ownTok_inj⟩

theorem toks_disjoint : Disjoint barToks ownToks := by
  rw [Finset.disjoint_left]
  rintro g h₁ h₂
  obtain ⟨c, -, rfl⟩ := Finset.mem_map.mp h₁
  obtain ⟨t, -, h⟩ := Finset.mem_map.mp h₂
  exact bar_ne_cell c.1 t.1 t.2.1 t.2.2 (congrArg Prod.fst h).symm

/-- The launch's element of the exchange's algebra, and of the whole. -/
abbrev mine : URounds (GSem nD τ sig) (Fin 15) := launchOf barCells ownCells (barToks ∪ ownToks)
def u₀ : UU := (initOf (Pipeline.cells cfgs cellOf_inj) (Pipeline.launchToks cfgs cellOf_inj), mine)

/-! ## Handing a family round -/

/-- Device and slot, seen from the peer. -/
def across : Dev nD × Fin 15 ≃ Dev nD × Fin 15 where
  toFun t := (peer t.1 t.2, t.2.rev)
  invFun t := (peer t.1 t.2, t.2.rev)
  left_inv t := Prod.ext (peer_peer t.1 t.2) (Fin.rev_rev t.2)
  right_inv t := Prod.ext (peer_peer t.1 t.2) (Fin.rev_rev t.2)
/-- The same slot on the peer. -/
def along : Dev nD × Fin 15 ≃ Dev nD × Fin 15 where
  toFun t := (peer t.1 t.2, t.2)
  invFun t := (peer t.1 t.2.rev, t.2)
  left_inv t := Prod.ext (peer_peer t.1 t.2) rfl
  right_inv t := Prod.ext (peer_peer' t.1 t.2) rfl

theorem hand (e : Dev nD × Fin 15 ≃ Dev nD × Fin 15) (Φ : Dev nD → Fin 15 → SP F) :
    (bigSep Finset.univ fun c => bigSep Finset.univ fun k => Φ c k)
      = bigSep Finset.univ fun c => bigSep Finset.univ fun k => Φ (e (c, k)).1 (e (c, k)).2 := by
  rw [← bigSep_univ_prod (fun t : Dev nD × Fin 15 => Φ t.1 t.2), bigSep_univ_equiv e, bigSep_univ_prod]

theorem bar_dealt : (bigSep barToks fun x => (dutyTok ER x.1 x.2.1 x.2.2 : SP F)) = bigSep Finset.univ fun c => BarToks c := by
  unfold barToks; rw [bigSep_map, bigSep_univ_prod]
  exact hand across fun c k => dutyTok ER (barCell c) 0 k

theorem own_dealt : (bigSep ownToks fun x => (dutyTok ER x.1 x.2.1 x.2.2 : SP F)) = bigSep Finset.univ fun c => XferToks c := by
  unfold ownToks; rw [bigSep_map, bigSep_univ_prod]
  have e : (fun c : Dev nD => bigSep Finset.univ fun b : Fin 4 × Fin 15 => (dutyTok ER (cell c b.1 b.2) 0 0 : SP F))
      = fun c => iprop((bigSep Finset.univ fun k => dutyTok ER (cell c 0 k) 0 0) ∗ (bigSep Finset.univ fun k => dutyTok ER (cell c 1 k) 0 0)
        ∗ (bigSep Finset.univ fun k => dutyTok ER (cell c 2 k) 0 0) ∗ bigSep Finset.univ fun k => dutyTok ER (cell c 3 k) 0 0) :=
    funext fun c => groups fun b => (dutyTok ER (cell c b.1 b.2) 0 0 : SP F)
  refine (congrArg (bigSep Finset.univ) e).trans ?_
  unfold XferToks
  rw [bigSep_sep', bigSep_sep', bigSep_sep', bigSep_sep', bigSep_sep', bigSep_sep', hand along fun c k => dutyTok ER (cell c 1 k) 0 0,
    hand along fun c k => dutyTok ER (cell c 3 k) 0 0]
  rfl

/-! ## What each device is owed -/

theorem sum_at (s : Finset (Fin 15)) (f : Fin 15 → CellTallies nD τ sig Unit) (g : GSem nD τ sig) : (∑ k ∈ s, f k) g () = ∑ k ∈ s, f k g () := by
  rw [Finset.sum_apply, Finsupp.finsetSum_apply]

theorem owed_at (d : Dev nD) (g : GSem nD τ sig) : O₀ d g ()
    = (∑ k : Fin 15, if g = cell (peer d k) 3 k then N else 0) + (∑ k : Fin 15, if g = cell (peer d k) 1 k then N else 0)
      + ∑ k : Fin 15, if g = barCell (peer d k) then 1 else 0 := by
  unfold O₀ debt
  simp only [Pi.add_apply, Finsupp.add_apply, sum_at, tallyAt_apply, and_true]

theorem who (d c : Dev nD) (k : Fin 15) : c = peer d k ↔ d = peer c k.rev :=
  ⟨fun h => by rw [h, peer_peer], fun h => by rw [h, peer_peer']⟩

theorem eq_cell (c c' : Dev nD) (j j' : Fin 4) (k k' : Fin 15) : cell c j k = cell c' j' k' ↔ c = c' ∧ j = j' ∧ k = k' :=
  ⟨fun h => by
    have := cell_inj (a₁ := (c, j, k)) (a₂ := (c', j', k')) h
    exact ⟨congrArg Prod.fst this, congrArg (fun t => t.2.1) this, congrArg (fun t => t.2.2) this⟩,
    fun ⟨h1, h2, h3⟩ => by rw [h1, h2, h3]⟩

theorem owed_bar (c : Dev nD) : ∑ d : Dev nD, O₀ d (barCell c) () = 15 := by
  have e (d : Dev nD) : O₀ d (barCell c) () = ∑ k : Fin 15, if d = peer c k.rev then 1 else 0 := by
    rw [owed_at]
    simp only [bar_ne_cell, if_false, Finset.sum_const_zero, Nat.zero_add, bar_inj.eq_iff]
    exact Finset.sum_congr rfl fun k _ => if_congr (who d c k) rfl rfl
  simp only [e]
  rw [Finset.sum_comm]
  simp only [Finset.sum_ite_eq', Finset.mem_univ, if_true]
  decide

theorem owed_cell (c : Dev nD) (j : Fin 4) (hj : j = 1 ∨ j = 3) (k : Fin 15) : ∑ d : Dev nD, O₀ d (cell c j k) () = N := by
  have e (d : Dev nD) : O₀ d (cell c j k) () = if d = peer c k.rev then N else 0 := by
    rw [owed_at]
    simp only [fun k' => (bar_ne_cell (peer d k') c j k).symm, if_false, Finset.sum_const_zero, Nat.add_zero, eq_cell]
    have h1 (i : Fin 4) : (∑ k' : Fin 15, if c = peer d k' ∧ j = i ∧ k = k' then N else 0) = if c = peer d k ∧ j = i then N else 0 := by
      rw [Finset.sum_eq_single k (fun k' _ h => if_neg fun ⟨_, _, e⟩ => h e.symm) (fun h => absurd (Finset.mem_univ _) h)]
      simp only [and_true]
    rw [h1, h1]
    refine .trans ?_ (if_congr (who d c k) rfl rfl)
    rcases hj with rfl | rfl
    · simp
    · simp
  simp only [e]
  rw [Finset.sum_ite_eq', if_pos (Finset.mem_univ _)]

theorem credit_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The cells arrivals are counted on. -/
def inSem (t : Bool × Fin 15) : SemLoc sig := .dma (dsem (if t.1 then 1 else 3) t.2)
theorem inSem_inj : Function.Injective inSem := by decide +kernel
theorem inSem_ne (t : Bool × Fin 15) : inSem t ≠ .reg barrier0 := fun h => by cases h

theorem creds (c : Dev nD) : (Pipeline.launchCred O₀ c : SP F) ⊢ iprop(cred (tallyAt (barCell c) () 15) ∗ Creds c) := by
  unfold Pipeline.launchCred
  rw [bigSep_univ_at _ (SemLoc.reg barrier0), credit_at c (.reg barrier0) 15 (owed_bar c)]
  refine sep_mono_right ?_
  refine .trans (bigSep_subset (t := Finset.univ.map ⟨inSem, inSem_inj⟩) fun sm h => ?_) ?_
  · obtain ⟨t, -, rfl⟩ := Finset.mem_map.mp h
    exact Finset.mem_erase.mpr ⟨inSem_ne t, Finset.mem_univ _⟩
  rw [bigSep_map, bigSep_univ_prod]
  refine .trans (Entails.of_eq (bigSep_univ_eq_bigSepL [true, false] (by decide) (by decide) _)) ?_
  unfold Creds
  have h1 (k : Fin 15) : (cred (tallyOn ((c : Thread nD τ), inSem (true, k)) (launchCredit (Pipeline.owing O₀) 0 ((c : Thread nD τ), inSem (true, k)))) : SP F)
      = cred (tallyAt (cell c 1 k) () N) := congrArg cred (credit_at c (.dma (dsem 1 k)) N (owed_cell c 1 (.inl rfl) k))
  have h3 (k : Fin 15) : (cred (tallyOn ((c : Thread nD τ), inSem (false, k)) (launchCredit (Pipeline.owing O₀) 0 ((c : Thread nD τ), inSem (false, k)))) : SP F)
      = cred (tallyAt (cell c 3 k) () N) := congrArg cred (credit_at c (.dma (dsem 3 k)) N (owed_cell c 3 (.inr rfl) k))
  refine BI.sep_mono (bigSep_mono fun k _ => ?_) (bigSep_mono fun k _ => ?_)
  · exact h1 k ▸ sProp_refl _
  · exact h3 k ▸ sProp_refl _

end Cert.KernelIdeal.Talk
-- ==== Proof.Run.lean ====
/-
  The program run: what every device's buffers and counters read when it has stopped.
-/
module

public import Idealize.ShloMosaic.Lib.Pipeline.CollectiveSegs
public import proofs.«01_k».proof.Proof.Deal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal.Gen

variable {F : FTy → Type} [FloatOps F] [Named F]

theorem unscoped_eq (c : Dev nD) : (unscopedSems0 c : SP F) = semVal (barCell c) 0 := by
  unfold unscopedSems0
  rw [show (Finset.univ.filter fun sm : SemLoc sig => ¬ sm.isScoped .tc = true) = {.reg barrier0} from by decide +kernel, bigSep_singleton]

/-- The launch's share of the exchange's algebra, all on one device until it is dealt. -/
def G (c : Dev nD) : SP F := if c = 0 then BI.own (ER mine) else iprop(emp)
theorem bigSep_G : bigSep Finset.univ (G (F := F)) = BI.own (ER mine) := by
  have h : bigSep (Finset.univ.erase (0 : Dev nD)) (G (F := F)) = iprop(emp) :=
    (bigSep_congr (Ψ := fun _ => (BI.emp : SP F)) fun c hc => if_neg (Finset.ne_of_mem_erase hc)).trans (BI.bigSep_emp_const _)
  rw [bigSep_univ_at _ (0 : Dev nD), h]
  unfold G; rw [if_pos rfl]
  exact BI.equiv_iff.mp sep_emp

theorem fund : (ownU u₀ : SP F) ⊢ |={Set.univ}=> iprop(BI.own (EP (initOf (Pipeline.cells cfgs cellOf_inj) (Pipeline.launchToks cfgs cellOf_inj)))
    ∗ bigSep Finset.univ G) := by
  rw [bigSep_G]
  unfold u₀
  iintro Hu
  ihave H := (ownU_pair _ _) $$ Hu
  icases H with ⟨HP, HX⟩
  imodintro
  isplitl [HP]
  · iexact HP
  · iexact HX

theorem joined {A B C : Dev nD → SP F} (h : ∀ c, iprop(A c ∗ B c) ⊢ C c) : iprop(bigSep Finset.univ A ∗ bigSep Finset.univ B) ⊢ bigSep Finset.univ C := by
  rw [← bigSep_sep']; exact bigSep_mono fun c _ => h c

variable (X : Dev nD → Inp F) (κ : GSem nD τ sig → ℕ)

theorem know : iprop((bigSep (barCells ∪ ownCells) fun g => cellInv ER (Rd (svOf X) (rvOf X)) (κ g) g) ∗ (bigSep barCells fun g => reached ER g 0) ∗ levAts L lv)
    ⊢ Gd (svOf X) (rvOf X) κ := by
  have hI : (bigSep (barCells ∪ ownCells) fun g => (cellInv ER (Rd (svOf X) (rvOf X)) (κ g) g : SP F))
      = iprop((bigSep Finset.univ fun c : Dev nD => cellInv ER (Rd (svOf X) (rvOf X)) (κ (barCell c)) (barCell c))
        ∗ bigSep Finset.univ fun t : Dev nD × Fin 4 × Fin 15 => cellInv ER (Rd (svOf X) (rvOf X)) (κ (cell t.1 t.2.1 t.2.2)) (cell t.1 t.2.1 t.2.2)) := by
    rw [bigSep_union cells_disjoint, bigSep_map, bigSep_map]; rfl
  have hR : (bigSep barCells fun g => (reached ER g 0 : SP F)) = bigSep Finset.univ fun c : Dev nD => reached ER (barCell c) 0 := by
    rw [bigSep_map]; rfl
  rw [hI, hR]
  unfold Gd
  iintro ⟨⟨HI, HJ⟩, HR, HL⟩
  isplitl [HI HR]
  · iapply (joined (C := fun c : Dev nD => iprop(cellInv ER (Rd (svOf X) (rvOf X)) (κ (barCell c)) (barCell c) ∗ reached ER (barCell c) 0)) fun _ => sProp_refl _)
    isplitl [HI] <;> iassumption
  isplitl [HJ] <;> iassumption

/-- A device's own part of the launch. -/
abbrev Own (ρ : Dev nD → PrngReg) (c : Dev nD) : SP F :=
  iprop(owes (c : Thread nD τ) (O₀ c) ∅ ∗ (cred (tallyAt (barCell c) () 15) ∗ Creds c) ∗ prngReg c (ρ c))

theorem share_one (ρ : Dev nD → PrngReg) (c : Dev nD) :
    iprop(Gd (svOf X) (rvOf X) κ ∗ Own ρ c ∗ atPos ER (barCell c) 0 ∅ 0 ∗ Opens c ∗ BarToks c ∗ XferToks c)
      ⊢ iprop((∃ r, prngReg c r) ∗ Kept X c ∗ ∃ Wd, owes (c : Thread nD τ) (O₀ c) Wd) := by
  unfold Kept BarSt
  iintro ⟨HG, ⟨HW, ⟨HC, HD⟩, HP⟩, HA, HO, HB, HX⟩
  isplitl [HP]; · iexists _; iexact HP
  isplitr [HW]; swap; · iexists _; iexact HW
  iexists κ
  isplitl [HG]; · iexact HG
  isplitl [HB]; · iexact HB
  isplitl [HC HA]
  · isplitl [HC] <;> iassumption
  isplitl [HX]; · iexact HX
  isplitl [HD] <;> iassumption

theorem deal (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ fun c : Dev nD => iprop((∃ r, prngReg c r) ∗ Kept X c ∗ ∃ Wd, owes (c : Thread nD τ) (O₀ c) Wd) : SP F) := by
  have hcore (c : Dev nD) : iprop(unscopedSems0 c ∗ owes (c : Thread nD τ) (O₀ c) ∅ ∗ Pipeline.launchCred O₀ c ∗ prngReg c (ρ c) ∗ G c)
      ⊢ (iprop(semVal (barCell c) 0 ∗ Own ρ c ∗ G c) : SP F) := by
    rw [unscoped_eq]
    iintro ⟨HS, HO, HC, HP, HG⟩
    ihave HC := (creds c) $$ HC
    isplitl [HS]; · iexact HS
    isplitr [HG]; swap; · iexact HG
    isplitl [HO]; · iexact HO
    isplitl [HC] <;> iassumption
  have hsplit : (bigSep Finset.univ fun c : Dev nD => iprop(unscopedSems0 c ∗ owes (c : Thread nD τ) (O₀ c) ∅ ∗ Pipeline.launchCred O₀ c ∗ prngReg c (ρ c) ∗ G c))
      ⊢ (iprop((bigSep barCells fun g => semVal g 0) ∗ (bigSep Finset.univ fun c : Dev nD => Own ρ c) ∗ BI.own (ER mine)) : SP F) := by
    refine .trans (bigSep_mono fun c _ => hcore c) ?_
    rw [bigSep_sep' Finset.univ (fun c : Dev nD => (semVal (barCell c) 0 : SP F)) (fun c => iprop(Own ρ c ∗ G c)),
      bigSep_sep' Finset.univ (fun c : Dev nD => (Own ρ c : SP F)) G, bigSep_G, bigSep_map]
    exact sProp_refl _
  iintro ⟨H, #HL⟩
  ihave H := hsplit $$ H
  icases H with ⟨HS, HOwn, HM⟩
  imod (Rounds.fund_launch ER (Rd (svOf X) (rvOf X)) cells_disjoint (fun g _ h => h) (barToks ∪ ownToks)) $$ [HS HM] with ⟨%κ, -, #HI, #HR, HA, HO, HT⟩
  · isplitl [HS] <;> iassumption
  imodintro
  have hT : (bigSep (barToks ∪ ownToks) fun x => (dutyTok ER x.1 x.2.1 x.2.2 : SP F))
      = iprop((bigSep barToks fun x => dutyTok ER x.1 x.2.1 x.2.2) ∗ bigSep ownToks fun x => dutyTok ER x.1 x.2.1 x.2.2) := bigSep_union toks_disjoint
  ihave HT := (Entails.of_eq hT) $$ HT
  icases HT with ⟨HB, HX⟩
  ihave HB := (Entails.of_eq bar_dealt) $$ HB
  ihave HX := (Entails.of_eq own_dealt) $$ HX
  have hA : (bigSep barCells fun g => (atPos ER g 0 ∅ 0 : SP F)) = bigSep Finset.univ fun c : Dev nD => atPos ER (barCell c) 0 ∅ 0 := by
    rw [bigSep_map]; rfl
  have hO : (bigSep ownCells fun g => (openTok ER g : SP F)) = bigSep Finset.univ fun c : Dev nD => Opens c := by
    rw [bigSep_map, bigSep_univ_prod]; rfl
  ihave HA := (Entails.of_eq hA) $$ HA
  ihave HO := (Entails.of_eq hO) $$ HO
  iapply (bigSep_with_persistent (R := Gd (svOf X) (rvOf X) κ) (S := Finset.univ)
    (Φ := fun c : Dev nD => iprop(Own ρ c ∗ atPos ER (barCell c) 0 ∅ 0 ∗ Opens c ∗ BarToks c ∗ XferToks c)) fun c _ => share_one X κ ρ c)
  isplitr [HOwn HA HO HB HX]
  · iapply (know X κ)
    isplitr; · iexact HI
    isplitr; · iexact HR
    iexact HL
  have hj : iprop((bigSep Finset.univ fun c : Dev nD => Own ρ c) ∗ (bigSep Finset.univ fun c : Dev nD => atPos ER (barCell c) 0 ∅ 0)
        ∗ (bigSep Finset.univ fun c : Dev nD => Opens c) ∗ (bigSep Finset.univ fun c : Dev nD => BarToks c) ∗ bigSep Finset.univ fun c : Dev nD => XferToks c)
      ⊢ (bigSep Finset.univ fun c : Dev nD => iprop(Own ρ c ∗ atPos ER (barCell c) 0 ∅ 0 ∗ Opens c ∗ BarToks c ∗ XferToks c) : SP F) := by
    rw [bigSep_sep' Finset.univ (fun c : Dev nD => (Own ρ c : SP F)) fun c => iprop(atPos ER (barCell c) 0 ∅ 0 ∗ Opens c ∗ BarToks c ∗ XferToks c),
      bigSep_sep' Finset.univ (fun c : Dev nD => (atPos ER (barCell c) 0 ∅ 0 : SP F)) fun c => iprop(Opens c ∗ BarToks c ∗ XferToks c),
      bigSep_sep' Finset.univ (fun c : Dev nD => (Opens c : SP F)) fun c => iprop(BarToks c ∗ XferToks c),
      bigSep_sep' Finset.univ (fun c : Dev nD => (BarToks c : SP F)) fun c => XferToks c]
  iapply hj
  isplitl [HOwn]; · iexact HOwn
  isplitl [HA]; · iexact HA
  isplitl [HO]; · iexact HO
  isplitl [HB] <;> iassumption

/-! ## The run -/

variable (m : (ℓ : Loc nD τ sig) → Buf (Elt F) ℓ) (ρ : Dev nD → PrngReg)

/-- What a device's memory reads at the end: its result, and its arguments as they were. -/
def End (c : Dev nD) (s : MemSt nD τ sig (Elt F)) : Prop :=
  s.mem ((c.tc : Thread nD τ).loc main_v17) = outV (XI (V1 m))
    ∧ (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))

theorem Wout_v17 (W : Dev nD → Valuation τ sig (Elt F)) (c : Dev nD) : Wout W c (Proc.devRef .tc main_v17) = outV (XI W) := by
  unfold Wout; exact Function.update_self ..

theorem Wout_of (c : Dev nD) (b : Ref sig .tc) (h : Proc.devRef .tc b ≠ Proc.devRef (τ := τ) .tc main_v17) (h' : b ∉ hostOps0_W) :
    Wout (V1 m) c (Proc.devRef .tc b) = V0 m c (Proc.devRef .tc b) := by
  unfold Wout; rw [Function.update_of_ne h]; exact V1_of m c b h'

/-- The last valuation, read off a memory that agrees with it. -/
theorem End_of (c : Dev nD) (s : MemSt nD τ sig (Elt F)) (h : ∀ b ∈ Pipeline.ucRefs τ sig, s.mem (c, b) = Wout (V1 m) c b) : End m c s :=
  ⟨(h (Proc.devRef .tc main_v17) (Finset.mem_filter.mpr ⟨StableHlo.devRef_mem_tcRefs main_v17, by decide⟩)).trans (Wout_v17 (V1 m) c),
    (h (Proc.devRef .tc main_arg0) (Finset.mem_filter.mpr ⟨StableHlo.devRef_mem_tcRefs main_arg0, by decide⟩)).trans (Wout_of m c _ (by decide) (by decide)),
    (h (Proc.devRef .tc main_arg1) (Finset.mem_filter.mpr ⟨StableHlo.devRef_mem_tcRefs main_arg1, by decide⟩)).trans (Wout_of m c _ (by decide) (by decide)),
    (h (Proc.devRef .tc main_arg2) (Finset.mem_filter.mpr ⟨StableHlo.devRef_mem_tcRefs main_arg2, by decide⟩)).trans (Wout_of m c _ (by decide) (by decide)),
    (h (Proc.devRef .tc main_arg3) (Finset.mem_filter.mpr ⟨StableHlo.devRef_mem_tcRefs main_arg3, by decide⟩)).trans (Wout_of m c _ (by decide) (by decide)),
    (h (Proc.devRef .tc main_arg4) (Finset.mem_filter.mpr ⟨StableHlo.devRef_mem_tcRefs main_arg4, by decide⟩)).trans (Wout_of m c _ (by decide) (by decide))⟩

/-- What a device ends with. -/
abbrev Last (c : Dev nD) : SP F := iprop(StableHlo.held (c : Thread nD τ) (Pipeline.ucRefs τ sig) (Wout (V1 m) c) ∗ semVal (barCell c) 0)

theorem last_read (c : Dev nD) (s' : Phys nD τ sig (Elt F)) : iprop(Last m c ∗ SI s')
    ⊢ (|={Set.univ}=> iprop(⌜End m c s'.mem ∧ ∀ sm : SemLoc sig, sm.isScoped .tc = false → s'.mem.sem ((c : Thread nD τ), sm) = 0⌝ ∗ SI s') : SP F) := by
  unfold Last StableHlo.held
  iintro ⟨⟨Hh, HB⟩, HSI⟩
  ihave Hr := (pointsTo_read_all (Pipeline.ucRefs τ sig) (fun b => ((c : Thread nD τ).1, b)) (Wout (V1 m) c) s') $$ [Hh HSI]
  · isplitl [Hh] <;> iassumption
  icases Hr with ⟨%h, HSI⟩
  imod (Pipeline.unscopedSems0_read (c := c) (X := (semVal (barCell c) 0 : SP F)) (by rw [unscoped_eq]; exact fupd_intro) s') $$ [HB HSI] with ⟨%hb, HSI⟩
  · isplitl [HB] <;> iassumption
  imodintro
  isplitr
  · ipureintro; exact ⟨End_of m c s'.mem h, hb⟩
  iexact HSI

/-- The run: on every device the result buffer reads the exchange's value, the arguments are as they were, and every counter reads zero. -/
theorem run_main : θ_run defs (onTc (τ := τ) (main (F := F))) ⟨m, fun _ => 0, ρ⟩
    (fun r => (∀ c : Dev nD, End m c r.2) ∧ r.2.sem = fun _ => 0) := by
  refine Pipeline.θ_run_regions_kit_dev_sems (pcfgs (F := F)) adm (pdats (V1 m)) () cellOf_inj EP defs₀ Variants.none L lv m ρ main
    (segs m Variants.none L lv (fun _ => Before (V1 m)) () (pdats (V1 m)) (region (V1 m)))
    (fun c Q => by
      rewrite [main_chain c, Seg.run_eq_chain,
        show (segs m Variants.none L lv (fun _ => Before (V1 m)) () (pdats (V1 m)) (region (V1 m)) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ fund
    (T₀ := fun c => iprop(StableHlo.held (c : Thread nD τ) (Pipeline.ucRefs τ sig) (V0 m c) ∗ Before (V1 m) c))
    (Tₙ := Last m)
    (hch := fun c => ⟨.rfl, region_pre (V1 m) c, (region_post (V1 m) c).trans ?_⟩)
    (hinit := ?_)
    (QY := fun c s => End m c s ∧ ∀ sm : SemLoc sig, sm.isScoped .tc = false → s.sem ((c : Thread nD τ), sm) = 0)
    (hfin := last_read m)
    (hQ := fun s h hs => ⟨fun c => (h c).1, sem_eq_zero hs fun c sm hsm => (h c).2 sm hsm⟩)
  · unfold After
    iintro ⟨H1, H2, H3⟩
    isplitl [H1 H2]
    · isplitl [H1] <;> iassumption
    iexact H3
  · have hsplit : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : SP F) := by
      rw [← bigSep_sep']
      exact bigSep_mono fun c _ => by rw [← Pipeline.unscopedBufs_held (Ix := Unit) (Name := ℕ) (U := UU) (Lvl := ℕ) c (V0 m c)]; exact BI.Entails.refl _
    iintro ⟨H, HL⟩
    ihave H := hsplit $$ H
    icases H with ⟨Hh, Hr⟩
    imod (deal (XI (V1 m)) ρ) $$ [Hr HL] with HE
    · isplitl [Hr] <;> iassumption
    imodintro
    iapply (joined (A := fun c : Dev nD => StableHlo.held (c : Thread nD τ) (Pipeline.ucRefs τ sig) (V0 m c)) (B := Before (V1 m))
      (C := fun c : Dev nD => iprop(StableHlo.held (c : Thread nD τ) (Pipeline.ucRefs τ sig) (V0 m c) ∗ Before (V1 m) c)) fun _ => sProp_refl _)
    isplitl [Hh]; · iexact Hh
    iexact HE

end Cert.KernelIdeal.Talk
-- ==== Proof.Word.lean ====
/-
  The word program is the named one's text with the mask's word in the constant's place, so it runs the same.
-/
module

public import proofs.«01_k».proof.Proof.Run
public import proofs.«01_k».proof.Kernel
public import proofs.«01_k».proof.Proof.Gen.Kernel
public import Idealize.ShloMosaic.PureOps.BitExact

@[expose] public section

noncomputable section

namespace Cert.Kernel.Word

open Idealize.ShloMosaic Idealize.SL.Sem

/-- The constant by its word. -/
@[reducible] def byWord : Named Bits := ⟨fun _ _ t w => Scalar.ofBits t w⟩

attribute [local instance] byWord

theorem main_eq (c : Dev Cert.Kernel.nD) : Cert.Kernel.main (F := Bits) c = Cert.KernelIdeal.main (F := Bits) c := rfl
theorem body_eq : Cert.Kernel.cc0__body (F := Bits) = Cert.KernelIdeal.cc0__body (F := Bits) := rfl
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
theorem defs_eq : Cert.Kernel.defs (F := Bits) = Cert.KernelIdeal.defs (F := Bits) :=
  congrArg (Pipeline.defs (Cert.KernelIdeal.pcfgs (F := Bits))) defs₀_eq

/-- The word program's run: its arguments are as they were, and every counter reads zero. -/
theorem run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (fun r => (∀ c : Dev Cert.KernelIdeal.nD, Cert.KernelIdeal.Talk.End m c r.2) ∧ r.2.sem = fun _ => 0) := by
  rw [defs_eq]
  exact Cert.KernelIdeal.Talk.run_main (F := Bits) m ρ

end Cert.Kernel.Word
-- ==== Proof.Soft.lean ====
/-
  Weights over the extended reals: shifting every score of a row by the row's largest leaves the row's weights as they are.
-/
module

public import Idealize.ShloMosaic.PureOps.Ideal

@[expose] public section

noncomputable section

namespace Cert.Soft

open Idealize.ShloMosaic

/-- A real number among the extended ones. -/
def IsReal (a : EReal) : Prop := ∃ r : ℝ, a = (r : EReal)

theorem IsReal.of_lt {a : EReal} (h : a < ⊤) (h' : ⊥ < a) : IsReal a :=
  ⟨a.toReal, (EReal.coe_toReal h.ne h'.ne').symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem exp_bot : Ideal.exp ⊥ = 0 := rfl
theorem exp_coe (r : ℝ) : Ideal.exp (r : EReal) = (Real.exp r : ℝ) := rfl

/-- A quotient of reals, the divisor positive. -/
theorem div_coe {a b : ℝ} (hb : 0 < b) : Ideal.div (a : EReal) (b : EReal) = ((a / b : ℝ) : EReal) := by
  unfold Ideal.div
  rw [if_neg (by exact_mod_cast hb.ne'), div_eq_mul_inv, EReal.coe_mul, EReal.coe_inv]

variable {n : ℕ} (s : Fin n → EReal) (P : Fin n → Prop) [DecidablePred P]

/-- The scores that count, the others at minus infinity. -/
def masked (j : Fin n) : EReal := if P j then s j else ⊥

theorem weights_eq (hs : ∀ j, IsReal (s j)) (i : Fin n) (hi : P i) (j : Fin n) :
    Ideal.div (Ideal.exp (masked s P j - Finset.univ.fold max ⊥ (masked s P)))
        (∑ k, Ideal.exp (masked s P k - Finset.univ.fold max ⊥ (masked s P)))
      = Ideal.div (Ideal.exp (masked s P j)) (∑ k, Ideal.exp (masked s P k)) := by
  obtain ⟨r, hr⟩ : ∃ r : Fin n → ℝ, ∀ j, s j = (r j : EReal) := ⟨fun j => (hs j).choose, fun j => (hs j).choose_spec⟩
  obtain ⟨m, hm⟩ : IsReal (Finset.univ.fold max ⊥ (masked s P)) := by
    refine IsReal.of_lt ?_ ?_
    · refine (Finset.fold_max_lt ⊤).2 ⟨bot_lt_top, fun k _ => ?_⟩
      unfold masked; split
      · rw [hr]; exact EReal.coe_lt_top _
      · exact bot_lt_top
    · refine (Finset.lt_fold_max ⊥).2 (.inr ⟨i, Finset.mem_univ _, ?_⟩)
      unfold masked; rw [if_pos hi, hr]; exact EReal.bot_lt_coe _
  rw [hm]
  have hE : ∀ k, Ideal.exp (masked s P k) = ((if P k then Real.exp (r k) else 0 : ℝ) : EReal) := fun k => by
    unfold masked; split
    · rw [hr, exp_coe]
    · rw [exp_bot, EReal.coe_zero]
  have hF : ∀ k, Ideal.exp (masked s P k - (m : EReal)) = (((if P k then Real.exp (r k) else 0) * Real.exp (-m) : ℝ) : EReal) := fun k => by
    unfold masked; split
    · rw [hr, ← EReal.coe_sub, exp_coe, ← Real.exp_add, sub_eq_add_neg]
    · rw [EReal.bot_sub, exp_bot, zero_mul, EReal.coe_zero]
  simp only [hE, hF, coe_sum]
  have hpos : 0 < ∑ k, (if P k then Real.exp (r k) else 0 : ℝ) :=
    Finset.sum_pos' (fun k _ => by split; exacts [(Real.exp_pos _).le, le_rfl]) ⟨i, Finset.mem_univ _, by rw [if_pos hi]; exact Real.exp_pos _⟩
  rw [← Finset.sum_mul, div_coe (mul_pos hpos (Real.exp_pos _)), div_coe hpos, mul_div_mul_right _ _ (Real.exp_pos _).ne']

end Cert.Soft

end
-- ==== Proof.KerVal.lean ====
/-
  What the kernel's values are at an index, over the extended reals.
-/
module

public import proofs.«01_k».proof.Proof.Vals
public import proofs.«01_k».proof.Proof.Soft
public import Idealize.ShloMosaic.Lib.Pointwise
public import Idealize.ShloMosaic.Lib.Pipeline.ValueKit.Geometry

@[expose] public section

set_option maxRecDepth 16384

noncomputable section

namespace Cert.KernelIdeal.Val

open Idealize.ShloMosaic Idealize.ShloMosaic.TcCoe
open Cert.KernelIdeal.Gen Cert.KernelIdeal.Talk Cert.Soft

/-! ## The mask -/

/-- A position's block of 64, as the kernel computes it. -/
def blkW (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)
/-- A block modulo four, as the kernel computes it. -/
def modW (w : BitVec 32) : BitVec 32 :=
  Scalar.select
    (IntOp.andi
      (IntOp.xori (IntOp.cmpi .slt (IntOp.remsi .vector w (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector w (Scalar.select (Scalar.cmpi .eq 4#32 0#32) 1#32 4#32)) 0#32))
    (IntOp.addi (IntOp.remsi .vector w (Scalar.select (Scalar.cmpi .eq 4#32 0#32) 1#32 4#32))
      (Scalar.select (Scalar.cmpi .eq 4#32 0#32) 1#32 4#32))
    (IntOp.remsi .vector w (Scalar.select (Scalar.cmpi .eq 4#32 0#32) 1#32 4#32))

theorem modW_at (i : Fin 512) : modW (blkW (BitVec.ofNat 32 i.val)) = BitVec.ofNat 32 (i.val / 64 % 4) := by
  revert i; decide +kernel

theorem maskV_at (i j : Fin 512) : maskV (ix2 i j) = if i.val / 64 % 4 = j.val / 64 % 4 then 1#1 else 0#1 := by
  have e : maskV (ix2 i j) = IntOp.cmpi .eq (modW (blkW (BitVec.ofNat 32 j.val))) (modW (blkW (BitVec.ofNat 32 i.val))) := by
    pointwise [maskV, k0_pay3, k0_pay4, k0_pay5, k0_pay6]
    rfl
  rw [e, modW_at, modW_at]
  have h : ∀ p q : Fin 4, IntOp.cmpi CmpIPredicate.eq (BitVec.ofNat 32 q.val) (BitVec.ofNat 32 p.val) = if p.val = q.val then 1#1 else 0#1 := by
    decide +kernel
  exact h ⟨i.val / 64 % 4, by omega⟩ ⟨j.val / 64 % 4, by omega⟩

theorem biasV_at (i j : Fin 512) : (biasV (F := Ideal)) (ix2 i j) = if i.val / 64 % 4 = j.val / 64 % 4 then 0 else ⊥ := by
  pointwise [biasV, k0_pay7, maskV_at]
  split
  · rfl
  · rfl

/-! ## The loads -/

section Loads
variable (X : Inp Ideal) (b : Fin 2) (h : Fin 8)

theorem xPl_at (i : Fin 512) (k : Fin 768) : xPl X b (ix3 0 i k) = X.x (ix3 b i k) :=
  congrArg X.x (funext fun a => Fin.ext (by
    rw [ValueKit.rect_emb_unit_val]
    match a with
    | ⟨0, _⟩ => rfl
    | ⟨1, _⟩ => exact Nat.zero_add _
    | ⟨2, _⟩ => exact Nat.zero_add _))
theorem wqPl_at (k : Fin 768) (e : Fin 512) : wqPl X (ix2 k e) = X.wq (ix2 k e) :=
  congrArg X.wq (funext fun a => Fin.ext (by
    rw [ValueKit.rect_emb_unit_val]
    match a with
    | ⟨0, _⟩ => exact Nat.zero_add _
    | ⟨1, _⟩ => exact Nat.zero_add _))
theorem woPl_at (e : Fin 512) (n : Fin 768) : woPl X (ix2 e n) = X.wo (ix2 e n) :=
  congrArg X.wo (funext fun a => Fin.ext (by
    rw [ValueKit.rect_emb_unit_val]
    match a with
    | ⟨0, _⟩ => exact Nat.zero_add _
    | ⟨1, _⟩ => exact Nat.zero_add _))
theorem emb_kv (j : Fin 512) (d : Fin 64) :
    (Rect.unit (s := S2x8x512x64) ![b.val, h.val, 0, 0] S1x1x512x64.size (inbKV b h)).emb (ix4 0 0 j d) = ix4 b h j d :=
  funext fun a => Fin.ext (by
    rw [ValueKit.rect_emb_unit_val]
    match a with
    | ⟨0, _⟩ => rfl
    | ⟨1, _⟩ => rfl
    | ⟨2, _⟩ => exact Nat.zero_add _
    | ⟨3, _⟩ => exact Nat.zero_add _)
theorem kPl_at (j : Fin 512) (d : Fin 64) : kPl X b h (ix4 0 0 j d) = X.k (ix4 b h j d) := congrArg X.k (emb_kv b h j d)
theorem vPl_at (j : Fin 512) (d : Fin 64) : vPl X b h (ix4 0 0 j d) = X.v (ix4 b h j d) := congrArg X.v (emb_kv b h j d)

end Loads

/-! ## One head -/

theorem qV_at (X : Inp Ideal) (b : Fin 2) (i e : Fin 512) :
    qV X b (ix2 i e) = ∑ k : Fin 768, X.x (ix3 b i k) * X.wq (ix2 k e) := by
  pointwise [qV, k0_pay8, xPl_at, wqPl_at]

/-- A score of one head. -/
def scoreK (X : Inp Ideal) (b : Fin 2) (h : Fin 8) (i j : Fin 512) : EReal :=
  (∑ d : Fin 64, (∑ k : Fin 768, X.x (ix3 b i k) * X.wq (ix2 k ⟨64 * h.val + d.val, by omega⟩)) * X.k (ix4 b h j d))
    * Ideal.ofBits .f32 0x3E000000#32

theorem expV_at (X : Inp Ideal) (b : Fin 2) (h : Fin 8) (i j : Fin 512) :
    expV (qV X b) h (kPl X b h) (ix2 i j)
      = Ideal.exp (masked (scoreK X b h i) (fun j => i.val / 64 % 4 = j.val / 64 % 4) j) := by
  pointwise [expV, biasV_at, qV_at, kPl_at]
  refine congrArg Ideal.exp ?_
  unfold masked scoreK
  split
  · exact add_zero _
  · exact EReal.add_bot _

theorem wtV_at (e : FVec Ideal S512x512 .f32) (i j : Fin 512) :
    wtV e (ix2 i j) = Ideal.div (e (ix2 i j)) (∑ k : Fin 512, e (ix2 i k)) := by
  pointwise [wtV]

/-- A weight of one head. -/
def weightK (X : Inp Ideal) (b : Fin 2) (h : Fin 8) (i j : Fin 512) : EReal :=
  Ideal.div (Ideal.exp (masked (scoreK X b h i) (fun j => i.val / 64 % 4 = j.val / 64 % 4) j))
    (∑ k, Ideal.exp (masked (scoreK X b h i) (fun j => i.val / 64 % 4 = j.val / 64 % 4) k))

theorem headV_at (X : Inp Ideal) (b : Fin 2) (h : Fin 8) (i : Fin 512) (d : Fin 64) :
    headV X b h (ix3 0 i d) = ∑ j : Fin 512, weightK X b h i j * X.v (ix4 b h j d) := by
  pointwise [headV, vPl_at, wtV_at, expV_at, weightK]

/-! ## One device's part -/

/-- An entry of the part of the result that one device's heads make. -/
def partK (X : Inp Ideal) (b : Fin 2) (i : Fin 512) (n : Fin 768) : EReal :=
  ∑ e : Fin 512, (∑ j : Fin 512, weightK X b ⟨e.val / 64, by omega⟩ i j * X.v (ix4 b ⟨e.val / 64, by omega⟩ j ⟨e.val % 64, by omega⟩))
    * X.wo (ix2 e n)

theorem ctxPl_at (X : Inp Ideal) (b : Fin 2) (i e : Fin 512) :
    ctxPl X b (ix3 0 i e) = headV X b ⟨e.val / 64, by omega⟩ (ix3 0 i ⟨e.val % 64, by omega⟩) := by
  have hx : (Rect.unit (s := S2x512x512) ![b.val, 0, 0] S1x512x512.size (inbP b)).emb (ix3 0 i e) = ix3 b i e :=
    funext fun a => Fin.ext (by
      rw [ValueKit.rect_emb_unit_val]
      match a with
      | ⟨0, _⟩ => rfl
      | ⟨1, _⟩ => exact Nat.zero_add _
      | ⟨2, _⟩ => exact Nat.zero_add _)
  unfold ctxPl; rw [hx]
  exact congrArg (headV X b ⟨e.val / 64, by omega⟩) (eq_ix3 _)

theorem partV_at (X : Inp Ideal) (b : Fin 2) (i : Fin 512) (n : Fin 768) : partV X b (ix2 i n) = partK X b i n := by
  pointwise [partV, k0_pay24, ctxPl_at, woPl_at, headV_at, partK]

/-! ## The sum over the devices -/

section Sum
variable (X : Dev nD → Inp Ideal)

theorem svOf_at (d : Dev nD) (b : Fin 2) (i : Fin 512) (n : Fin 768) (r : Fin 1024) (hr : r.val = 512 * b.val + i.val) :
    (svOf X d (ix2 r n) : EReal) = partK (X d) b i n := by
  rw [← partV_at]
  have hb : (⟨r.val / 512, by omega⟩ : Fin 2) = b := Fin.ext (by show r.val / 512 = b.val; omega)
  show partV (X d) ⟨r.val / 512, _⟩ _ = _
  rw [hb]
  refine congrArg (partV (X d) b) (funext fun a => Fin.ext ?_)
  match a with
  | ⟨0, _⟩ => show r.val % 512 = i.val; omega
  | ⟨1, _⟩ => rfl

theorem ownPl_at (c : Dev nD) (r : Fin 64) (n : Fin 768) :
    ownPl X c (ix2 r n) = svOf X c (ix2 ⟨64 * c.val + r.val, by have : c.val < 16 := c.isLt; omega⟩ n) :=
  congrArg (svOf X c) (funext fun a => Fin.ext (by
    rw [ValueKit.rect_emb_unit_val]
    match a with
    | ⟨0, _⟩ => rfl
    | ⟨1, _⟩ => exact Nat.zero_add _))

theorem slotPl_at (c : Dev nD) (k : Fin 15) (r : Fin 64) (n : Fin 768) :
    slotPl X c k (ix3 0 r n) = svOf X (peer c k.rev) (ix2 ⟨64 * c.val + r.val, by have : c.val < 16 := c.isLt; omega⟩ n) := by
  have hx : (Rect.unit (s := S15x64x768) ![k.val, 0, 0] S1x64x768.size (inbS k)).emb (ix3 0 r n) = ix3 k r n :=
    funext fun a => Fin.ext (by
      rw [ValueKit.rect_emb_unit_val]
      match a with
      | ⟨0, _⟩ => rfl
      | ⟨1, _⟩ => exact Nat.zero_add _
      | ⟨2, _⟩ => exact Nat.zero_add _)
  unfold slotPl; rw [hx]
  exact congrArg (svOf X (peer c k.rev)) (eq_ix2 _)

/-- The rows a device reduces, by the devices they came from. -/
def rowK (c d : Dev nD) (r : Fin 64) (n : Fin 768) : EReal := svOf X d (ix2 ⟨64 * c.val + r.val, by have : c.val < 16 := c.isLt; omega⟩ n)

theorem accV_at (c : Dev nD) (r : Fin 64) (n : Fin 768) : ∀ m : ℕ, accV X c m (ix2 r n)
    = rowK X c c r n + ∑ k ∈ Finset.range m, rowK X c (peer c (⟨k % 15, Nat.mod_lt _ (by decide)⟩ : Fin 15).rev) r n
  | 0 => by
    pointwise [accV, ownPl_at]
    rw [Finset.sum_range_zero, add_zero]; rfl
  | m + 1 => by
    rw [Finset.sum_range_succ, ← add_assoc, ← accV_at c r n m]
    pointwise [accV, slotPl_at]
    rfl

theorem others (c : Dev nD) : (Finset.univ : Finset (Fin 15)).image (fun k => peer c k.rev) = Finset.univ.erase c := by
  revert c; decide +kernel

theorem acc_all (c : Dev nD) (r : Fin 64) (n : Fin 768) : accV X c 15 (ix2 r n) = ∑ d : Dev nD, rowK X c d r n := by
  rw [accV_at, Finset.sum_range, ← Finset.add_sum_erase Finset.univ _ (Finset.mem_univ c), ← others c,
    Finset.sum_image (fun k _ k' _ e => Fin.rev_injective (peer_inj c e))]
  refine congrArg _ (Finset.sum_congr rfl fun k _ => ?_)
  have e : (⟨k.val % 15, Nat.mod_lt _ (by decide)⟩ : Fin 15) = k := Fin.ext (Nat.mod_eq_of_lt k.isLt)
  rw [e]

theorem flatPl_at (b : Fin 2) (i : Fin 512) (n : Fin 768) : flatPl X b (ix2 i n) = ∑ d : Dev nD, partK (X d) b i n := by
  have hx : (Rect.unit (s := S1024x768) ![512 * b.val, 0] S512x768.size (inbH b)).emb (ix2 i n) = ix2 ⟨512 * b.val + i.val, by omega⟩ n :=
    funext fun a => Fin.ext (by
      rw [ValueKit.rect_emb_unit_val]
      match a with
      | ⟨0, _⟩ => rfl
      | ⟨1, _⟩ => exact Nat.zero_add _)
  have hc : (512 * b.val + i.val) / 64 < 16 := by omega
  have hl : flatPl X b (ix2 i n) = rvOf X ⟨(512 * b.val + i.val) / 64, hc⟩ (ix2 ⟨(512 * b.val + i.val) % 64, by omega⟩ n) := by
    unfold flatPl; rw [hx]
    exact congrArg (rvOf X _) (eq_ix2 _)
  have hr : ∀ (c : Dev nD) (r : Fin 64), rvOf X c (ix2 r n) = accV X c 15 (ix2 r n) := fun c r => by
    pointwise [rvOf]
  rw [hl, hr, acc_all]
  refine Finset.sum_congr rfl fun d _ => ?_
  exact svOf_at X d b i n _ (by show 64 * ((512 * b.val + i.val) / 64) + (512 * b.val + i.val) % 64 = _; omega)

/-- The kernel's result at an index. -/
theorem outV_at (b : Fin 2) (i : Fin 512) (n : Fin 768) : (outV X (ix3 b i n) : EReal) = ∑ d : Dev nD, partK (X d) b i n := by
  rw [← flatPl_at]
  show k0_pay1 (flatPl X b) _ = _
  have e : ∀ z : S1x512x768.Idx, z = ix3 0 i n → k0_pay1 (flatPl X b) z = flatPl X b (ix2 i n) := by
    rintro z rfl; pointwise [k0_pay1]
  exact e _ (eq_ix3 _)

end Sum

end Cert.KernelIdeal.Val

end
-- ==== Proof.RefVal.lean ====
/-
  The reference's result in stages, each stage a function of the five arrays, and each read at an index.
-/
module

public import proofs.«01_k».proof.Proof.Gen.ReferenceIdeal.Run
public import Idealize.ShloMosaic.Lib.Pointwise
public import Idealize.ShloMosaic.Lib.IdealHost
public import Idealize.ShloMosaic.Lib.Routing.OpsOrder

@[expose] public section

set_option maxRecDepth 16384

noncomputable section

namespace Cert.ReferenceIdeal.Stage

open Cert.ReferenceIdeal Cert.ReferenceIdeal.Gen Idealize.ShloMosaic Idealize.ShloMosaic.TcCoe

/-- Each position's block of 64. -/
def blk : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The four of the remainders. -/
def four : IVec S_ 32 :=
  select (cmpi .eq (id (constantI S_ 32 4#32)) (constantI S_ 32 0#32)) (constantI S_ 32 1#32) (id (constantI S_ 32 4#32))

def rowBlk : IVec S512x1 32 := broadcastInDim S512x1 ![0] bcast_S512_S512x1_0 blk
def colBlk : IVec S1x512 32 := broadcastInDim S1x512 ![1] bcast_S512_S1x512_1 blk

def colRem : IVec S1x512 32 := Host.remsi colBlk (broadcastInDim S1x512 ![] bcast_S_S1x512 four)
def rowRem : IVec S512x1 32 := Host.remsi rowBlk (broadcastInDim S512x1 ![] bcast_S_S512x1 four)
/-- A key's block modulo four. -/
def colMod : IVec S1x512 32 :=
  select (andi (cmpi .ne (cmpi .slt colRem (broadcastInDim S1x512 ![] bcast_S_S1x512 (constantI S_ 32 0#32)))
      (broadcastInDim S1x512 ![] bcast_S_S1x512 (cmpi .slt four (constantI S_ 32 0#32))))
      (cmpi .ne colRem (broadcastInDim S1x512 ![] bcast_S_S1x512 (constantI S_ 32 0#32))))
    (addi colRem (broadcastInDim S1x512 ![] bcast_S_S1x512 four)) colRem
/-- A query's block modulo four. -/
def rowMod : IVec S512x1 32 :=
  select (andi (cmpi .ne (cmpi .slt rowRem (broadcastInDim S512x1 ![] bcast_S_S512x1 (constantI S_ 32 0#32)))
      (broadcastInDim S512x1 ![] bcast_S_S512x1 (cmpi .slt four (constantI S_ 32 0#32))))
      (cmpi .ne rowRem (broadcastInDim S512x1 ![] bcast_S_S512x1 (constantI S_ 32 0#32))))
    (addi rowRem (broadcastInDim S512x1 ![] bcast_S_S512x1 four)) rowRem

/-- Which pairs may attend. -/
def mask : IVec S512x512 1 :=
  ori (cmpi .eq (broadcastInDim S512x512 ![0, 1] bcast_S512x1_S512x512_0_1 rowBlk)
      (broadcastInDim S512x512 ![0, 1] bcast_S1x512_S512x512_0_1 colBlk))
    (cmpi .eq (broadcastInDim S512x512 ![0, 1] bcast_S1x512_S512x512_0_1 colMod)
      (broadcastInDim S512x512 ![0, 1] bcast_S512x1_S512x512_0_1 rowMod))
/-- Which queries have a key. -/
def keep : IVec S512 1 := Host.reduce IntOp.ori mask (constantI S_ 1 0#1) reducesTo_S512x512_S512_d1 h_S_

variable {F : FTy → Type} [FloatOps F]

/-- The scores, a pair that may not attend at minus infinity. -/
def score (x : FVec F S2x512x768 .bf16) (wq : FVec F S768x8192 .bf16) (k : FVec F S2x512x128x64 .bf16) :
    FVec F S2x128x512x512 .f32 :=
  select (broadcastInDim S2x128x512x512 ![0, 1, 2, 3] bcast_S1x1x512x512_S2x128x512x512_0_1_2_3
      (broadcastInDim S1x1x512x512 ![2, 3] bcast_S512x512_S1x1x512x512_2_3 mask))
    (mulf (Host.dotGeneral dot_S2x512x128x64_S2x512x128x64_S2x128x512x512_3_3_1_1_02_02 none
        (shapeCast S2x512x128x64 (Host.dotGeneral dot_S2x512x768_S768x8192_S2x512x8192_2_0_01_1_n_n none
          (extf .f32 x bitsLt_bf16_f32) (extf .f32 wq bitsLt_bf16_f32)) shapeCasts_S2x512x8192_S2x512x128x64)
        (extf .f32 k bitsLt_bf16_f32))
      (broadcastInDim S2x128x512x512 ![] bcast_S_S2x128x512x512 (constant S_ .f32 0x3E000000#32)))
    (broadcastInDim S2x128x512x512 ![] bcast_S_S2x128x512x512 (id (constant S_ .f32 0xFF800000#32)))

/-- The exponentials of the scores less their row's largest. -/
def shifted (s : FVec F S2x128x512x512 .f32) : FVec F S2x128x512x512 .f32 :=
  Host.exp (subf s (broadcastInDim S2x128x512x512 ![0, 1, 2, 3] bcast_S2x128x512x1_S2x128x512x512_0_1_2_3
    (broadcastInDim S2x128x512x1 ![0, 1, 2] bcast_S2x128x512_S2x128x512x1_0_1_2
      (Host.reduce FloatOps.maximumf s (constant S_ .f32 0xFF800000#32) reducesTo_S2x128x512x512_S2x128x512_d3 h_S_))))

/-- The weights. -/
def weight (e : FVec F S2x128x512x512 .f32) : FVec F S2x128x512x512 .f32 :=
  select (broadcastInDim S2x128x512x512 ![0, 1, 2, 3] bcast_S1x1x512x1_S2x128x512x512_0_1_2_3
      (broadcastInDim S1x1x512x1 ![2] bcast_S512_S1x1x512x1_2 keep))
    (Host.divf e (broadcastInDim S2x128x512x512 ![0, 1, 2, 3] bcast_S2x128x512x1_S2x128x512x512_0_1_2_3
      (select (broadcastInDim S2x128x512x1 ![0, 1, 2, 3] bcast_S1x1x512x1_S2x128x512x1_0_1_2_3
          (broadcastInDim S1x1x512x1 ![2] bcast_S512_S1x1x512x1_2 keep))
        (broadcastInDim S2x128x512x1 ![0, 1, 2] bcast_S2x128x512_S2x128x512x1_0_1_2
          (Host.reduceAdd e (constant S_ .f32 0x00000000#32) reducesTo_S2x128x512x512_S2x128x512_d3 h_S_))
        (broadcastInDim S2x128x512x1 ![] bcast_S_S2x128x512x1 (id (constant S_ .f32 0x3F800000#32))))))
    (broadcastInDim S2x128x512x512 ![] bcast_S_S2x128x512x512 (id (constant S_ .f32 0x00000000#32)))

/-- The result of the weights. -/
def result (w : FVec F S2x128x512x512 .f32) (v : FVec F S2x512x128x64 .bf16) (wo : FVec F S8192x768 .bf16) :
    FVec F S2x512x768 .f32 :=
  Host.dotGeneral dot_S2x512x8192_S8192x768_S2x512x768_2_0_01_1_n_n none
    (shapeCast S2x512x8192 (transpose S2x512x128x64 [0, 3, 1, 2]
      (Host.dotGeneral dot_S2x512x128x64_S2x128x512x512_S2x128x64x512_1_3_3_2_02_01 none (extf .f32 v bitsLt_bf16_f32) w)
      transposes_S2x128x64x512_S2x512x128x64_0_3_1_2) shapeCasts_S2x512x128x64_S2x512x8192)
    (extf .f32 wo bitsLt_bf16_f32)

/-- The reference's result is the last stage. -/
theorem res_eq (m : (ℓ : Loc nD τ sig) → Buf (Elt F) ℓ) (c : Dev nD) :
    Value.res_main_v44 m c = result (weight (shifted (score (m ((c.tc : Thread nD τ).loc main_arg0))
      (m ((c.tc : Thread nD τ).loc main_arg1)) (m ((c.tc : Thread nD τ).loc main_arg2)))))
      (m ((c.tc : Thread nD τ).loc main_arg3)) (m ((c.tc : Thread nD τ).loc main_arg4)) := rfl

/-! ## The masks -/

theorem blk_at (i : Fin 512) : blk (ix1 i) = BitVec.ofNat 32 (i.val / 64) := by
  pointwise [blk]
  revert i; decide +kernel

theorem four_at : four ix0 = 4#32 := by
  rfl

theorem colMod_at (i : Fin 512) : colMod (ix2 0 i) = BitVec.ofNat 32 (i.val / 64 % 4) := by
  pointwise [colMod, colRem, colBlk, blk_at, four_at]
  revert i; decide +kernel

theorem rowMod_at (i : Fin 512) : rowMod (ix2 i 0) = BitVec.ofNat 32 (i.val / 64 % 4) := by
  pointwise [rowMod, rowRem, rowBlk, blk_at, four_at]
  revert i; decide +kernel

theorem mask_at (i j : Fin 512) : mask (ix2 i j) = if i.val / 64 % 4 = j.val / 64 % 4 then 1#1 else 0#1 := by
  pointwise [mask, rowBlk, colBlk, blk_at, colMod_at, rowMod_at]
  have h : ∀ p q : Fin 8, IntOp.ori (IntOp.cmpi CmpIPredicate.eq (BitVec.ofNat 32 p.val) (BitVec.ofNat 32 q.val))
      (IntOp.cmpi CmpIPredicate.eq (BitVec.ofNat 32 (q.val % 4)) (BitVec.ofNat 32 (p.val % 4)))
        = if p.val % 4 = q.val % 4 then 1#1 else 0#1 := by decide +kernel
  exact h ⟨i.val / 64, by omega⟩ ⟨j.val / 64, by omega⟩

theorem keep_at (i : Fin 512) : keep (ix1 i) = 1#1 := by
  pointwise [keep, mask_at]
  exact (Routing.fold_ori _ _).2 ⟨i, Finset.mem_univ _, if_pos rfl⟩

/-! ## The values -/

theorem negInf : Ideal.ofBits .f32 0xFF800000#32 = ⊥ := by simp [Ideal.ofBits, Ideal.ieee]

theorem score_at (x : FVec Ideal S2x512x768 .bf16) (wq : FVec Ideal S768x8192 .bf16) (k : FVec Ideal S2x512x128x64 .bf16)
    (b : Fin 2) (h : Fin 128) (i j : Fin 512) :
    score x wq k (ix4 b h i j) = if i.val / 64 % 4 = j.val / 64 % 4 then
      (∑ d : Fin 64, (∑ e : Fin 768, x (ix3 b i e) * wq (ix2 e ⟨h.val * 64 + d.val, by omega⟩)) * k (ix4 b j h d)) * Ideal.ofBits .f32 0x3E000000#32
      else ⊥ := by
  pointwise [score, mask_at]
  split
  · rfl
  · exact negInf

theorem shifted_at (s : FVec Ideal S2x128x512x512 .f32) (b : Fin 2) (h : Fin 128) (i j : Fin 512) :
    shifted s (ix4 b h i j) = Ideal.exp (s (ix4 b h i j) - Finset.univ.fold max ⊥ fun k : Fin 512 => s (ix4 b h i k)) := by
  pointwise [shifted]
  rw [negInf]

theorem weight_at (e : FVec Ideal S2x128x512x512 .f32) (b : Fin 2) (h : Fin 128) (i j : Fin 512) :
    weight e (ix4 b h i j) = Ideal.div (e (ix4 b h i j)) (∑ k : Fin 512, e (ix4 b h i k)) := by
  pointwise [weight, keep_at]

theorem result_at (w : FVec Ideal S2x128x512x512 .f32) (v : FVec Ideal S2x512x128x64 .bf16) (wo : FVec Ideal S8192x768 .bf16)
    (b : Fin 2) (i : Fin 512) (n : Fin 768) :
    result w v wo (ix3 b i n) = ∑ e : Fin 8192,
      (∑ j : Fin 512, v (ix4 b j ⟨e.val / 64, by omega⟩ ⟨e.val % 64, by omega⟩) * w (ix4 b ⟨e.val / 64, by omega⟩ i j)) * wo (ix2 e n) := by
  pointwise [result]

end Cert.ReferenceIdeal.Stage

end
-- ==== Proof.Match.lean ====
/-
  The kernel's result is the reference's: the sum over the devices of their heads' parts is the product over all the heads.
-/
module

public import proofs.«01_k».proof.Proof.KerVal
public import proofs.«01_k».proof.Proof.RefVal

@[expose] public section

set_option maxRecDepth 16384

noncomputable section

namespace Cert.Match

open Idealize.ShloMosaic Idealize.ShloMosaic.TcCoe
open Cert.KernelIdeal.Talk Cert.KernelIdeal.Val Cert.KernelIdeal.Gen Cert.Soft Cert.ReferenceIdeal.Stage

abbrev Arr (s : Shape) : Type := s.Idx → EReal

/-- The devices' arrays are cut from the reference's. -/
structure Cut (X : Fin 16 → Inp Ideal) (x : Arr ⟨3, ![2, 512, 768]⟩) (wq : Arr ⟨2, ![768, 8192]⟩)
    (k v : Arr ⟨4, ![2, 512, 128, 64]⟩) (wo : Arr ⟨2, ![8192, 768]⟩) : Prop where
  x : ∀ (c : Fin 16) (b : Fin 2) (i : Fin 512) (e : Fin 768), (X c).x (ix3 b i e) = x (ix3 b i e)
  wq : ∀ (c : Fin 16) (e : Fin 768) (q : Fin 512), (X c).wq (ix2 e q) = wq (ix2 e ⟨512 * c.val + q.val, by omega⟩)
  k : ∀ (c : Fin 16) (b : Fin 2) (h : Fin 8) (j : Fin 512) (d : Fin 64),
    (X c).k (ix4 b h j d) = k (ix4 b j ⟨8 * c.val + h.val, by omega⟩ d)
  v : ∀ (c : Fin 16) (b : Fin 2) (h : Fin 8) (j : Fin 512) (d : Fin 64),
    (X c).v (ix4 b h j d) = v (ix4 b j ⟨8 * c.val + h.val, by omega⟩ d)
  wo : ∀ (c : Fin 16) (e : Fin 512) (n : Fin 768), (X c).wo (ix2 e n) = wo (ix2 ⟨512 * c.val + e.val, by omega⟩ n)

theorem eighth : IsReal (Ideal.ofBits .f32 0x3E000000#32) := by
  simp [Ideal.ofBits, Ideal.ieee]
  exact ⟨_, (EReal.coe_mul _ _).symm⟩

/-- Real entries make real scores. -/
theorem score_real (X : Inp Ideal) (hx : ∀ i, IsReal (X.x i)) (hq : ∀ i, IsReal (X.wq i)) (hk : ∀ i, IsReal (X.k i))
    (b : Fin 2) (h : Fin 8) (i j : Fin 512) : IsReal (scoreK X b h i j) :=
  ((IsReal.sum _ _ fun _ => (IsReal.sum _ _ fun _ => (hx _).mul (hq _)).mul (hk _))).mul eighth

section
variable {X : Fin 16 → Inp Ideal} {x : Arr ⟨3, ![2, 512, 768]⟩} {wq : Arr ⟨2, ![768, 8192]⟩}
  {k v : Arr ⟨4, ![2, 512, 128, 64]⟩} {wo : Arr ⟨2, ![8192, 768]⟩}
variable (C : Cut X x wq k v wo)
include C

theorem score_eq (c : Fin 16) (b : Fin 2) (h : Fin 8) (i j : Fin 512) :
    score (F := Ideal) x wq k (ix4 b ⟨8 * c.val + h.val, by omega⟩ i j)
      = masked (scoreK (X c) b h i) (fun j => i.val / 64 % 4 = j.val / 64 % 4) j := by
  rw [score_at]
  unfold masked scoreK
  refine if_congr Iff.rfl (congrArg (· * _) (Finset.sum_congr rfl fun d _ => ?_)) rfl
  rw [C.k]
  refine congrArg (· * _) (Finset.sum_congr rfl fun e _ => ?_)
  rw [C.x, C.wq]
  refine congrArg (fun q => _ * wq (ix2 e q)) (Fin.ext ?_)
  show (8 * c.val + h.val) * 64 + d.val = 512 * c.val + (64 * h.val + d.val)
  omega

theorem weight_eq (hs : ∀ c b h i j, IsReal (scoreK (X c) b h i j)) (c : Fin 16) (b : Fin 2) (h : Fin 8) (i j : Fin 512) :
    weight (shifted (score (F := Ideal) x wq k)) (ix4 b ⟨8 * c.val + h.val, by omega⟩ i j) = weightK (X c) b h i j := by
  rw [weight_at]
  simp only [shifted_at, score_eq C]
  exact weights_eq (scoreK (X c) b h i) (fun j => i.val / 64 % 4 = j.val / 64 % 4) (hs c b h i) i rfl j

theorem result_eq (hs : ∀ c b h i j, IsReal (scoreK (X c) b h i j)) :
    (outV X : Arr ⟨3, ![2, 512, 768]⟩) = result (weight (shifted (score (F := Ideal) x wq k))) v wo := by
  funext z
  obtain ⟨b, i, n, rfl⟩ : ∃ (b : Fin 2) (i : Fin 512) (n : Fin 768), z = ix3 b i n := ⟨z 0, z 1, z 2, eq_ix3 z⟩
  refine (outV_at X b i n).trans (Eq.trans (b := (∑ c : Fin 16, partK (X c) b i n : EReal)) rfl ?_)
  rw [result_at, Fin.sum_univ_tiles 16 512 rfl]
  refine Finset.sum_congr rfl fun c _ => ?_
  unfold partK
  refine Finset.sum_congr rfl fun e _ => ?_
  rw [C.wo]
  have hw : (⟨512 * c.val + e.val, by omega⟩ : Fin 8192) = ⟨c.val * 512 + e.val, by omega⟩ := Fin.ext (by show 512 * _ + _ = _ * 512 + _; omega)
  have hh : (⟨(c.val * 512 + e.val) / 64, by omega⟩ : Fin 128) = ⟨8 * c.val + e.val / 64, by omega⟩ := Fin.ext (by show _ / 64 = _ + _; omega)
  have hd : (⟨(c.val * 512 + e.val) % 64, by omega⟩ : Fin 64) = ⟨e.val % 64, by omega⟩ := Fin.ext (by show _ % 64 = _ % 64; omega)
  rw [hw]
  refine congrArg (· * _) (Finset.sum_congr rfl fun j _ => ?_)
  show _ = v (ix4 b j ⟨(c.val * 512 + e.val) / 64, _⟩ ⟨(c.val * 512 + e.val) % 64, _⟩)
    * weight (shifted (score (F := Ideal) x wq k)) (ix4 b ⟨(c.val * 512 + e.val) / 64, _⟩ i j)
  rw [hh, hd, C.v, mul_comm]
  exact congrArg (_ * ·) (weight_eq C hs c b ⟨e.val / 64, by omega⟩ i j).symm

end

end Cert.Match

end
-- ==== Proof.HostVal.lean ====
/-
  The keys and values that each device's host program takes for its kernel: the device's eight heads, heads before positions.
-/
module

public import proofs.«01_k».proof.Proof.Reg
public import Idealize.ShloMosaic.Lib.Pointwise
public import Idealize.ShloMosaic.Lib.StableHlo.ReadAt

@[expose] public section

set_option maxRecDepth 16384

noncomputable section

namespace Cert.KernelIdeal.Val

open Idealize.ShloMosaic Idealize.ShloMosaic.TcCoe
open Cert.KernelIdeal.Gen Cert.KernelIdeal.Talk

/-- A slice that starts at the device's first head, and elsewhere at zero. -/
theorem place (c : Dev nD) (b : Fin 2) (h : Fin 8) (j : Fin 512) (d : Fin 64) {p q r s : ℕ} (hp : p = 0) (hq : q = 0) (hr : r = 8 * c.val) (hs : s = 0)
    {ib : p + b.val < 2} {ij : q + j.val < 512} {ih : r + h.val < 128} {id : s + d.val < 64} {ic : 8 * c.val + h.val < 128} :
    ix4 (⟨p + b.val, ib⟩ : Fin 2) (⟨q + j.val, ij⟩ : Fin 512) (⟨r + h.val, ih⟩ : Fin 128) (⟨s + d.val, id⟩ : Fin 64)
      = ix4 b j ⟨8 * c.val + h.val, ic⟩ d := by
  subst hp hq hr hs
  simp only [Nat.zero_add]

theorem keys_at (m : (ℓ : Loc nD τ sig) → Buf (Elt Ideal) ℓ) (c : Dev nD) (b : Fin 2) (h : Fin 8) (j : Fin 512) (d : Fin 64) :
    V1 m c main_v15 (ix4 b h j d)
      = m ((c.tc : Thread nD τ).loc main_arg2) (ix4 b j ⟨8 * c.val + h.val, by have : c.val < 16 := c.isLt; omega⟩ d) := by
  unfold V1
  after_reads_at
  simp only [Host.clampedStart, Matrix.cons_val_zero, Matrix.cons_val_one, Matrix.cons_val]
  after_reads_simp
  refine congrArg (m ((c.tc : Thread nD τ).loc main_arg2)) (place c b h j d rfl rfl ?_ rfl)
  clear m; revert c; decide +kernel

theorem vals_at (m : (ℓ : Loc nD τ sig) → Buf (Elt Ideal) ℓ) (c : Dev nD) (b : Fin 2) (h : Fin 8) (j : Fin 512) (d : Fin 64) :
    V1 m c main_v16 (ix4 b h j d)
      = m ((c.tc : Thread nD τ).loc main_arg3) (ix4 b j ⟨8 * c.val + h.val, by have : c.val < 16 := c.isLt; omega⟩ d) := by
  unfold V1
  after_reads_at
  simp only [Host.clampedStart, Matrix.cons_val_zero, Matrix.cons_val_one, Matrix.cons_val]
  after_reads_simp
  refine congrArg (m ((c.tc : Thread nD τ).loc main_arg3)) (place c b h j d rfl rfl ?_ rfl)
  clear m; revert c; decide +kernel

end Cert.KernelIdeal.Val

end
-- ==== Proof.Real.lean ====
/-
  What the precondition says of an entry, and that the two programs' results are one array.
-/
module

public import proofs.«01_k».proof.Defs
public import proofs.«01_k».proof.Proof.Match
public import proofs.«01_k».proof.Proof.HostVal

@[expose] public section

set_option maxRecDepth 16384

noncomputable section

namespace Cert.Match

open Idealize.ShloMosaic Idealize.ShloMosaic.TcCoe
open Cert.KernelIdeal.Talk Cert.KernelIdeal.Val Cert.KernelIdeal.Gen Cert.Soft Cert.ReferenceIdeal.Stage

theorem preFacts : Cert.Pre_real_scores_KernelIdeal.Facts := ⟨by decide, by decide, by decide⟩
theorem preFacts' : Cert.Pre_real_scores_ReferenceIdeal.Facts := ⟨by decide, by decide, by decide⟩

theorem top16 : Ideal.ofBits .bf16 0x7F80#16 = ⊤ := by simp [Ideal.ofBits, Ideal.ieee]
theorem bot16 : Ideal.ofBits .bf16 0xFF80#16 = ⊥ := by simp [Ideal.ofBits, Ideal.ieee]

theorem tilesCols : Layout.Tiles ⟨2, ![768, 512]⟩ ⟨2, ![768, 8192]⟩ 1 16 := by decide
theorem tilesRows : Layout.Tiles ⟨2, ![512, 768]⟩ ⟨2, ![8192, 768]⟩ 0 16 := by decide

/-- An entry that passes the two comparisons is a real number. -/
theorem real_of (a : EReal) (h : IntOp.andi (Ideal.cmp .olt a (Ideal.ofBits .bf16 0x7F80#16)) (Ideal.cmp .ogt a (Ideal.ofBits .bf16 0xFF80#16)) = 1#1) :
    IsReal a := by
  rw [top16, bot16] at h
  have both : ∀ p q : Bool, IntOp.andi (BitVec.ofBool p) (BitVec.ofBool q) = 1#1 → p = true ∧ q = true := by decide
  have hb := both (decide (a < ⊤)) (decide (⊥ < a)) h
  exact IsReal.of_lt (of_decide_eq_true hb.1) (of_decide_eq_true hb.2)

section
variable (m : (ℓ : Loc Cert.KernelIdeal.nD Cert.KernelIdeal.τ Cert.KernelIdeal.sig) → Buf (Elt Ideal) ℓ)
variable (h : Cert.Pre_KernelIdeal_real_scores_KernelIdeal (hPre_real_scores_KernelIdeal := preFacts) m)
variable (c : Dev Cert.KernelIdeal.nD)

theorem x_eq : (XI (V1 m) c).x = m ((c.tc : Thread _ Cert.KernelIdeal.τ).loc Cert.KernelIdeal.main_arg0) := V1_of m c Cert.KernelIdeal.main_arg0 (by decide)
theorem wq_eq : (XI (V1 m) c).wq = m ((c.tc : Thread _ Cert.KernelIdeal.τ).loc Cert.KernelIdeal.main_arg1) := V1_of m c Cert.KernelIdeal.main_arg1 (by decide)
theorem wo_eq : (XI (V1 m) c).wo = m ((c.tc : Thread _ Cert.KernelIdeal.τ).loc Cert.KernelIdeal.main_arg4) := V1_of m c Cert.KernelIdeal.main_arg4 (by decide)

include h

theorem real_x (i : (⟨3, ![2, 512, 768]⟩ : Shape).Idx) : IsReal ((XI (V1 m) c).x i) := by
  rw [x_eq]
  exact real_of _ (congrFun (h c).1 i)
theorem real_wq (i : (⟨2, ![768, 512]⟩ : Shape).Idx) : IsReal ((XI (V1 m) c).wq i) := by
  rw [wq_eq]
  exact real_of _ (congrFun (h c).2.1 i)
theorem real_k (i : (⟨4, ![2, 8, 512, 64]⟩ : Shape).Idx) : IsReal ((XI (V1 m) c).k i) := by
  obtain ⟨b, hh, j, d, rfl⟩ : ∃ (b : Fin 2) (hh : Fin 8) (j : Fin 512) (d : Fin 64), i = ix4 b hh j d := ⟨i 0, i 1, i 2, i 3, eq_ix4 i⟩
  have e : (XI (V1 m) c).k (ix4 b hh j d) = _ := keys_at m c b hh j d
  rw [e]
  exact real_of _ (congrFun (h c).2.2 _)

end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (h : Cert.Pre_KernelIdeal_real_scores_KernelIdeal (hPre_real_scores_KernelIdeal := preFacts) m)
  (hm : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1)) tilesCols
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4)) tilesRows)
include h hm

theorem same : outV (XI (V1 m)) = Cert.ReferenceIdeal.Value.res_main_v44 m' 0 := by
  have C : Cut (XI (V1 m)) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := {
    x := fun c b i e => by rw [x_eq, (hm c).1]
    wq := fun c e q => by
      rw [wq_eq, (hm c).2.1, Layout.block_apply]
      refine congrArg _ (funext fun a => Fin.ext ?_)
      match a with
      | ⟨0, _⟩ => rfl
      | ⟨1, _⟩ => exact congrArg (· + q.val) (Nat.mul_comm c.val 512)
    k := fun c b g j d => by
      rw [← (hm c).2.2.1]; exact keys_at m c b g j d
    v := fun c b g j d => by
      rw [← (hm c).2.2.2.1]; exact vals_at m c b g j d
    wo := fun c e n => by
      rw [wo_eq, (hm c).2.2.2.2, Layout.block_apply]
      refine congrArg _ (funext fun a => Fin.ext ?_)
      match a with
      | ⟨0, _⟩ => exact congrArg (· + e.val) (Nat.mul_comm c.val 512)
      | ⟨1, _⟩ => rfl }
  rw [res_eq]
  exact result_eq C fun c b g i j => score_real _ (real_x m h c) (real_wq m h c) (real_k m h c) b g i j

end

end Cert.Match
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Word
public import proofs.«01_k».proof.Proof.Real
public import Idealize.ShloMosaic.Adequacy
public import Idealize.ShloMosaic.Init

@[expose] public section

noncomputable section

namespace Cert.Proof

open Idealize.ShloMosaic Idealize.SL.Sem Cert.Kernel

theorem frame_word : quiescent_Kernel (hKernel := Cert.Kernel.Gen.facts) := fun m g _ =>
  (θ_run _ _ _).mono (fun _ h => ⟨fun c => (h.1 c).2, h.2⟩) (Cert.Kernel.Word.run m g)

theorem frame_ideal : quiescent_KernelIdeal (hKernelIdeal := Cert.KernelIdeal.Gen.facts) := fun m g _ =>
  (θ_run _ _ _).mono (fun _ h => ⟨fun c => (h.1 c).2, h.2⟩) (Cert.KernelIdeal.Talk.run_main (F := Ideal) m g)

theorem frame_reference : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ideal_pre : quiescent_KernelIdeal_pre_real_scores_KernelIdeal (hKernelIdeal := Cert.KernelIdeal.Gen.facts)
    (hPre_real_scores_KernelIdeal := Cert.Match.preFacts) := fun m g _ => frame_ideal m g trivial

theorem frame_reference_pre : quiescent_ReferenceIdeal_pre_real_scores_ReferenceIdeal (hReferenceIdeal := Cert.ReferenceIdeal.Gen.facts)
    (hPre_real_scores_ReferenceIdeal := Cert.Match.preFacts') := fun m g _ => frame_reference m g trivial

/-- Both programs end with the reference's result. -/
theorem same_result : algebraic_KernelIdeal_ReferenceIdeal_pre_real_scores_KernelIdeal (hKernelIdeal := Cert.KernelIdeal.Gen.facts)
    (hReferenceIdeal := Cert.ReferenceIdeal.Gen.facts) (hPre_real_scores_KernelIdeal := Cert.Match.preFacts) := fun m g m' g' h hm =>
  ⟨Cert.ReferenceIdeal.Value.res_main_v44 m' 0,
    (θ_run _ _ _).mono (fun _ e c => ⟨(e.1 c).1.trans (Cert.Match.same m m' h hm), (e.1 c).2⟩)
      (Cert.KernelIdeal.Talk.run_main (F := Ideal) m g),
    (θ_run Cert.ReferenceIdeal.defs _ _).mono (fun _ e => e 0) (Cert.ReferenceIdeal.Value.run (F := Ideal) m' g')⟩

theorem claim : Cert.Claim := ⟨Cert.Kernel.Gen.facts, Cert.KernelIdeal.Gen.facts, Cert.ReferenceIdeal.Gen.facts,
  Cert.Match.preFacts, Cert.Match.preFacts', frame_word, frame_ideal, frame_ideal_pre, frame_reference, frame_reference_pre,
  IdealRules.named_const.statement Cert.KernelIdeal.κ "mask" .f32 0xCE6E6B28#32 ⊥ rfl, same_result⟩

end Cert.Proof

end
